-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![16, 256, 64]⟩ ⟨3, ![16, 2048, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v52) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S16x256x64 : Shape := ⟨3, ![16, 256, 64]⟩
abbrev S256x512 : Shape := ⟨2, ![256, 512]⟩
abbrev S_ : Shape := ⟨0, ![]⟩
abbrev S8x256x64 : Shape := ⟨3, ![8, 256, 64]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  slices_S16x256x64_S8x256x64_0_0_0 : S16x256x64.Slices ![0, 0, 0] S8x256x64
  bcast_S_S8x256x64 : S_.BroadcastsInDim S8x256x64 (![] : Fin 0 → Fin S8x256x64.rank)
  reducesTo_S8x256x64_S_d0_1_2 : S8x256x64.ReducesTo [0, 1, 2] S_

variable [Facts]

def fn {F : FTy → Type} [FloatOps F] (main_arg0 : FVec F S2x256x512 .bf16) (main_arg1 : FVec F S512x256 .bf16) (main_arg2 : FVec F S16x256x64 .bf16) (main_arg3 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S8x256x64 .bf16 := (extractStridedSlice S8x256x64 ![0, 0, 0] · slices_S16x256x64_S8x256x64_0_0_0) main_arg2
  let main_v12 : FVec F S8x256x64 .f32 := (extf .f32 · bitsLt_bf16_f32) main_v11
  let main_v13 : FVec F S8x256x64 .f32 := Host.absf main_v12
  let main_cst_2 : FVec F S_ .f32 := constant S_ .f32 0x7F800000#32
  let main_v14 : FVec F S8x256x64 .f32 := broadcastInDim S8x256x64 ![] bcast_S_S8x256x64 main_cst_2
  let main_v15 : IVec S8x256x64 1 := cmpf .olt main_v13 main_v14
  let main_c_3 : IVec S_ 1 := constantI S_ 1 1#1
  let main_v16 : IVec S_ 1 := (fun x v => Host.reduce IntOp.andi x v reducesTo_S8x256x64_S_d0_1_2 h_S_) main_v15 main_c_3
  let main_v17 : IVec S_ 1 := andi main_v10 main_v16
  main_v17
-- ==== Pre_finite_ReferenceIdeal.lean ====
abbrev S2x2048x512 : Shape := ⟨3, ![2, 2048, 512]⟩
abbrev S512x256 : Shape := ⟨2, ![512, 256]⟩
abbrev S16x2048x64 : Shape := ⟨3, ![16, 2048, 64]⟩
abbrev S256x512 : Shape := ⟨2, ![256, 512]⟩
abbrev S_ : Shape := ⟨0, ![]⟩
abbrev S8x2048x64 : Shape := ⟨3, ![8, 2048, 64]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  slices_S16x2048x64_S8x2048x64_0_0_0 : S16x2048x64.Slices ![0, 0, 0] S8x2048x64
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn {F : FTy → Type} [FloatOps F] (main_arg0 : FVec F S2x2048x512 .bf16) (main_arg1 : FVec F S512x256 .bf16) (main_arg2 : FVec F S16x2048x64 .bf16) (main_arg3 : FVec F S256x512 .bf16) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S8x2048x64 .bf16 := (extractStridedSlice S8x2048x64 ![0, 0, 0] · slices_S16x2048x64_S8x2048x64_0_0_0) main_arg2
  let main_v12 : FVec F S8x2048x64 .f32 := (extf .f32 · bitsLt_bf16_f32) main_v11
  let main_v13 : FVec F S8x2048x64 .f32 := Host.absf main_v12
  let main_cst_2 : FVec F S_ .f32 := constant S_ .f32 0x7F800000#32
  let main_v14 : FVec F S8x2048x64 .f32 := broadcastInDim S8x2048x64 ![] bcast_S_S8x2048x64 main_cst_2
  let main_v15 : IVec S8x2048x64 1 := cmpf .olt main_v13 main_v14
  let main_c_3 : IVec S_ 1 := constantI S_ 1 1#1
  let main_v16 : IVec S_ 1 := (fun x v => Host.reduce IntOp.andi x v reducesTo_S8x2048x64_S_d0_1_2 h_S_) main_v15 main_c_3
  let main_v17 : IVec S_ 1 := andi main_v10 main_v16
  main_v17
-- ==== Kernel.lean ====
abbrev S2x256x512 : Shape := ⟨3, ![2, 256, 512]⟩
abbrev S512x256 : Shape := ⟨2, ![512, 256]⟩
abbrev S16x256x64 : Shape := ⟨3, ![16, 256, 64]⟩
abbrev S256x512 : Shape := ⟨2, ![256, 512]⟩
abbrev S16x544x64 : Shape := ⟨3, ![16, 544, 64]⟩
abbrev S2x32x256 : Shape := ⟨3, ![2, 32, 256]⟩
abbrev S8x32x128 : Shape := ⟨3, ![8, 32, 128]⟩
abbrev S7x8x32x128 : Shape := ⟨4, ![7, 8, 32, 128]⟩
abbrev S2 : Shape := ⟨1, ![2]⟩
abbrev S7 : Shape := ⟨1, ![7]⟩
abbrev S_ : Shape := ⟨0, ![]⟩
abbrev S1 : Shape := ⟨1, ![1]⟩
abbrev S16x128x64 : Shape := ⟨3, ![16, 128, 64]⟩
abbrev S1x32x512 : Shape := ⟨3, ![1, 32, 512]⟩
abbrev S32x512 : Shape := ⟨2, ![32, 512]⟩
abbrev S32x256 : Shape := ⟨2, ![32, 256]⟩
abbrev S1x32x256 : Shape := ⟨3, ![1, 32, 256]⟩
abbrev S16x32x64 : Shape := ⟨3, ![16, 32, 64]⟩
abbrev S1x256x512 : Shape := ⟨3, ![1, 256, 512]⟩
abbrev S256x256 : Shape := ⟨2, ![256, 256]⟩
abbrev S32x64 : Shape := ⟨2, ![32, 64]⟩
abbrev S1x256x64 : Shape := ⟨3, ![1, 256, 64]⟩
abbrev S256x64 : Shape := ⟨2, ![256, 64]⟩
abbrev S32 : Shape := ⟨1, ![32]⟩
abbrev S32x1 : Shape := ⟨2, ![32, 1]⟩
abbrev S1x32x64 : Shape := ⟨3, ![1, 32, 64]⟩
abbrev S8x32x64 : Shape := ⟨3, ![8, 32, 64]⟩
abbrev S1x32x1 : Shape := ⟨3, ![1, 32, 1]⟩
abbrev S8x32x1 : Shape := ⟨3, ![8, 32, 1]⟩
abbrev S8x32x62 : Shape := ⟨3, ![8, 32, 62]⟩
abbrev S1x8x32x128 : Shape := ⟨4, ![1, 8, 32, 128]⟩
abbrev S256x544 : Shape := ⟨2, ![256, 544]⟩
abbrev S1x544x64 : Shape := ⟨3, ![1, 544, 64]⟩
abbrev S544x64 : Shape := ⟨2, ![544, 64]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S16x256x64, .bf16⟩
  | .hbm, ⟨3, _⟩ => ⟨S256x512, .bf16⟩
  | .hbm, ⟨4, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S16x256x64, .bf16⟩
  | .local _ .vmem, ⟨3, _⟩ => ⟨S256x512, .bf16⟩
  | .local _ .vmem, ⟨4, _⟩ => ⟨S2x256x512, .f32⟩
  | .local _ .vmem, ⟨5, _⟩ => ⟨S16x544x64, .bf16⟩
  | .local _ .vmem, ⟨6, _⟩ => ⟨S2x32x256, .f32⟩
  | .local _ .vmem, ⟨7, _⟩ => ⟨S8x32x128, .f32⟩
  | .local _ .vmem, ⟨8, _⟩ => ⟨S7x8x32x128, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .ne v2 c0_i32
  let v9 : BitVec 32 := Scalar.extui v8
  let c0_i32_5 : BitVec 32 := 0#32
  let v10 : BitVec 1 := Scalar.cmpi .ne v9 c0_i32_5
  v10

def k0_dev1 : Nat :=
  let c0_i32_331 : BitVec 32 := 0#32
  let c0_i32_329 : BitVec 32 := 0#32
  let c1_i32_330 : BitVec 32 := 1#32
  let v467 : BitVec 32 := Scalar.muli c0_i32_329 c1_i32_330
  let v468 : BitVec 32 := Scalar.addi c0_i32_331 v467
  v468.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_7 : BitVec 32 := 1#32
  let v12 : BitVec 32 := Scalar.muli v5 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_10 : BitVec 32 := 1#32
  let v14 : BitVec 32 := Scalar.muli v7 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_14 : BitVec 32 := 1#32
  let v16 : BitVec 32 := Scalar.muli v7 c1_i32_14
  let v17 : BitVec 32 := Scalar.addi c0_i32_15 v16
  v17.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_22 : BitVec 32 := 1#32
  let v24 : BitVec 32 := Scalar.muli v5 c1_i32_22
  let v25 : BitVec 32 := Scalar.addi c0_i32_23 v24
  v25.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v32 : BitVec 1 := Scalar.cmpi .eq v2 c0_i32_29
  let v33 : BitVec 32 := Scalar.extui v32
  let c0_i32_40 : BitVec 32 := 0#32
  let v34 : BitVec 1 := Scalar.cmpi .ne v33 c0_i32_40
  v34

def k0_dev6 : Nat :=
  let c0_i32_356 : BitVec 32 := 0#32
  let c1_i32_354 : BitVec 32 := 1#32
  let c1_i32_355 : BitVec 32 := 1#32
  let v492 : BitVec 32 := Scalar.muli c1_i32_354 c1_i32_355
  let v493 : BitVec 32 := Scalar.addi c0_i32_356 v492
  v493.toNat
def k0_dev7 : Nat :=
  let c0_i32_359 : BitVec 32 := 0#32
  let c2_i32_357 : BitVec 32 := 2#32
  let c1_i32_358 : BitVec 32 := 1#32
  let v496 : BitVec 32 := Scalar.muli c2_i32_357 c1_i32_358
  let v497 : BitVec 32 := Scalar.addi c0_i32_359 v496
  v497.toNat
def k0_dev8 : Nat :=
  let c0_i32_362 : BitVec 32 := 0#32
  let c3_i32_360 : BitVec 32 := 3#32
  let c1_i32_361 : BitVec 32 := 1#32
  let v500 : BitVec 32 := Scalar.muli c3_i32_360 c1_i32_361
  let v501 : BitVec 32 := Scalar.addi c0_i32_362 v500
  v501.toNat
def k0_dev9 : Nat :=
  let c0_i32_365 : BitVec 32 := 0#32
  let c4_i32_363 : BitVec 32 := 4#32
  let c1_i32_364 : BitVec 32 := 1#32
  let v504 : BitVec 32 := Scalar.muli c4_i32_363 c1_i32_364
  let v505 : BitVec 32 := Scalar.addi c0_i32_365 v504
  v505.toNat
def k0_dev10 : Nat :=
  let c0_i32_368 : BitVec 32 := 0#32
  let c5_i32_366 : BitVec 32 := 5#32
  let c1_i32_367 : BitVec 32 := 1#32
  let v508 : BitVec 32 := Scalar.muli c5_i32_366 c1_i32_367
  let v509 : BitVec 32 := Scalar.addi c0_i32_368 v508
  v509.toNat
def k0_dev11 : Nat :=
  let c0_i32_371 : BitVec 32 := 0#32
  let c6_i32_369 : BitVec 32 := 6#32
  let c1_i32_370 : BitVec 32 := 1#32
  let v512 : BitVec 32 := Scalar.muli c6_i32_369 c1_i32_370
  let v513 : BitVec 32 := Scalar.addi c0_i32_371 v512
  v513.toNat
def k0_dev12 : Nat :=
  let c0_i32_374 : BitVec 32 := 0#32
  let c7_i32_372 : BitVec 32 := 7#32
  let c1_i32_373 : BitVec 32 := 1#32
  let v516 : BitVec 32 := Scalar.muli c7_i32_372 c1_i32_373
  let v517 : BitVec 32 := Scalar.addi c0_i32_374 v516
  v517.toNat
def k0_dev13 : Nat :=
  let c0_i32_377 : BitVec 32 := 0#32
  let c1_i32_375 : BitVec 32 := 1#32
  let c1_i32_376 : BitVec 32 := 1#32
  let v520 : BitVec 32 := Scalar.muli c1_i32_375 c1_i32_376
  let v521 : BitVec 32 := Scalar.addi c0_i32_377 v520
  v521.toNat
def k0_dev14 : Nat :=
  let c0_i32_386 : BitVec 32 := 0#32
  let c2_i32_384 : BitVec 32 := 2#32
  let c1_i32_385 : BitVec 32 := 1#32
  let v526 : BitVec 32 := Scalar.muli c2_i32_384 c1_i32_385
  let v527 : BitVec 32 := Scalar.addi c0_i32_386 v526
  v527.toNat
def k0_dev15 : Nat :=
  let c0_i32_395 : BitVec 32 := 0#32
  let c3_i32_393 : BitVec 32 := 3#32
  let c1_i32_394 : BitVec 32 := 1#32
  let v532 : BitVec 32 := Scalar.muli c3_i32_393 c1_i32_394
  let v533 : BitVec 32 := Scalar.addi c0_i32_395 v532
  v533.toNat
def k0_dev16 : Nat :=
  let c0_i32_404 : BitVec 32 := 0#32
  let c4_i32_402 : BitVec 32 := 4#32
  let c1_i32_403 : BitVec 32 := 1#32
  let v538 : BitVec 32 := Scalar.muli c4_i32_402 c1_i32_403
  let v539 : BitVec 32 := Scalar.addi c0_i32_404 v538
  v539.toNat
def k0_dev17 : Nat :=
  let c0_i32_413 : BitVec 32 := 0#32
  let c5_i32_411 : BitVec 32 := 5#32
  let c1_i32_412 : BitVec 32 := 1#32
  let v544 : BitVec 32 := Scalar.muli c5_i32_411 c1_i32_412
  let v545 : BitVec 32 := Scalar.addi c0_i32_413 v544
  v545.toNat
def k0_dev18 : Nat :=
  let c0_i32_422 : BitVec 32 := 0#32
  let c6_i32_420 : BitVec 32 := 6#32
  let c1_i32_421 : BitVec 32 := 1#32
  let v550 : BitVec 32 := Scalar.muli c6_i32_420 c1_i32_421
  let v551 : BitVec 32 := Scalar.addi c0_i32_422 v550
  v551.toNat
def k0_dev19 : Nat :=
  let c0_i32_431 : BitVec 32 := 0#32
  let c7_i32_429 : BitVec 32 := 7#32
  let c1_i32_430 : BitVec 32 := 1#32
  let v556 : BitVec 32 := Scalar.muli c7_i32_429 c1_i32_430
  let v557 : BitVec 32 := Scalar.addi c0_i32_431 v556
  v557.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_135 : BitVec 32 := 0#32
  let v214 : BitVec 1 := Scalar.cmpi .ne v2 c0_i32_135
  let v215 : BitVec 32 := Scalar.extui v214
  let c0_i32_136 : BitVec 32 := 0#32
  let v216 : BitVec 1 := Scalar.cmpi .ne v215 c0_i32_136
  v216

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_134 : BitVec 32 := 1#32
  let v213 : BitVec 32 := Scalar.subi v2 c1_i32_134
  ![v213.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v212 : BitVec 32 := Scalar.subi v2 c1_i32_133
  let c0_i32_335 : BitVec 32 := 0#32
  let c0_i32_336 : BitVec 32 := 0#32
  let c0_i32_337 : BitVec 32 := 0#32
  ![v212.toNat, 0, 0, 0]
def k0_dev20 : Nat :=
  let c0_i32_334 : BitVec 32 := 0#32
  let c0_i32_332 : BitVec 32 := 0#32
  let c1_i32_333 : BitVec 32 := 1#32
  let v472 : BitVec 32 := Scalar.muli c0_i32_332 c1_i32_333
  let v473 : BitVec 32 := Scalar.addi c0_i32_334 v472
  v473.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_326 : BitVec 32 := 0#32
  let v464 : BitVec 1 := Scalar.cmpi .ne v2 c0_i32_326
  let v465 : BitVec 32 := Scalar.extui v464
  let c0_i32_327 : BitVec 32 := 0#32
  let v466 : BitVec 1 := Scalar.cmpi .ne v465 c0_i32_327
  v466

def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v212 : BitVec 32 := Scalar.subi v2 c1_i32_133
  let c0_i32_330 : BitVec 32 := 0#32
  let c0_i32_331 : BitVec 32 := 0#32
  let c0_i32_332 : BitVec 32 := 0#32
  ![v212.toNat, 0, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S16x2048x64 : Shape := ⟨3, ![16, 2048, 64]⟩
abbrev S256x512 : Shape := ⟨2, ![256, 512]⟩
abbrev S8x2048x64 : Shape := ⟨3, ![8, 2048, 64]⟩
abbrev S2x4x2048x64 : Shape := ⟨4, ![2, 4, 2048, 64]⟩
abbrev S2x2048x4x64 : Shape := ⟨4, ![2, 2048, 4, 64]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S16x2048x64, .bf16⟩
  | .hbm, ⟨3, _⟩ => ⟨S256x512, .bf16⟩
  | .hbm, ⟨4, _⟩ => ⟨S2x2048x512, .f32⟩
  | .hbm, ⟨5, _⟩ => ⟨S512x256, .f32⟩
  | .hbm, ⟨6, _⟩ => ⟨S16x2048x64, .f32⟩
  | .hbm, ⟨7, _⟩ => ⟨S256x512, .f32⟩
  | .hbm, ⟨8, _⟩ => ⟨S8x2048x64, .f32⟩
  | .hbm, ⟨9, _⟩ => ⟨S2x4x2048x64, .f32⟩
  | .hbm, ⟨10, _⟩ => ⟨S2x2048x4x64, .f32⟩
  | .hbm, ⟨11, _⟩ => ⟨S8x2048x64, .f32⟩
  | .hbm, ⟨12, _⟩ => ⟨S2x4x2048x64, .f32⟩
  | .hbm, ⟨13, _⟩ => ⟨S2x2048x4x64, .f32⟩
  | .hbm, ⟨14, _⟩ => ⟨S2x2048x256, .f32⟩
  | .hbm, ⟨15, _⟩ => ⟨S2x2048x4x64, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S1x2048, .i32⟩
  | .hbm, ⟨29, _⟩ => ⟨S1x2048, .i1⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S2048x2048, .i1⟩
  | .hbm, ⟨34, _⟩ => ⟨S2048x2048, .i1⟩
  | .hbm, ⟨35, _⟩ => ⟨S2048x2048, .i1⟩
  | .hbm, ⟨36, _⟩ => ⟨S2048x2048, .i1⟩
  | .hbm, ⟨37, _⟩ => ⟨S2x4x2048x2048, .f32⟩
  | .hbm, ⟨38, _⟩ => ⟨S_, .f32⟩
  | .hbm, ⟨39, _⟩ => ⟨S2x4x2048x2048, .f32⟩
  | .hbm, ⟨40, _⟩ => ⟨S2x4x2048x2048, .f32⟩
  | .hbm, ⟨41, _⟩ => ⟨S1x1x2048x2048, .i1⟩
  | .hbm, ⟨42, _⟩ => ⟨S_, .f32⟩
  | .hbm, ⟨43, _⟩ => ⟨S_, .f32⟩
  | .hbm, ⟨44, _⟩ => ⟨S2x4x2048x2048, .i1⟩
  | .hbm, ⟨45, _⟩ => ⟨S2x4x2048x2048, .f32⟩
  | .hbm, ⟨46, _⟩ => ⟨S2x4x2048x2048, .f32⟩
  | .hbm, ⟨47, _⟩ => ⟨S_, .f32⟩
  | .hbm, ⟨48, _⟩ => ⟨S2x4x2048, .f32⟩
  | .hbm, ⟨49, _⟩ => ⟨S2x4x2048x1, .f32⟩
  | .hbm, ⟨50, _⟩ => ⟨S2x4x2048x2048, .f32⟩
  | .hbm, ⟨51, _⟩ => ⟨S2x4x2048x2048, .f32⟩
  | .hbm, ⟨52, _⟩ => ⟨S2x4x2048x2048, .f32⟩
  | .hbm, ⟨53, _⟩ => ⟨S_, .i1⟩
  | .hbm, ⟨54, _⟩ => ⟨S2048, .i1⟩
  | .hbm, ⟨55, _⟩ => ⟨S1x1x2048x1, .i1⟩
  | .hbm, ⟨56, _⟩ => ⟨S_, .f32⟩
  | .hbm, ⟨57, _⟩ => ⟨S2x4x2048, .f32⟩
  | .hbm, ⟨58, _⟩ => ⟨S2x4x2048x1, .f32⟩
  | .hbm, ⟨59, _⟩ => ⟨S_, .f32⟩
  | .hbm, ⟨60, _⟩ => ⟨S_, .f32⟩
  | .hbm, ⟨61, _⟩ => ⟨S2x4x2048x1, .i1⟩
  | .hbm, ⟨62, _⟩ => ⟨S2x4x2048x1, .f32⟩
  | .hbm, ⟨63, _⟩ => ⟨S2x4x2048x1, .f32⟩
  | .hbm, ⟨64, _⟩ => ⟨S2x4x2048x2048, .f32⟩
  | .hbm, ⟨65, _⟩ => ⟨S2x4x2048x2048, .f32⟩
  | .hbm, ⟨66, _⟩ => ⟨S1x1x2048x1, .i1⟩
  | .hbm, ⟨67, _⟩ => ⟨S_, .f32⟩
  | .hbm, ⟨68, _⟩ => ⟨S_, .f32⟩
  | .hbm, ⟨69, _⟩ => ⟨S2x4x2048x2048, .i1⟩
  | .hbm, ⟨70, _⟩ => ⟨S2x4x2048x2048, .f32⟩
  | .hbm, ⟨71, _⟩ => ⟨S2x4x2048x2048, .f32⟩
  | .hbm, ⟨72, _⟩ => ⟨S2x4x64x2048, .f32⟩
  | .hbm, ⟨73, _⟩ => ⟨S2x2048x4x64, .f32⟩
  | .hbm, ⟨74, _⟩ => ⟨S2x2048x256, .f32⟩
  | .hbm, ⟨75, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Protocol.lean ====
/-
# The protocol of the sliding-window attention kernel on eight devices

Who signals whom, who copies what to whom, and what each semaphore's credit hands over.

* The runtime's barrier cell of a device gets one unit from each ring neighbour. Each unit hands over the stretch of
  the neighbour's key/value buffer into which this device copies a halo.
* The gate cell of device 0 gets one unit from every other device; each hands over that device's query buffer and the
  stretch of its key/value buffer that receives the global keys.
* A halo receive cell gets one transfer from the ring neighbour and hands over the stretch, filled.
* The query receive cell of a device other than 0 gets device 0's queries, together with the slot of device 0's
  partial buffer into which the device will copy; the global receive cell gets device 0's first 32 keys and values.
* The partial receive cells of device 0 get the partial results of the seven other devices.
* A send cell hands its source back.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy of the rounds and this kernel's, whose duties are named by `Fin 8` -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The device before `c` in the ring. -/
def lp (c : Dev nD) : Dev nD := ⟨(c.val + 7) % 8, Nat.mod_lt _ (by decide)⟩
set_option backward.proofsInPublic true in
/-- The device after `c` in the ring. -/
def rp (c : Dev nD) : Dev nD := ⟨(c.val + 1) % 8, Nat.mod_lt _ (by decide)⟩

theorem lp_rp (c : Dev nD) : lp (rp c) = c := by revert c; decide
theorem rp_lp (c : Dev nD) : rp (lp c) = c := by revert c; decide

/-- The device other than 0 that owns slot `i` of device 0's partial buffer. -/
def devOf (i : Fin 7) : Dev nD := ⟨i.val + 1, by have := i.isLt; show i.val + 1 < 8; omega⟩
/-- The slot of device 0's partial buffer that device `c` fills. -/
def slotOf (c : Dev nD) : Fin 7 := ⟨(c.val + 6) % 7, Nat.mod_lt _ (by decide)⟩

theorem slotOf_devOf (i : Fin 7) : slotOf (devOf i) = i := by revert i; decide
theorem devOf_slotOf (c : Dev nD) (h : c ≠ 0) : devOf (slotOf c) = c := by revert c; decide

/-! ## The buffers -/

abbrev kvM : Memref sig .tc .vmem S16x256x64 .bf16 := Memref.whole cc0_stg2_0
abbrev kcM : Memref sig .tc .vmem S16x544x64 .bf16 := Memref.whole cc0_scratch0
abbrev q0M : Memref sig .tc .vmem S2x32x256 .f32 := Memref.whole cc0_scratch1
abbrev psM : Memref sig .tc .vmem S8x32x128 .f32 := Memref.whole cc0_scratch2
abbrev prM : Memref sig .tc .vmem S7x8x32x128 .f32 := Memref.whole cc0_scratch3

abbrev kvHi : Memref sig .tc .vmem S16x128x64 .bf16 := kvM.slice (Rect.unit (s := S16x256x64) ![0, 128, 0] S16x128x64.size inb_S16x256x64_S16x128x64_0_128_0) (fun _ => rfl)
abbrev kvLo : Memref sig .tc .vmem S16x128x64 .bf16 := kvM.slice (Rect.unit (s := S16x256x64) ![0, 0, 0] S16x128x64.size inb_S16x256x64_S16x128x64_0_0_0) (fun _ => rfl)
abbrev kvG : Memref sig .tc .vmem S16x32x64 .bf16 := kvM.slice (Rect.unit (s := S16x256x64) ![0, 0, 0] S16x32x64.size inb_S16x256x64_S16x32x64_0_0_0) (fun _ => rfl)
abbrev kcO : Memref sig .tc .vmem S16x256x64 .bf16 := kcM.slice (Rect.unit (s := S16x544x64) ![0, 0, 0] S16x256x64.size inb_S16x544x64_S16x256x64_0_0_0) (fun _ => rfl)
abbrev kcA : Memref sig .tc .vmem S16x128x64 .bf16 := kcM.slice (Rect.unit (s := S16x544x64) ![0, 256, 0] S16x128x64.size inb_S16x544x64_S16x128x64_0_256_0) (fun _ => rfl)
abbrev kcB : Memref sig .tc .vmem S16x128x64 .bf16 := kcM.slice (Rect.unit (s := S16x544x64) ![0, 384, 0] S16x128x64.size inb_S16x544x64_S16x128x64_0_384_0) (fun _ => rfl)
abbrev kcG : Memref sig .tc .vmem S16x32x64 .bf16 := kcM.slice (Rect.unit (s := S16x544x64) ![0, 512, 0] S16x32x64.size inb_S16x544x64_S16x32x64_0_512_0) (fun _ => rfl)

theorem slot_inb (i : Fin 7) : ∀ a, (![i.val, 0, 0, 0] : Fin 4 → ℕ) a + S1x8x32x128.size a ≤ S7x8x32x128.size a := by revert i; decide
/-- Slot `i` of the partial buffer. -/
abbrev prS (i : Fin 7) : Memref sig .tc .vmem S8x32x128 .f32 :=
  (prM.slice (Rect.unit (s := S7x8x32x128) ![i.val, 0, 0, 0] S1x8x32x128.size (slot_inb i)) (fun _ => rfl)).squeeze S8x32x128 squeezes_S1x8x32x128_S8x32x128

/-! ## The values -/

/-- Device `c`'s block of `x`, of the query weights, of the packed keys and values, of the output weights. -/
def xs (c : Dev nD) : (cc0_stg0_0 : Ref sig .tc).ty.Contents (Elt F) := (win0_0.blk (0 : Fin 1)).view.read (Elt F) (m ((c : Thread nD τ).loc main_arg0))
def wqs (c : Dev nD) : (cc0_stg1_0 : Ref sig .tc).ty.Contents (Elt F) := (win0_1.blk (0 : Fin 1)).view.read (Elt F) (m ((c : Thread nD τ).loc main_arg1))
def kvs (c : Dev nD) : (cc0_stg2_0 : Ref sig .tc).ty.Contents (Elt F) := (win0_2.blk (0 : Fin 1)).view.read (Elt F) (m ((c : Thread nD τ).loc main_arg2))
def wos (c : Dev nD) : (cc0_stg3_0 : Ref sig .tc).ty.Contents (Elt F) := (win0_3.blk (0 : Fin 1)).view.read (Elt F) (m ((c : Thread nD τ).loc main_arg3))

abbrev xM : Memref sig .tc .vmem S2x256x512 .bf16 := Memref.whole cc0_stg0_0
abbrev wqM : Memref sig .tc .vmem S512x256 .bf16 := Memref.whole cc0_stg1_0
abbrev woM : Memref sig .tc .vmem S256x512 .bf16 := Memref.whole cc0_stg3_0
abbrev oM : Memref sig .tc .vmem S2x256x512 .f32 := Memref.whole cc0_stg4_0

/-- The parts of the buffers that the kernel loads: rows 0–31 of batch `b` of `x`; the weights; head `h` of the packed keys
    and values (heads 8–15 are the values); batch `b` of the queries. -/
abbrev ldX32 (f : (cc0_stg0_0 : Ref sig .tc).ty.Contents (Elt F)) (b : ℕ) (hb : ∀ a, (![b, 0, 0] : Fin 3 → ℕ) a + S1x32x512.size a ≤ S2x256x512.size a) : Vec F S1x32x512 .bf16 :=
  xM.view.readAt (Elt F) (Rect.unit (s := S2x256x512) ![b, 0, 0] S1x32x512.size hb).toLoadRect f
abbrev ldX (f : (cc0_stg0_0 : Ref sig .tc).ty.Contents (Elt F)) (b : ℕ) (hb : ∀ a, (![b, 0, 0] : Fin 3 → ℕ) a + S1x256x512.size a ≤ S2x256x512.size a) : Vec F S1x256x512 .bf16 :=
  xM.view.readAt (Elt F) (Rect.unit (s := S2x256x512) ![b, 0, 0] S1x256x512.size hb).toLoadRect f
abbrev ldWq (f : (cc0_stg1_0 : Ref sig .tc).ty.Contents (Elt F)) : Vec F S512x256 .bf16 :=
  wqM.view.readAt (Elt F) (Rect.unit (s := S512x256) ![0, 0] S512x256.size inb_S512x256_S512x256_0_0).toLoadRect f
abbrev ldWo (f : (cc0_stg3_0 : Ref sig .tc).ty.Contents (Elt F)) : Vec F S256x512 .bf16 :=
  woM.view.readAt (Elt F) (Rect.unit (s := S256x512) ![0, 0] S256x512.size inb_S256x512_S256x512_0_0).toLoadRect f
abbrev ldK (f : (cc0_stg2_0 : Ref sig .tc).ty.Contents (Elt F)) (h : ℕ) (hh : ∀ a, (![h, 0, 0] : Fin 3 → ℕ) a + S1x256x64.size a ≤ S16x256x64.size a) : Vec F S1x256x64 .bf16 :=
  kvM.view.readAt (Elt F) (Rect.unit (s := S16x256x64) ![h, 0, 0] S1x256x64.size hh).toLoadRect f
abbrev ldQ (f : (cc0_scratch1 : Ref sig .tc).ty.Contents (Elt F)) (b : ℕ) (hb : ∀ a, (![b, 0, 0] : Fin 3 → ℕ) a + S1x32x256.size a ≤ S2x32x256.size a) : Vec F S1x32x256 .f32 :=
  q0M.view.readAt (Elt F) (Rect.unit (s := S2x32x256) ![b, 0, 0] S1x32x256.size hb).toLoadRect f
abbrev ldC (f : (cc0_scratch0 : Ref sig .tc).ty.Contents (Elt F)) (h : ℕ) (hh : ∀ a, (![h, 0, 0] : Fin 3 → ℕ) a + S1x544x64.size a ≤ S16x544x64.size a) : Vec F S1x544x64 .bf16 :=
  kcM.view.readAt (Elt F) (Rect.unit (s := S16x544x64) ![h, 0, 0] S1x544x64.size hh).toLoadRect f
abbrev ldP (f : (cc0_scratch3 : Ref sig .tc).ty.Contents (Elt F)) (i : ℕ) (hi : ∀ a, (![i, 0, 0, 0] : Fin 4 → ℕ) a + S1x8x32x128.size a ≤ S7x8x32x128.size a) : Vec F S1x8x32x128 .f32 :=
  prM.view.readAt (Elt F) (Rect.unit (s := S7x8x32x128) ![i, 0, 0, 0] S1x8x32x128.size hi).toLoadRect f

/-- The queries of the first 32 rows, computed by device 0 from its block of `x`: one payload per batch. -/
def q0F (c : Dev nD) : (cc0_scratch1 : Ref sig .tc).ty.Contents (Elt F) := fun i =>
  if (i 0).val = 0 then k0_pay1 (ldX32 (xs m c) 0 inb_S2x256x512_S1x32x512_0_0_0) (ldWq (wqs m c)) (fun a => match a with | ⟨0, _⟩ => (0 : Fin 1) | ⟨1, _⟩ => i 1 | ⟨2, _⟩ => i 2)
  else k0_pay2 (ldX32 (xs m c) 1 inb_S2x256x512_S1x32x512_1_0_0) (ldWq (wqs m c)) (fun a => match a with | ⟨0, _⟩ => (0 : Fin 1) | ⟨1, _⟩ => i 1 | ⟨2, _⟩ => i 2)

section Partial
variable (q : (cc0_scratch1 : Ref sig .tc).ty.Contents (Elt F)) (kv : (cc0_stg2_0 : Ref sig .tc).ty.Contents (Elt F))

/-! The partial attention of the queries `q` over the keys and values `kv`, as the kernel's parts compute it: for each
    of the eight (batch, head) pairs the row maxima, the row sums and the weighted values. -/

abbrev p59 : Vec F S1x32x256 .f32 := ldQ q 0 inb_S2x32x256_S1x32x256_0_0_0
abbrev p122 : Vec F S1x32x256 .f32 := ldQ q 1 inb_S2x32x256_S1x32x256_1_0_0
abbrev p61 : FVec F S32x256 .bf16 := k0_pay29 (p59 q)
abbrev p67 : FVec F S32x1 .f32 := k0_pay31 (p59 q) (ldK kv 0 inb_S16x256x64_S1x256x64_0_0_0)
abbrev p72 : FVec F S32x1 .f32 := k0_pay33 (p59 q) (ldK kv 0 inb_S16x256x64_S1x256x64_0_0_0)
abbrev p76 : FVec F S32x64 .f32 := k0_pay34 (p59 q) (ldK kv 0 inb_S16x256x64_S1x256x64_0_0_0) (ldK kv 8 inb_S16x256x64_S1x256x64_8_0_0)
abbrev p77 : FVec F S32x64 .bf16 := k0_pay35 (p59 q)
abbrev p82 : FVec F S32x1 .f32 := k0_pay37 (p77 q) (ldK kv 1 inb_S16x256x64_S1x256x64_1_0_0)
abbrev p87 : FVec F S32x1 .f32 := k0_pay39 (p77 q) (ldK kv 1 inb_S16x256x64_S1x256x64_1_0_0)
abbrev p91 : FVec F S32x64 .f32 := k0_pay40 (p77 q) (ldK kv 1 inb_S16x256x64_S1x256x64_1_0_0) (ldK kv 9 inb_S16x256x64_S1x256x64_9_0_0)
abbrev p97 : FVec F S32x1 .f32 := k0_pay42 (p61 q) (ldK kv 2 inb_S16x256x64_S1x256x64_2_0_0)
abbrev p102 : FVec F S32x1 .f32 := k0_pay44 (p61 q) (ldK kv 2 inb_S16x256x64_S1x256x64_2_0_0)
abbrev p106 : FVec F S32x64 .f32 := k0_pay45 (p61 q) (ldK kv 2 inb_S16x256x64_S1x256x64_2_0_0) (ldK kv 10 inb_S16x256x64_S1x256x64_10_0_0)
abbrev p112 : FVec F S32x1 .f32 := k0_pay47 (p61 q) (ldK kv 3 inb_S16x256x64_S1x256x64_3_0_0)
abbrev p115 : FVec F S32x256 .f32 := k0_pay48 (p61 q) (ldK kv 3 inb_S16x256x64_S1x256x64_3_0_0)
abbrev p117 : FVec F S32x1 .f32 := k0_pay49 (p115 q kv)
abbrev p121 : FVec F S32x64 .f32 := k0_pay50 (p115 q kv) (ldK kv 11 inb_S16x256x64_S1x256x64_11_0_0)
abbrev p124 : FVec F S32x256 .bf16 := k0_pay51 (p122 q)
abbrev p130 : FVec F S32x1 .f32 := k0_pay53 (p122 q) (ldK kv 4 inb_S16x256x64_S1x256x64_4_0_0)
abbrev p135 : FVec F S32x1 .f32 := k0_pay55 (p122 q) (ldK kv 4 inb_S16x256x64_S1x256x64_4_0_0)
abbrev p139 : FVec F S32x64 .f32 := k0_pay56 (p122 q) (ldK kv 4 inb_S16x256x64_S1x256x64_4_0_0) (ldK kv 12 inb_S16x256x64_S1x256x64_12_0_0)
abbrev p145 : FVec F S32x1 .f32 := k0_pay58 (p122 q) (ldK kv 5 inb_S16x256x64_S1x256x64_5_0_0)
abbrev p150 : FVec F S32x1 .f32 := k0_pay60 (p122 q) (ldK kv 5 inb_S16x256x64_S1x256x64_5_0_0)
abbrev p151 : FVec F S32x256 .bf16 := k0_pay61 (p122 q) (ldK kv 5 inb_S16x256x64_S1x256x64_5_0_0)
abbrev p154 : FVec F S32x64 .f32 := k0_pay62 (p151 q kv) (ldK kv 13 inb_S16x256x64_S1x256x64_13_0_0)
abbrev p160 : FVec F S32x1 .f32 := k0_pay64 (p124 q) (ldK kv 6 inb_S16x256x64_S1x256x64_6_0_0)
abbrev p165 : FVec F S32x1 .f32 := k0_pay66 (p124 q) (ldK kv 6 inb_S16x256x64_S1x256x64_6_0_0)
abbrev p169 : FVec F S32x64 .f32 := k0_pay67 (p124 q) (ldK kv 6 inb_S16x256x64_S1x256x64_6_0_0) (ldK kv 14 inb_S16x256x64_S1x256x64_14_0_0)
abbrev p175 : FVec F S32x1 .f32 := k0_pay69 (p124 q) (ldK kv 7 inb_S16x256x64_S1x256x64_7_0_0)
abbrev p180 : FVec F S32x1 .f32 := k0_pay71 (p124 q) (ldK kv 7 inb_S16x256x64_S1x256x64_7_0_0)
abbrev p184 : FVec F S32x64 .f32 := k0_pay72 (p124 q) (ldK kv 7 inb_S16x256x64_S1x256x64_7_0_0) (ldK kv 15 inb_S16x256x64_S1x256x64_15_0_0)
abbrev p185 : FVec F S1x32x64 .f32 := k0_pay73 (p76 q kv)
abbrev p186 : FVec F S1x32x64 .f32 := k0_pay74 (p91 q kv)
abbrev p187 : FVec F S1x32x64 .f32 := k0_pay75 (p106 q kv)

/-- The weighted values, the row maxima and the row sums of the partial attention. -/
def pO : FVec F S8x32x64 .f32 := k0_pay76 (p121 q kv) (p139 q kv) (p154 q kv) (p169 q kv) (p184 q kv) (p185 q kv) (p186 q kv) (p187 q kv)
def pM : FVec F S8x32x1 .f32 := k0_pay77 (p67 q kv) (p82 q kv) (p97 q kv) (p112 q kv) (p130 q kv) (p145 q kv) (p160 q kv) (p175 q kv)
def pL : FVec F S8x32x1 .f32 := k0_pay78 (p72 q kv) (p87 q kv) (p102 q kv) (p117 q kv) (p135 q kv) (p150 q kv) (p165 q kv) (p180 q kv)
/-- The three packed into one block of 128 lanes, as a device sends them. -/
def pAll : FVec F S8x32x128 .f32 :=
  k0_pay79 (p67 q kv) (p72 q kv) (p82 q kv) (p87 q kv) (p97 q kv) (p102 q kv) (p112 q kv) (p117 q kv) (p121 q kv) (p130 q kv) (p135 q kv) (p139 q kv)
    (p145 q kv) (p150 q kv) (p154 q kv) (p160 q kv) (p165 q kv) (p169 q kv) (p175 q kv) (p180 q kv) (p184 q kv) (p185 q kv) (p186 q kv) (p187 q kv)

end Partial

set_option backward.proofsInPublic true in
/-- An index of the packed keys and values from its head, its column and its lane. -/
def ixK {n : ℕ} (h : Fin 16) (j : ℕ) (d : Fin 64) (hj : j < n) : (⟨3, ![16, n, 64]⟩ : Shape).Idx :=
  fun a => match a with | ⟨0, _⟩ => h | ⟨1, _⟩ => ⟨j, hj⟩ | ⟨2, _⟩ => d

/-- The gathered keys and values of device `c`: its own 256 columns, the last 128 of the device before it, the first 128 of
    the device after it, and the first 32 of device 0. -/
def kcF (c : Dev nD) : (cc0_scratch0 : Ref sig .tc).ty.Contents (Elt F) := fun i =>
  if h1 : (i 1).val < 256 then kvs m c (ixK (n := 256) (i 0) (i 1).val (i 2) h1)
  else if h2 : (i 1).val < 384 then kvs m (lp c) (ixK (n := 256) (i 0) ((i 1).val - 128) (i 2) (by omega))
  else if h3 : (i 1).val < 512 then kvs m (rp c) (ixK (n := 256) (i 0) ((i 1).val - 384) (i 2) (by omega))
  else kvs m 0 (ixK (n := 256) (i 0) ((i 1).val - 512) (i 2) (by have : (i 1).val < 544 := (i 1).isLt; omega))

/-- The partial results of the seven other devices, slot by slot. -/
def prF : (cc0_scratch3 : Ref sig .tc).ty.Contents (Elt F) := fun i =>
  pAll (q0F m 0) (kvs m (devOf (i 0))) (fun a => match a with | ⟨0, _⟩ => i 1 | ⟨1, _⟩ => i 2 | ⟨2, _⟩ => i 3)

/-! ## The cells -/

/-- The semaphore cells of a device that the kernel uses. -/
inductive Cell where
  | bar | gate | hs (i : Fin 2) | hr (i : Fin 2) | gs (i : Fin 7) | qs (i : Fin 7) | ps | gr | qr | pr (i : Fin 7)
deriving DecidableEq

/-- All thirty cells. -/
def Cell.all : List Cell := [.bar, .gate, .hs 0, .hs 1, .hr 0, .hr 1, .gs 0, .gs 1, .gs 2, .gs 3, .gs 4, .gs 5, .gs 6,
  .qs 0, .qs 1, .qs 2, .qs 3, .qs 4, .qs 5, .qs 6, .ps, .gr, .qr, .pr 0, .pr 1, .pr 2, .pr 3, .pr 4, .pr 5, .pr 6]

theorem Cell.mem_all (k : Cell) : k ∈ Cell.all := by
  cases k with
  | bar => decide
  | gate => decide
  | ps => decide
  | gr => decide
  | qr => decide
  | hs i => revert i; decide
  | hr i => revert i; decide
  | gs i => revert i; decide
  | qs i => revert i; decide
  | pr i => revert i; decide

instance : Fintype Cell := ⟨Cell.all.toFinset, fun k => List.mem_toFinset.mpr k.mem_all⟩

/-- The runtime's barrier semaphore. -/
abbrev barS : Sem sig := (SemArray.scalar (sig.barrier 0 rfl) : Sems sig S_).sem

set_option backward.proofsInPublic true in
/-- The semaphore of a cell. -/
def csem : Cell → SemLoc sig
  | .bar => .reg barS
  | .gate => .reg (⟨0, by decide⟩ : Fin 2)
  | .hs i => .dma (⟨5 + i.val, by have := i.isLt; show _ < 33; omega⟩ : Fin 33)
  | .hr i => .dma (⟨7 + i.val, by have := i.isLt; show _ < 33; omega⟩ : Fin 33)
  | .gs i => .dma (⟨9 + i.val, by have := i.isLt; show _ < 33; omega⟩ : Fin 33)
  | .qs i => .dma (⟨16 + i.val, by have := i.isLt; show _ < 33; omega⟩ : Fin 33)
  | .ps => .dma (⟨23, by decide⟩ : Fin 33)
  | .gr => .dma (⟨24, by decide⟩ : Fin 33)
  | .qr => .dma (⟨25, by decide⟩ : Fin 33)
  | .pr i => .dma (⟨26 + i.val, by have := i.isLt; show _ < 33; omega⟩ : Fin 33)

/-- The cell of a semaphore, if it is one of the kernel's. -/
def ofSem (s : SemLoc sig) : Option Cell := Cell.all.find? fun k => decide (csem k = s)

theorem ofSem_csem (k : Cell) : ofSem (csem k) = some k := by
  have h : ∀ k ∈ Cell.all, ofSem (csem k) = some k := by decide +kernel
  exact h k k.mem_all

abbrev kcell (ck : Dev nD × Cell) : GSem nD τ sig := ((ck.1 : Thread nD τ), csem ck.2)

theorem csem_injective : Function.Injective csem := fun a b h => by
  have := congrArg ofSem h; rw [ofSem_csem, ofSem_csem] at this; exact Option.some.inj this

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

/-- What a transfer onto a cell, or a signal to it, credits it with. -/
def amt : Cell → ℕ
  | .bar => 1
  | .gate => 1
  | .hs _ => kcA.view.dmaCredit
  | .hr _ => kcA.view.dmaCredit
  | .gs _ => kcG.view.dmaCredit
  | .gr => kcG.view.dmaCredit
  | .qs _ => q0M.view.dmaCredit
  | .qr => q0M.view.dmaCredit
  | .ps => psM.view.dmaCredit
  | .pr _ => psM.view.dmaCredit

theorem amt_pos (k : Cell) : 0 < amt k := by
  cases k <;> first | exact Nat.one_pos | exact View.dmaCredit_pos _ (by decide)

/-- The duties of device `c`'s cell: the barrier's two, the gate's seven (device 0's alone), one of a used transfer cell. -/
def dut (c : Dev nD) : Cell → Finset (Fin 8)
  | .bar => {0, 1}
  | .gate => if c = 0 then {1, 2, 3, 4, 5, 6, 7} else ∅
  | .hs _ => {0}
  | .hr _ => {0}
  | .gs _ => if c = 0 then {0} else ∅
  | .qs _ => if c = 0 then {0} else ∅
  | .pr _ => if c = 0 then {0} else ∅
  | .ps => if c = 0 then ∅ else {0}
  | .gr => if c = 0 then ∅ else {0}
  | .qr => if c = 0 then ∅ else {0}

/-! ## What the buffers hold -/

/-- Columns 256–383, 384–511, 512–543 of device `c`'s key/value buffer; its query buffer; its packed partial; a slot of its partial buffer. -/
def aPts (c : Dev nD) (f : Buf (Elt F) (kcA.view.loc (c : Thread nD τ))) : sProp 𝕄 := kcA.view.loc (c : Thread nD τ) ↦[kcA.view.set]{fullShare} f
def bPts (c : Dev nD) (f : Buf (Elt F) (kcB.view.loc (c : Thread nD τ))) : sProp 𝕄 := kcB.view.loc (c : Thread nD τ) ↦[kcB.view.set]{fullShare} f
def gPts (c : Dev nD) (f : Buf (Elt F) (kcG.view.loc (c : Thread nD τ))) : sProp 𝕄 := kcG.view.loc (c : Thread nD τ) ↦[kcG.view.set]{fullShare} f
def qPts (c : Dev nD) (f : Buf (Elt F) (q0M.view.loc (c : Thread nD τ))) : sProp 𝕄 := q0M.view.loc (c : Thread nD τ) ↦[q0M.view.set]{fullShare} f
def psPts (c : Dev nD) (f : Buf (Elt F) (psM.view.loc (c : Thread nD τ))) : sProp 𝕄 := psM.view.loc (c : Thread nD τ) ↦[psM.view.set]{fullShare} f
def prPts (c : Dev nD) (i : Fin 7) (f : Buf (Elt F) ((prS i).view.loc (c : Thread nD τ))) : sProp 𝕄 := (prS i).view.loc (c : Thread nD τ) ↦[(prS i).view.set]{fullShare} f
/-- The sources: the last and the first 128 columns of device `c`'s keys and values at the left half of its share; the first
    32 at leaf `i` of a quarter; its queries at leaf `i` of its share. -/
def hiPts (c : Dev nD) : sProp 𝕄 := kvHi.view.loc (c : Thread nD τ) ↦[kvHi.view.set]{fullShare.left} kvs m c
def loPts (c : Dev nD) : sProp 𝕄 := kvLo.view.loc (c : Thread nD τ) ↦[kvLo.view.set]{fullShare.left} kvs m c
def gsPts (c : Dev nD) (i : Fin 8) : sProp 𝕄 := kvG.view.loc (c : Thread nD τ) ↦[kvG.view.set]{ShareLeaves.leaf 3 fullShare.right.left i} kvs m c
def qsPts (c : Dev nD) (i : Fin 8) : sProp 𝕄 := q0M.view.loc (c : Thread nD τ) ↦[q0M.view.set]{ShareLeaves.leaf 3 fullShare i} q0F m c

/-- What duty `d` of device `c`'s cell hands over. -/
def pay (c : Dev nD) (d : Fin 8) : Cell → sProp 𝕄
  | .bar => if d = 0 then iprop(∃ f, aPts (rp c) f) else iprop(∃ f, bPts (lp c) f)
  | .gate => iprop((∃ f, qPts d f) ∗ ∃ f, gPts d f)
  | .hs i => if i = 0 then hiPts m c else loPts m c
  | .hr i => if i = 0 then aPts c (kcF m c) else bPts c (kcF m c)
  | .gs i => gsPts m c i.castSucc
  | .qs i => qsPts m c i.castSucc
  | .ps => psPts c (pAll (q0F m 0) (kvs m c))
  | .gr => gPts c (kcF m c)
  | .qr => iprop(qPts c (q0F m 0) ∗ ∃ f, prPts 0 (slotOf c) f)
  | .pr i => prPts 0 i (prF m)

omit [FloatOps F] [Named F] in
instance aPts_storable (c : Dev nD) (f) : BI.Storable (upEmb : UEmb _ 𝕄) (aPts (F := F) c f) := by unfold aPts; infer_instance
omit [FloatOps F] [Named F] in
instance bPts_storable (c : Dev nD) (f) : BI.Storable (upEmb : UEmb _ 𝕄) (bPts (F := F) c f) := by unfold bPts; infer_instance
omit [FloatOps F] [Named F] in
instance gPts_storable (c : Dev nD) (f) : BI.Storable (upEmb : UEmb _ 𝕄) (gPts (F := F) c f) := by unfold gPts; infer_instance
omit [FloatOps F] [Named F] in
instance qPts_storable (c : Dev nD) (f) : BI.Storable (upEmb : UEmb _ 𝕄) (qPts (F := F) c f) := by unfold qPts; infer_instance
omit [FloatOps F] [Named F] in
instance psPts_storable (c : Dev nD) (f) : BI.Storable (upEmb : UEmb _ 𝕄) (psPts (F := F) c f) := by unfold psPts; infer_instance
omit [FloatOps F] [Named F] in
instance prPts_storable (c : Dev nD) (i) (f) : BI.Storable (upEmb : UEmb _ 𝕄) (prPts (F := F) c i f) := by unfold prPts; infer_instance
omit [FloatOps F] [Named F] in
instance hiPts_storable (c : Dev nD) : BI.Storable (upEmb : UEmb _ 𝕄) (hiPts m c) := by unfold hiPts; infer_instance
omit [FloatOps F] [Named F] in
instance loPts_storable (c : Dev nD) : BI.Storable (upEmb : UEmb _ 𝕄) (loPts m c) := by unfold loPts; infer_instance
omit [FloatOps F] [Named F] in
instance gsPts_storable (c : Dev nD) (i) : BI.Storable (upEmb : UEmb _ 𝕄) (gsPts m c i) := by unfold gsPts; infer_instance
omit [Named F] in
instance qsPts_storable (c : Dev nD) (i) : BI.Storable (upEmb : UEmb _ 𝕄) (qsPts m c i) := by unfold qsPts; infer_instance

omit [Named F] in
instance pay_storable (c : Dev nD) (d : Fin 8) (k : Cell) : BI.Storable (upEmb : UEmb _ 𝕄) (pay m c d k) := by
  cases k <;> unfold pay <;> (repeat' split) <;> infer_instance

/-! ## The schedule -/

/-- One round, round 0, of every cell: its duties, amounts and payloads. -/
def sched : Rounds.Schedule (GSem nD τ sig) (Fin 8) 𝕄 where
  duties g r := if r = 0 ∧ g.1.2 = .tc then (match ofSem g.2 with | some k => dut g.1.1 k | none => ∅) else ∅
  unitless _ := False
  amount g _ _ := match ofSem g.2 with | some k => amt k | none => 1
  payload g _ d := match ofSem g.2 with | some k => pay m g.1.1 d k | none => iprop(emp)
  amount_pos g _ _ _ := by
    cases ofSem g.2 with
    | some k => exact amt_pos k
    | none => exact Nat.one_pos

omit [Named F] in
instance sched_storable (g : GSem nD τ sig) (r : ℕ) (d : Fin 8) : BI.Storable (upEmb : UEmb _ 𝕄) ((sched m).payload g r d) := by
  dsimp only [sched]; split <;> infer_instance

section Sched
variable (c : Dev nD) (k : Cell)

omit [Named F] in
theorem duties_k : (sched m).duties (kcell (c, k)) 0 = dut c k := by
  dsimp only [sched, kcell]; rw [if_pos ⟨rfl, rfl⟩, ofSem_csem]
omit [Named F] in
theorem duties_later (g : GSem nD τ sig) : ∀ r, 1 ≤ r → (sched m).duties g r = ∅ := fun r hr => by
  dsimp only [sched]; rw [if_neg fun h => by omega]
omit [Named F] in
theorem duties_none (h : dut c k = ∅) : ∀ r, 0 ≤ r → (sched m).duties (kcell (c, k)) r = ∅ := fun r _ => by
  rcases Nat.eq_zero_or_pos r with rfl | hr
  · rw [duties_k, h]
  · exact duties_later m _ r hr
omit [Named F] in
theorem amount_k (d : Fin 8) : (sched m).amount (kcell (c, k)) 0 d = amt k := by dsimp only [sched, kcell]; rw [ofSem_csem]
omit [Named F] in
theorem payload_k (d : Fin 8) : (sched m).payload (kcell (c, k)) 0 d = pay m c d k := by dsimp only [sched, kcell]; rw [ofSem_csem]
omit [Named F] in
theorem expect_k : (sched m).expect (kcell (c, k)) 0 = (dut c k).card * amt k := by
  unfold Schedule.expect Schedule.amountOf
  rw [duties_k, Finset.sum_congr rfl fun d _ => amount_k m c k d, Finset.sum_const, smul_eq_mul]
omit [Named F] in
theorem rest_k : bigSep ((sched m).duties (kcell (c, k)) 0 \ ∅) (fun d => (sched m).payload (kcell (c, k)) 0 d) = bigSep (dut c k) fun d => pay m c d k := by
  rw [Finset.sdiff_empty, duties_k]; exact bigSep_congr fun d _ => payload_k m c k d
omit [Named F] in
/-- A cell with the one duty 0 hands over that duty's payload. -/
theorem rest_one (h : dut c k = {0}) : bigSep ((sched m).duties (kcell (c, k)) 0 \ ∅) (fun d => (sched m).payload (kcell (c, k)) 0 d) = pay m c 0 k := by
  rw [rest_k, h, bigSep_singleton]

end Sched

/-! ## Levels and dues -/

/-- A wait is allowed while what is still owed lies above it: barrier below gate below the receive cells below the partials. -/
def lvl : Cell → ℕ
  | .bar => 1
  | .gate => 2
  | .hr _ => 3
  | .gr => 3
  | .qr => 3
  | .pr _ => 4
  | _ => 0

def L (g : GSem nD τ sig) : Finset Unit := if g.1.2 = .tc then {()} else ∅
def lv (g : GSem nD τ sig) (_ : Unit) : ℕ := match ofSem g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (ck : Dev nD × Cell) (u : Unit) : lv (kcell ck) u = lvl ck.2 := by dsimp only [lv, kcell]; rw [ofSem_csem]

/-- What device `c` owes, in the order in which it pays: to its neighbours' barriers and halo cells; device 0 the queries and
    the global keys to everyone; every other device a unit of the gate, first, and its partial, last. -/
def dueK (c : Dev nD) : List (Dev nD × Cell) :=
  if c = 0 then [(lp c, .bar), (rp c, .bar), (rp c, .hr 0), (lp c, .hr 1), (1, .qr), (2, .qr), (3, .qr), (4, .qr), (5, .qr), (6, .qr), (7, .qr),
    (1, .gr), (2, .gr), (3, .gr), (4, .gr), (5, .gr), (6, .gr), (7, .gr)]
  else [(0, .gate), (lp c, .bar), (rp c, .bar), (rp c, .hr 0), (lp c, .hr 1), (0, .pr (slotOf c))]

/-- The sum of a list of dues. -/
def tallyK : List (Dev nD × Cell) → CellTallies nD τ sig Unit
  | [] => 0
  | ck :: l => tallyK l + tallyAt (kcell ck) () (amt ck.2)

def O₀ (c : Dev nD) : CellTallies nD τ sig Unit := tallyK (dueK c)

theorem tallyK_at (l : List (Dev nD × Cell)) (ck : Dev nD × Cell) : tallyK l (kcell ck) () = l.count ck * amt ck.2 := by
  induction l with
  | nil => simp [tallyK]
  | cons a l ih =>
    unfold tallyK
    rw [Pi.add_apply, Finsupp.add_apply, ih, tallyAt_apply, List.count_cons]
    by_cases h : a = ck
    · subst h; rw [if_pos ⟨rfl, rfl⟩]; simp [Nat.add_mul]
    · rw [if_neg fun h' => h (kcell_injective h'.1).symm]; simp [h]

theorem tallyK_pos (l : List (Dev nD × Cell)) {g : GSem nD τ sig} {u : Unit} (h : 0 < tallyK l g u) : ∃ ck ∈ l, g = kcell ck := by
  induction l with
  | nil => exact absurd h (Nat.lt_irrefl 0)
  | cons a l ih =>
    unfold tallyK at h
    rw [Pi.add_apply, Finsupp.add_apply, tallyAt_apply] at h
    by_cases hg : g = kcell a ∧ u = ()
    · exact ⟨a, List.mem_cons_self, hg.1⟩
    · rw [if_neg hg, Nat.add_zero] at h
      obtain ⟨ck, hck, e⟩ := ih h
      exact ⟨ck, List.mem_cons_of_mem _ hck, e⟩

omit [FloatOps F] [Named F] in
/-- Device `c` may wait on a cell while it owes only cells above it. -/
theorem mayWait_list (c : Dev nD) (s : SemLoc sig) (n : ℕ) (hs : lv ((c : Thread nD τ), s) () = n) (l : List (Dev nD × Cell)) (hl : ∀ ck ∈ l, n < lvl ck.2) :
    (levAts L lv : sProp 𝕄) ⊢ MayWait (c : Thread nD τ) s () (tallyK l) :=
  MayOwe.of_cut (L := L) (lev := lv) n (fun p hp => by rw [Finset.mem_singleton.mp hp, L_tc]; exact Finset.mem_singleton_self _)
    (fun g u hg => by obtain ⟨ck, _, rfl⟩ := tallyK_pos l hg; exact Finset.mem_singleton_self _)
    (fun p hp => by rw [Finset.mem_singleton.mp hp]; exact Nat.le_of_eq hs)
    (fun g u hg => by obtain ⟨ck, h, rfl⟩ := tallyK_pos l hg; rw [lv_k]; exact hl ck h)

omit [FloatOps F] [Named F] in
theorem mayWait_k (c : Dev nD) (k : Cell) (l : List (Dev nD × Cell)) (hl : ∀ ck ∈ l, lvl k < lvl ck.2) :
    (levAts L lv : sProp 𝕄) ⊢ MayWait (c : Thread nD τ) (csem k) () (tallyK l) := mayWait_list c _ _ (lv_k (c, k) ()) l hl

/-- How many payments each cell gets in all: as many as it has duties that another device pays. -/
def cnt (c : Dev nD) : Cell → ℕ
  | .bar => 2
  | .gate => if c = 0 then 7 else 0
  | .hr _ => 1
  | .pr _ => if c = 0 then 1 else 0
  | .gr => if c = 0 then 0 else 1
  | .qr => if c = 0 then 0 else 1
  | _ => 0

theorem cnt_eq (ck : Dev nD × Cell) : ∑ d : Dev nD, (dueK d).count ck = cnt ck.1 ck.2 := by
  have h : ∀ c : Dev nD, ∀ k ∈ Cell.all, ∑ d : Dev nD, (dueK d).count (c, k) = cnt c k := by decide +kernel
  exact h ck.1 ck.2 ck.2.mem_all

theorem launch_k (ck : Dev nD × Cell) :
    tallyOn (kcell ck) (launchCredit (Pipeline.owing O₀) 0 (kcell ck)) = (tallyAt (kcell ck) () (cnt ck.1 ck.2 * amt ck.2) : CellTallies nD τ sig Unit) := by
  unfold tallyAt; refine congrArg _ (Finsupp.ext fun u => ?_); cases u
  rw [Pipeline.launchCredit_owing, Finsupp.single_eq_same, Finset.sum_congr rfl fun d _ => (show O₀ d (kcell ck) () = _ from tallyK_at (dueK d) ck),
    ← Finset.sum_mul, cnt_eq]

end Cert.KernelIdeal.Attn

end
-- ==== Proof.Steps.lean ====
/-
# One rule per communication step

The rules for a signal, a transfer and a wait at this kernel's cells, and what each landing leaves in its destination.
-/
module

public import proofs.«01_k».proof.Proof.Protocol

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- Every cell's invariant, that every cell is at round 0, and the levels: what every device may use at any time. -/
def env (K : Dev nD × Cell → ℕ) : sProp 𝕄 :=
  iprop((bigSep Finset.univ fun ck : Dev nD × Cell => cellInv ER (sched m) (K ck) (kcell ck))
    ∗ (bigSep Finset.univ fun ck : Dev nD × Cell => reached ER (kcell ck) 0) ∗ levAts L lv)

omit [Named F] in
instance env_persistent (K : Dev nD × Cell → ℕ) : BI.Persistent (env m K) := by unfold env; infer_instance

omit [Named F] in
theorem inv_at (K : Dev nD × Cell → ℕ) (ck : Dev nD × Cell) :
    (bigSep Finset.univ fun ck : Dev nD × Cell => (cellInv ER (sched m) (K ck) (kcell ck) : sProp 𝕄)) ⊢ cellInv ER (sched m) (K ck) (kcell ck) :=
  bigSep_elim (Finset.mem_univ ck)
omit [FloatOps F] [Named F] in
theorem reached_at (ck : Dev nD × Cell) :
    (bigSep Finset.univ fun ck : Dev nD × Cell => (reached ER (kcell ck) 0 : sProp 𝕄)) ⊢ reached ER (kcell ck) 0 :=
  bigSep_elim (Finset.mem_univ ck)

/-- Device `c` owes `O`, whatever it has waited on before. -/
def owesW (c : Dev nD) (O : CellTallies nD τ sig Unit) : sProp 𝕄 := iprop(∃ W, owes (c : Thread nD τ) O W)
/-- The credit for the whole of a cell's round. -/
def crd (c : Dev nD) (k : Cell) : sProp 𝕄 := cred (tallyAt (kcell (c, k)) () ((dut c k).card * amt k))
/-- The cell's owner is at round 0 of it. -/
def opn (c : Dev nD) (k : Cell) : sProp 𝕄 := atPos ER (kcell (c, k)) 0 ∅ 0
/-- The token of duty `d` of the cell. -/
def tok (c : Dev nD) (k : Cell) (d : Fin 8) : sProp 𝕄 := dutyTok ER (kcell (c, k)) 0 d
/-- The cell's counter is back at zero. -/
def zer (c : Dev nD) (k : Cell) : sProp 𝕄 := semVal (kcell (c, k)) 0

section Rules
variable (K : Dev nD × Cell → ℕ)

/-- A signal pays one duty of the target's cell. -/
theorem signal_step {α : Type} {Q : α → sProp 𝕄} {kont : PUnit → Prog (TpuEff nD τ sig (Elt F) Λ₀ .tc) α} (c x n : Dev nD) (k : Cell) (d : Fin 8) (l : List (Dev nD × Cell)) (s : Sem sig) (v : ℤ) (hn : n = x) (hs : SemLoc.reg s = csem k)
    (hv : v = (amt k : ℕ)) (hd : d ∈ dut x k) :
    iprop(env m K ∗ owesW c (tallyK ((x, k) :: l)) ∗ tok x k d ∗ pay m x d k)
      ⊢ iprop((owesW c (tallyK l) -∗ wp frame (wpE (defs₀ (F := F)) 𝒱₀ (c : Thread nD τ) none) Set.univ (kont ⟨⟩) Q)
        -∗ wp frame (wpE (defs₀ (F := F)) 𝒱₀ (c : Thread nD τ) none) Set.univ (.op (.semSignal (n, .tc) s v) kont) Q) := by
  subst hn hv
  have hg : ((n : Thread nD τ), SemLoc.reg s) = kcell (n, k) := by rw [hs]
  unfold env owesW tok
  iintro ⟨⟨#HI, #HR, #HL⟩, ⟨%W, HO⟩, Ht, Hp⟩ Hk
  ihave #Hi := (inv_at m K (n, k)) $$ HI
  ihave #Hr := (reached_at (n, k)) $$ HR
  iapply (Rounds.wp_signal 𝒱₀ ER (sched m) (c : Thread nD τ) none (dst := (n : Thread nD τ)) (sem := s) (r := 0) (k' := amt k) (κ := K (n, k))
    (d := d) (by rw [hg, duties_k]; exact hd) (by rw [hg, amount_k]) () (O₀ := tallyK ((n, k) :: l)) (tallyK l) (by rw [hg]; rfl)) $$ [HO Ht Hp]
  · rw [hg, payload_k]
    isplitr; · iexact Hi
    isplitl [HO]; · iexact HO
    isplitl [Ht]; · iexact Ht
    isplitl [Hp]; · iexact Hp
    iexact Hr
  iintro HO
  iapply Hk
  iexists W; iexact HO

/-- A wait for the whole round of a cell: what its duties hand over, and the cell closed. -/
theorem wait_step {α : Type} {Q : α → sProp 𝕄} {kont : PUnit → Prog (TpuEff nD τ sig (Elt F) Λ₀ .tc) α} (c : Dev nD) (k : Cell) (l : List (Dev nD × Cell)) {w : TpuEff nD τ sig (Elt F) Λ₀ (c : Thread nD τ).2 PUnit} {s : SemLoc sig} {v : ℕ}
    (hw : ∀ K : PUnit → sProp 𝕄, wpE (defs₀ (F := F)) 𝒱₀ (c : Thread nD τ) none Set.univ w K = waitSpec (c : Thread nD τ) Set.univ s v K)
    (hs : s = csem k) (hv : v = (dut c k).card * amt k) (hl : ∀ ck ∈ l, lvl k < lvl ck.2) :
    iprop(env m K ∗ owesW c (tallyK l) ∗ crd c k ∗ opn c k)
      ⊢ iprop(((owesW c (tallyK l) ∗ zer c k ∗ bigSep (dut c k) fun d => pay m c d k)
          -∗ wp frame (wpE (defs₀ (F := F)) 𝒱₀ (c : Thread nD τ) none) Set.univ (kont ⟨⟩) Q)
        -∗ wp frame (wpE (defs₀ (F := F)) 𝒱₀ (c : Thread nD τ) none) Set.univ (.op w kont) Q) := by
  subst hs hv
  unfold env owesW crd opn zer
  iintro ⟨⟨#HI, #HR, #HL⟩, ⟨%W, HO⟩, Hc, Ha⟩ Hk
  ihave #Hi := (inv_at m K (c, k)) $$ HI
  iapply (Rounds.wp_wait_rest_token 𝒱₀ ER (sched m) (c : Thread nD τ) none (κ := K (c, k)) hw (Set.mem_univ _) () (O := tallyK l) (W := W)
    (R := 0) (m := 0) (T := ∅) (by rw [Nat.zero_add]; exact (expect_k m c k).symm)) $$ [Hc HO Ha]
  · isplitr; · iexact Hi
    isplitl [Hc]; · iexact Hc
    isplitl [HO]; · iexact HO
    isplitr; · iapply (mayWait_k c k l hl); iexact HL
    iexact Ha
  iintro ⟨HO, Ha, -, Hp⟩
  ihave Hp := (Entails.of_eq (rest_k m c k)) $$ Hp
  imod (Rounds.cell_close ER (sched m) (Set.mem_univ (K (c, k))) (fun h => h) (R := 0 + 1) (duties_later m (kcell (c, k)))) $$ [Ha] with Hz
  · isplitr; · iexact Hi
    iexact Ha
  iapply Hk
  isplitl [HO]; · iexists _; iexact HO
  isplitl [Hz]; · iexact Hz
  iexact Hp

omit [Named F] in
/-- A cell without duties closes at once. -/
theorem close_unused (c : Dev nD) (k : Cell) (h : dut c k = ∅) : iprop(env m K ∗ opn c k) ⊢ |={Set.univ}=> zer c k := by
  unfold env opn zer
  iintro ⟨⟨#HI, #HR, #HL⟩, Ha⟩
  ihave #Hi := (inv_at m K (c, k)) $$ HI
  imod (Rounds.cell_close ER (sched m) (Set.mem_univ (K (c, k))) (fun h => h) (R := 0) (duties_none m c k h)) $$ [Ha] with Hz
  · isplitr; · iexact Hi
    iexact Ha
  imodintro; iexact Hz

/-- A transfer pays the duty of the target's receive cell, and its own send cell's when it has read its source. -/
theorem send_step {α : Type} {Q : α → sProp 𝕄} {kont : PUnit → Prog (TpuEff nD τ sig (Elt F) Λ₀ .tc) α} (c x n : Dev nD) (k₁ k₂ : Cell) (l : List (Dev nD × Cell)) (hn : n = x) {sp sp' : Space} {s : Shape} {e : EltTy}
    {src : Memref sig .tc sp s e} {dst : Memref sig .tc sp' s e} {hsc : dst.view.ref.isScScratch = false} {sS sR : SemLoc sig}
    {hsrc : src.view.WordExact} {hdst : dst.view.WordExact} {hsem : DmaTarget.Typed sp sR (.remote (Dev.tc n : Thread nD τ) dst sS hsc)}
    (hS : sS = csem k₁) (hR : sR = csem k₂) (hN : dst.view.amount sR = amt k₂) (ha : amt k₁ = amt k₂) (hd₁ : dut c k₁ = {0}) (hd₂ : (0 : Fin 8) ∈ dut x k₂)
    {q : PosShare TreeShare} {fs : Buf (Elt F) (src.view.loc (c : Thread nD τ))} {fd : Buf (Elt F) (dst.view.loc (x : Thread nD τ))} {Fr : sProp 𝕄}
    (hpay₁ : (src.view.loc (c : Thread nD τ) ↦[src.view.set]{q} fs) ⊢ pay m c 0 k₁)
    (hpay₂ : iprop((dst.view.loc (x : Thread nD τ) ↦[dst.view.set]{fullShare} (dst.view.write (Elt F) fd (src.view.read (Elt F) fs) Finset.univ)) ∗ Fr) ⊢ pay m x 0 k₂) :
    iprop(env m K ∗ (src.view.loc (c : Thread nD τ) ↦[src.view.set]{q} fs) ∗ ((dst.view.loc (x : Thread nD τ) ↦[dst.view.set]{fullShare} fd) ∗ Fr)
        ∗ owesW c (tallyK ((x, k₂) :: l)) ∗ tok c k₁ 0 ∗ tok x k₂ 0)
      ⊢ iprop(((crd c k₁ ∗ owesW c (tallyK l)) -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src (.remote (Dev.tc n : Thread nD τ) dst sS hsc) sR hsrc hdst hsem) kont) Q) := by
  subst hn hS hR
  unfold env owesW tok crd
  iintro ⟨⟨#HI, #HR, #HL⟩, Hsrc, Hdst, ⟨%W, HO⟩, Ht₁, Ht₂⟩ Hk
  ihave #Hi₁ := (inv_at m K (c, k₁)) $$ HI
  ihave #Hi₂ := (inv_at m K (n, k₂)) $$ HI
  ihave #Hr₁ := (reached_at (c, k₁)) $$ HR
  ihave #Hr₂ := (reached_at (n, k₂)) $$ HR
  iapply (Rounds.wp_send_pointsTo_with 𝒱₀ ER (sched m) (c : Thread nD τ) none (c' := (n : Thread nD τ)) (κ₁ := K (c, k₁)) (κ₂ := K (n, k₂)) (r₁ := 0) (r₂ := 0) (d₁ := 0) (d₂ := 0)
    (q := q) (fs := fs) (fd := fd) (F := Fr)
    (by rw [show ((c : Thread nD τ), csem k₁) = kcell (c, k₁) from rfl, duties_k, hd₁]; exact Finset.mem_singleton_self _)
    (by rw [show ((n : Thread nD τ), csem k₂) = kcell (n, k₂) from rfl, duties_k]; exact hd₂)
    () () (amt k₂) hN
    (by rw [show ((c : Thread nD τ), csem k₁) = kcell (c, k₁) from rfl, amount_k, ha])
    (by rw [show ((n : Thread nD τ), csem k₂) = kcell (n, k₂) from rfl, amount_k])
    (O₀ := tallyK ((n, k₂) :: l)) (tallyK l) rfl (W := W)
    (by rw [show ((c : Thread nD τ), csem k₁) = kcell (c, k₁) from rfl, payload_k]; exact hpay₁)
    (by rw [show ((n : Thread nD τ), csem k₂) = kcell (n, k₂) from rfl, payload_k]; exact hpay₂)) $$ [Hsrc Hdst HO Ht₁ Ht₂]
  · isplitr; · iexact Hi₁
    isplitr; · iexact Hi₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]
  · rw [hd₁, Finset.card_singleton, Nat.one_mul, ha]; iexact Hc
  iexists W; iexact HO

end Rules

/-! ## What a landing leaves -/

section Landing

omit [FloatOps F] [Named F] in
/-- The last 128 columns of device `c` land in columns 256–383 of the device after it. -/
theorem land_A (c : Dev nD) (f : Buf (Elt F) (kcA.view.loc (rp c : Thread nD τ))) :
    (kcA.view.loc (rp c : Thread nD τ) ↦[kcA.view.set]{fullShare} (kcA.view.write (Elt F) f (kvHi.view.read (Elt F) (kvs m c)) Finset.univ) : sProp 𝕄)
      ⊢ aPts (rp c) (kcF m (rp c)) := by
  unfold aPts
  refine Entails.of_eq (pointsTo_congr fun i hi => ?_)
  obtain ⟨j, -, rfl⟩ := Finset.mem_map.mp hi
  refine (View.write_emb_of_mem _ _ (Finset.mem_univ j)).trans ?_
  have e1 : ((kcA.view.emb j) (1 : Fin 3)).val = 256 + (j (1 : Fin 3)).val := by show 256 + 1 * (j (1 : Fin 3)).val = _; rw [Nat.one_mul]
  have hj : (j (1 : Fin 3)).val < 128 := (j (1 : Fin 3)).isLt
  unfold kcF
  rw [dif_neg (by rw [e1]; omega), dif_pos (by rw [e1]; omega), lp_rp]
  show kvs m c (kvHi.view.emb j) = kvs m c _
  congr 1; funext a; apply Fin.ext
  match a with
  | ⟨0, _⟩ => show 0 + 1 * (j (0 : Fin 3)).val = 0 + 1 * (j (0 : Fin 3)).val; rfl
  | ⟨1, _⟩ => show 128 + 1 * (j (1 : Fin 3)).val = 256 + 1 * (j (1 : Fin 3)).val - 128; omega
  | ⟨2, _⟩ => show 0 + 1 * (j (2 : Fin 3)).val = 0 + 1 * (j (2 : Fin 3)).val; rfl

omit [FloatOps F] [Named F] in
/-- The first 128 columns of device `c` land in columns 384–511 of the device before it. -/
theorem land_B (c : Dev nD) (f : Buf (Elt F) (kcB.view.loc (lp c : Thread nD τ))) :
    (kcB.view.loc (lp c : Thread nD τ) ↦[kcB.view.set]{fullShare} (kcB.view.write (Elt F) f (kvLo.view.read (Elt F) (kvs m c)) Finset.univ) : sProp 𝕄)
      ⊢ bPts (lp c) (kcF m (lp c)) := by
  unfold bPts
  refine Entails.of_eq (pointsTo_congr fun i hi => ?_)
  obtain ⟨j, -, rfl⟩ := Finset.mem_map.mp hi
  refine (View.write_emb_of_mem _ _ (Finset.mem_univ j)).trans ?_
  have e1 : ((kcB.view.emb j) (1 : Fin 3)).val = 384 + (j (1 : Fin 3)).val := by show 384 + 1 * (j (1 : Fin 3)).val = _; rw [Nat.one_mul]
  have hj : (j (1 : Fin 3)).val < 128 := (j (1 : Fin 3)).isLt
  unfold kcF
  rw [dif_neg (by rw [e1]; omega), dif_neg (by rw [e1]; omega), dif_pos (by rw [e1]; omega), rp_lp]
  show kvs m c (kvLo.view.emb j) = kvs m c _
  congr 1; funext a; apply Fin.ext
  match a with
  | ⟨0, _⟩ => show 0 + 1 * (j (0 : Fin 3)).val = 0 + 1 * (j (0 : Fin 3)).val; rfl
  | ⟨1, _⟩ => show 0 + 1 * (j (1 : Fin 3)).val = 384 + 1 * (j (1 : Fin 3)).val - 384; omega
  | ⟨2, _⟩ => show 0 + 1 * (j (2 : Fin 3)).val = 0 + 1 * (j (2 : Fin 3)).val; rfl

omit [FloatOps F] [Named F] in
/-- Device 0's first 32 columns written into columns 512–543 of device `x`. -/
theorem write_G (x : Dev nD) (f : (cc0_scratch0 : Ref sig .tc).ty.Contents (Elt F)) (i : (cc0_scratch0 : Ref sig .tc).ty.Idx) (hi : i ∈ kcG.view.set) :
    kcG.view.write (Elt F) f (kvG.view.read (Elt F) (kvs m 0)) Finset.univ i = kcF m x i := by
  obtain ⟨j, -, rfl⟩ := Finset.mem_map.mp hi
  refine (View.write_emb_of_mem _ _ (Finset.mem_univ j)).trans ?_
  have e1 : ((kcG.view.emb j) (1 : Fin 3)).val = 512 + (j (1 : Fin 3)).val := by show 512 + 1 * (j (1 : Fin 3)).val = _; rw [Nat.one_mul]
  unfold kcF
  rw [dif_neg (by rw [e1]; omega), dif_neg (by rw [e1]; omega), dif_neg (by rw [e1]; omega)]
  show kvs m 0 (kvG.view.emb j) = kvs m 0 _
  congr 1; funext a; apply Fin.ext
  match a with
  | ⟨0, _⟩ => show 0 + 1 * (j (0 : Fin 3)).val = 0 + 1 * (j (0 : Fin 3)).val; rfl
  | ⟨1, _⟩ => show 0 + 1 * (j (1 : Fin 3)).val = 512 + 1 * (j (1 : Fin 3)).val - 512; omega
  | ⟨2, _⟩ => show 0 + 1 * (j (2 : Fin 3)).val = 0 + 1 * (j (2 : Fin 3)).val; rfl

omit [FloatOps F] [Named F] in
theorem land_G (x : Dev nD) (f : Buf (Elt F) (kcG.view.loc (x : Thread nD τ))) :
    (kcG.view.loc (x : Thread nD τ) ↦[kcG.view.set]{fullShare} (kcG.view.write (Elt F) f (kvG.view.read (Elt F) (kvs m 0)) Finset.univ) : sProp 𝕄)
      ⊢ gPts x (kcF m x) := by
  unfold gPts; exact Entails.of_eq (pointsTo_congr fun i hi => write_G m x f i hi)

omit [Named F] in
/-- Device 0's queries land in the query buffer of device `x`. -/
theorem land_Q (x : Dev nD) (f : Buf (Elt F) (q0M.view.loc (x : Thread nD τ))) :
    (q0M.view.loc (x : Thread nD τ) ↦[q0M.view.set]{fullShare} (q0M.view.write (Elt F) f (q0M.view.read (Elt F) (q0F m 0)) Finset.univ) : sProp 𝕄)
      ⊢ qPts x (q0F m 0) := by
  unfold qPts
  refine Entails.of_eq (pointsTo_congr fun i hi => ?_)
  obtain ⟨j, -, rfl⟩ := Finset.mem_map.mp hi
  exact View.write_emb_of_mem _ _ (Finset.mem_univ j)

/-- The place of an element of slot `i` in the partial buffer. -/
theorem prS_emb (i : Fin 7) (j : S8x32x128.Idx) : (prS i).view.emb j = (fun a : Fin 4 => match a with | ⟨0, _⟩ => i | ⟨1, _⟩ => j 0 | ⟨2, _⟩ => j 1 | ⟨3, _⟩ => j 2 : S7x8x32x128.Idx) := by
  have h : (Shape.reshapeEquiv (s := S1x8x32x128) (s' := S8x32x128) squeezes_S1x8x32x128_S8x32x128.numel_eq) j
      = (fun a : Fin 4 => match a with | ⟨0, _⟩ => (0 : Fin 1) | ⟨1, _⟩ => j 0 | ⟨2, _⟩ => j 1 | ⟨3, _⟩ => j 2 : S1x8x32x128.Idx) := by
    apply Shape.reshapeEquiv_eq_of_rowMajor
    rw [Shape.rowMajor_val_three, Shape.rowMajor_val_four]
    show ((0 * 8 + (j 0).val) * 32 + (j 1).val) * 128 + (j 2).val = ((j 0).val * 32 + (j 1).val) * 128 + (j 2).val
    rw [Nat.zero_mul, Nat.zero_add]
  show (Rect.unit (s := S7x8x32x128) ![i.val, 0, 0, 0] S1x8x32x128.size (slot_inb i)).emb (Shape.reshapeEquiv _ j) = _
  rw [h]
  funext a; apply Fin.ext
  match a with
  | ⟨0, _⟩ => show i.val + 1 * 0 = i.val; rfl
  | ⟨1, _⟩ => show 0 + 1 * (j (0 : Fin 3)).val = (j (0 : Fin 3)).val; omega
  | ⟨2, _⟩ => show 0 + 1 * (j (1 : Fin 3)).val = (j (1 : Fin 3)).val; omega
  | ⟨3, _⟩ => show 0 + 1 * (j (2 : Fin 3)).val = (j (2 : Fin 3)).val; omega

/-- The packed partial of the device that owns slot `i` lands in that slot. -/
theorem land_P (i : Fin 7) (f : Buf (Elt F) ((prS i).view.loc ((0 : Dev nD) : Thread nD τ))) :
    ((prS i).view.loc ((0 : Dev nD) : Thread nD τ) ↦[(prS i).view.set]{fullShare}
        ((prS i).view.write (Elt F) f (psM.view.read (Elt F) (pAll (q0F m 0) (kvs m (devOf i)))) Finset.univ) : sProp 𝕄)
      ⊢ prPts 0 i (prF m) := by
  unfold prPts
  refine Entails.of_eq (pointsTo_congr fun x hx => ?_)
  obtain ⟨j, -, rfl⟩ := Finset.mem_map.mp hx
  refine (View.write_emb_of_mem _ _ (Finset.mem_univ j)).trans ?_
  unfold prF
  rw [prS_emb]
  show pAll (q0F m 0) (kvs m (devOf i)) j = pAll (q0F m 0) (kvs m (devOf i)) _
  congr 1; funext a
  match a with
  | ⟨0, _⟩ => rfl
  | ⟨1, _⟩ => rfl
  | ⟨2, _⟩ => rfl

end Landing

end Cert.KernelIdeal.Attn

end
-- ==== Proof.Parts.lean ====
/-
# The parts of the kernel that only load and store

The values that the kernel's parts compute from what their loads read, and one rule per part.
-/
module

public import proofs.«01_k».proof.Proof.Steps

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The words of a device: its place in the ring, and its neighbours' -/

abbrev w2 (c : Dev nD) : BitVec 32 := Scalar.remsi (Scalar.divsi (Dev.word c) 1#32) 8#32
abbrev w5 (c : Dev nD) : BitVec 32 := Scalar.remsi (Scalar.subi (Scalar.addi (w2 c) 8#32) 1#32) 8#32
abbrev w7 (c : Dev nD) : BitVec 32 := Scalar.remsi (Scalar.addi (w2 c) 1#32) 8#32

section Own
variable (c : Dev nD) (x : (cc0_stg0_0 : Ref sig .tc).ty.Contents (Elt F)) (wq : (cc0_stg1_0 : Ref sig .tc).ty.Contents (Elt F))
  (kc : (cc0_scratch0 : Ref sig .tc).ty.Contents (Elt F)) (wo : (cc0_stg3_0 : Ref sig .tc).ty.Contents (Elt F))

/-! The attention of the device's own rows over its gathered keys and values, as the kernel's parts compute it: the
    queries of the two batches, the mask, and per batch and head the normalised output. -/

abbrev a44 : FVec F S256x256 .f32 := k0_pay26 (ldX x 0 inb_S2x256x512_S1x256x512_0_0_0) (ldWq wq)
abbrev cst8 : F .f32 := Scalar.ofBits .f32 0x3E000000#32
abbrev a47 : FVec F S256x256 .bf16 := k0_pay27 (a44 x wq) cst8
abbrev a55 : FVec F S256x256 .bf16 := k0_pay28 (ldX x 1 inb_S2x256x512_S1x256x512_1_0_0) (ldWq wq)
abbrev a235 : IVec S256x544 32 := k0_pay80 (w2 c)
abbrev a236 : IVec S256x544 32 := iota .tc S256x544 32 [1] iota_S256x544_d1_w32
abbrev a263 : IVec S256x544 32 := k0_pay81 (w2 c) (w5 c) (w7 c)
abbrev a281 : IVec S256x544 1 := k0_pay82 (w2 c) (a235 c) a236 (a263 c) 512#32
abbrev zero544 : FVec F S256x544 .f32 := constant S256x544 .f32 0x00000000#32
abbrev a300 : FVec F S256x64 .f32 := k0_pay83 (w2 c) (a47 x wq) (a235 c) a236 (a263 c) 512#32 (ldC kc 0 inb_S16x544x64_S1x544x64_0_0_0) (ldC kc 8 inb_S16x544x64_S1x544x64_8_0_0)
abbrev a301 : FVec F S256x64 .bf16 := k0_pay84 (a47 x wq)
abbrev a303 : FVec F S544x64 .bf16 := k0_pay85 (ldC kc 1 inb_S16x544x64_S1x544x64_1_0_0)
abbrev a319 : FVec F S256x64 .f32 := k0_pay86 (a281 c) (a301 x wq) (a303 kc) zero544 (ldC kc 9 inb_S16x544x64_S1x544x64_9_0_0)
abbrev a338 : FVec F S256x64 .f32 := k0_pay87 (a47 x wq) (a281 c) (ldC kc 2 inb_S16x544x64_S1x544x64_2_0_0) (ldC kc 10 inb_S16x544x64_S1x544x64_10_0_0)
abbrev a339 : FVec F S256x64 .bf16 := k0_pay88 (a47 x wq)
abbrev a341 : FVec F S544x64 .bf16 := k0_pay89 (ldC kc 3 inb_S16x544x64_S1x544x64_3_0_0)
abbrev a380 : FVec F S256x544 .f32 := k0_pay91 (a55 x wq) (a281 c) (ldC kc 4 inb_S16x544x64_S1x544x64_4_0_0)
abbrev a384 : FVec F S256x64 .f32 := k0_pay92 (a380 c x wq kc) (ldC kc 12 inb_S16x544x64_S1x544x64_12_0_0)
abbrev a403 : FVec F S256x64 .f32 := k0_pay93 (a55 x wq) (a281 c) (ldC kc 5 inb_S16x544x64_S1x544x64_5_0_0) (ldC kc 13 inb_S16x544x64_S1x544x64_13_0_0)
abbrev a418 : FVec F S256x544 .f32 := k0_pay94 (a55 x wq) (a281 c) (ldC kc 6 inb_S16x544x64_S1x544x64_6_0_0)
/-- What the device stores as the output of its rows: batch 0, batch 1. -/
def attn0 : FVec F S1x256x512 .f32 := k0_pay90 (a281 c) (a300 c x wq kc) (a319 c x wq kc) (a338 c x wq kc) (a339 x wq) (a341 kc) zero544 (ldC kc 11 inb_S16x544x64_S1x544x64_11_0_0) (ldWo wo)
def attn1 : FVec F S1x256x512 .f32 := k0_pay95 (a55 x wq) (a281 c) (a384 c x wq kc) (a403 c x wq kc) (a418 c x wq kc) (ldC kc 14 inb_S16x544x64_S1x544x64_14_0_0) (ldC kc 7 inb_S16x544x64_S1x544x64_7_0_0) (ldC kc 15 inb_S16x544x64_S1x544x64_15_0_0) (ldWo wo)

end Own

section Combine
variable (O : FVec F S8x32x64 .f32) (M : FVec F S8x32x1 .f32) (L : FVec F S8x32x1 .f32) (pr : (cc0_scratch3 : Ref sig .tc).ty.Contents (Elt F))
  (wo : (cc0_stg3_0 : Ref sig .tc).ty.Contents (Elt F))

/-! The combination of device 0's own partial result `O`, `M`, `L` with the seven received ones. -/

abbrev b520 : FVec F S8x32x1 .f32 := k0_pay4 M (ldP pr 0 inb_S7x8x32x128_S1x8x32x128_0_0_0_0) (ldP pr 1 inb_S7x8x32x128_S1x8x32x128_1_0_0_0) (ldP pr 2 inb_S7x8x32x128_S1x8x32x128_2_0_0_0)
abbrev b536 : FVec F S8x32x1 .f32 := k0_pay5 (b520 M pr) (ldP pr 3 inb_S7x8x32x128_S1x8x32x128_3_0_0_0) (ldP pr 4 inb_S7x8x32x128_S1x8x32x128_4_0_0_0) (ldP pr 5 inb_S7x8x32x128_S1x8x32x128_5_0_0_0) (ldP pr 6 inb_S7x8x32x128_S1x8x32x128_6_0_0_0)
abbrev b552 : FVec F S8x32x64 .f32 := k0_pay8 O M (b520 M pr) (ldP pr 3 inb_S7x8x32x128_S1x8x32x128_3_0_0_0) (ldP pr 4 inb_S7x8x32x128_S1x8x32x128_4_0_0_0) (ldP pr 5 inb_S7x8x32x128_S1x8x32x128_5_0_0_0) (ldP pr 6 inb_S7x8x32x128_S1x8x32x128_6_0_0_0) (ldP pr 0 inb_S7x8x32x128_S1x8x32x128_0_0_0_0)
abbrev b555 : FVec F S8x32x1 .f32 := k0_pay9 M L (b520 M pr) (ldP pr 3 inb_S7x8x32x128_S1x8x32x128_3_0_0_0) (ldP pr 4 inb_S7x8x32x128_S1x8x32x128_4_0_0_0) (ldP pr 5 inb_S7x8x32x128_S1x8x32x128_5_0_0_0) (ldP pr 6 inb_S7x8x32x128_S1x8x32x128_6_0_0_0) (ldP pr 0 inb_S7x8x32x128_S1x8x32x128_0_0_0_0)
abbrev b557 : FVec F S8x32x128 .f32 := k0_pay10 (ldP pr 1 inb_S7x8x32x128_S1x8x32x128_1_0_0_0)
abbrev b560 : FVec F S8x32x1 .f32 := k0_pay11 (b520 M pr) (ldP pr 3 inb_S7x8x32x128_S1x8x32x128_3_0_0_0) (ldP pr 4 inb_S7x8x32x128_S1x8x32x128_4_0_0_0) (ldP pr 5 inb_S7x8x32x128_S1x8x32x128_5_0_0_0) (ldP pr 6 inb_S7x8x32x128_S1x8x32x128_6_0_0_0) (ldP pr 1 inb_S7x8x32x128_S1x8x32x128_1_0_0_0)
abbrev b561 : FVec F S8x32x64 .f32 := k0_pay12 (ldP pr 1 inb_S7x8x32x128_S1x8x32x128_1_0_0_0)
abbrev b600 : FVec F S8x32x64 .f32 := k0_pay19 (b536 M pr) (b552 O M pr) (b560 M pr) (b561 pr) (ldP pr 2 inb_S7x8x32x128_S1x8x32x128_2_0_0_0) (ldP pr 3 inb_S7x8x32x128_S1x8x32x128_3_0_0_0) (ldP pr 4 inb_S7x8x32x128_S1x8x32x128_4_0_0_0)
abbrev b603 : FVec F S8x32x1 .f32 := k0_pay20 (b536 M pr) (b555 M L pr) (b557 pr) (b560 M pr) (ldP pr 2 inb_S7x8x32x128_S1x8x32x128_2_0_0_0) (ldP pr 3 inb_S7x8x32x128_S1x8x32x128_3_0_0_0) (ldP pr 4 inb_S7x8x32x128_S1x8x32x128_4_0_0_0)
abbrev b605 : FVec F S8x32x128 .f32 := k0_pay21 (ldP pr 5 inb_S7x8x32x128_S1x8x32x128_5_0_0_0)
abbrev b654 : FVec F S32x256 .f32 := k0_pay24 (b536 M pr) (b600 O M pr) (b603 M L pr) (b605 pr) (ldP pr 6 inb_S7x8x32x128_S1x8x32x128_6_0_0_0)
/-- What device 0 stores over its first 32 rows: batch 0, batch 1. -/
def comb0 : FVec F S1x32x512 .f32 := k0_pay23 (b536 M pr) (b600 O M pr) (b603 M L pr) (b605 pr) (ldP pr 6 inb_S7x8x32x128_S1x8x32x128_6_0_0_0) (ldWo wo)
def comb1 : FVec F S1x32x512 .f32 := k0_pay96 (b654 O M L pr) (ldWo wo)

end Combine

/-- The output buffer after a store of batch `b`'s rows, of its first 32 rows. -/
abbrev stO (o : (cc0_stg4_0 : Ref sig .tc).ty.Contents (Elt F)) (b : ℕ) (hb : ∀ a, (![b, 0, 0] : Fin 3 → ℕ) a + S1x256x512.size a ≤ S2x256x512.size a) (w : FVec F S1x256x512 .f32) : (cc0_stg4_0 : Ref sig .tc).ty.Contents (Elt F) :=
  (oM.access (Rect.unit (s := S2x256x512) ![b, 0, 0] S1x256x512.size hb)).write (Elt F) o w Finset.univ
abbrev stO32 (o : (cc0_stg4_0 : Ref sig .tc).ty.Contents (Elt F)) (b : ℕ) (hb : ∀ a, (![b, 0, 0] : Fin 3 → ℕ) a + S1x32x512.size a ≤ S2x256x512.size a) (w : FVec F S1x32x512 .f32) : (cc0_stg4_0 : Ref sig .tc).ty.Contents (Elt F) :=
  (oM.access (Rect.unit (s := S2x256x512) ![b, 0, 0] S1x32x512.size hb)).write (Elt F) o w Finset.univ

section Parts

/-- Heads 1, 2 and part of head 3 of the partial attention. -/
theorem part14_rule {Q : _ → sProp 𝕄} (c : Dev nD) (s : PosShare TreeShare) (kv : (cc0_stg2_0 : Ref sig .tc).ty.Contents (Elt F)) (q : (cc0_scratch1 : Ref sig .tc).ty.Contents (Elt F)) :
    iprop((kvM.view.loc (c : Thread nD τ) ↦{s} kv))
      ⊢ iprop((((kvM.view.loc (c : Thread nD τ) ↦{s} kv)) -∗ Q ⟨p82 q kv, p87 q kv, p91 q kv, p97 q kv, p102 q kv, p106 q kv, p112 q kv, p115 q kv⟩)
        -∗ wp frame (wpE (defs₀ (F := F)) 𝒱₀ (c : Thread nD τ) none) Set.univ (k0_part14 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (p61 q) (p77 q)) Q) := by
  rw [k0_part14_eq_skeleton]; unfold k0_part14_skel
  simp only [Prog.lift, Prog.bind_op, Prog.bind_ret, Prog.pure_eq_ret]
  iintro Hkv Hk
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro
  iapply Hk
  iexact Hkv

/-- The rest of head 3, and of batch 1 heads 0 and 1. -/
theorem part15_rule {Q : _ → sProp 𝕄} (c : Dev nD) (s s₁ : PosShare TreeShare) (kv : (cc0_stg2_0 : Ref sig .tc).ty.Contents (Elt F)) (q : (cc0_scratch1 : Ref sig .tc).ty.Contents (Elt F)) :
    iprop((kvM.view.loc (c : Thread nD τ) ↦{s} kv) ∗ (q0M.view.loc (c : Thread nD τ) ↦{s₁} q))
      ⊢ iprop((((kvM.view.loc (c : Thread nD τ) ↦{s} kv) ∗ (q0M.view.loc (c : Thread nD τ) ↦{s₁} q)) -∗ Q ⟨p117 q kv, p121 q kv, p124 q, p130 q kv, p135 q kv, p139 q kv, p145 q kv, p150 q kv, p151 q kv⟩)
        -∗ wp frame (wpE (defs₀ (F := F)) 𝒱₀ (c : Thread nD τ) none) Set.univ (k0_part15 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (p115 q kv)) Q) := by
  rw [k0_part15_eq_skeleton]; unfold k0_part15_skel
  simp only [Prog.lift, Prog.bind_op, Prog.bind_ret, Prog.pure_eq_ret]
  iintro ⟨Hkv, Hq⟩ Hk
  iapply (wp_load 𝒱₀ (c : Thread nD τ) none Set.univ (m := kvM) (Finset.subset_univ _)) $$ Hkv; iintro Hkv
  iapply (wp_load 𝒱₀ (c : Thread nD τ) none Set.univ (m := q0M) (Finset.subset_univ _)) $$ Hq; iintro Hq
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro
  iapply Hk
  isplitl [Hkv]; · iexact Hkv
  iexact Hq

/-- Batch 1 heads 1, 2 and 3. -/
theorem part16_rule {Q : _ → sProp 𝕄} (c : Dev nD) (s : PosShare TreeShare) (kv : (cc0_stg2_0 : Ref sig .tc).ty.Contents (Elt F)) (q : (cc0_scratch1 : Ref sig .tc).ty.Contents (Elt F)) :
    iprop((kvM.view.loc (c : Thread nD τ) ↦{s} kv))
      ⊢ iprop((((kvM.view.loc (c : Thread nD τ) ↦{s} kv)) -∗ Q ⟨p154 q kv, p160 q kv, p165 q kv, p169 q kv, p175 q kv, p180 q kv, p184 q kv, p185 q kv, p186 q kv, p187 q kv⟩)
        -∗ wp frame (wpE (defs₀ (F := F)) 𝒱₀ (c : Thread nD τ) none) Set.univ (k0_part16 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (p76 q kv) (p91 q kv) (p106 q kv) (p124 q) (p151 q kv)) Q) := by
  rw [k0_part16_eq_skeleton]; unfold k0_part16_skel
  simp only [Prog.lift, Prog.bind_op, Prog.bind_ret, Prog.pure_eq_ret]
  iintro Hkv Hk
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro
  iapply Hk
  iexact Hkv

/-- The mask and head 0 of batch 0. -/
theorem part19_rule {Q : _ → sProp 𝕄} (c : Dev nD) (s : PosShare TreeShare) (kc : (cc0_scratch0 : Ref sig .tc).ty.Contents (Elt F)) (x : (cc0_stg0_0 : Ref sig .tc).ty.Contents (Elt F)) (wq : (cc0_stg1_0 : Ref sig .tc).ty.Contents (Elt F)) :
    iprop((kcM.view.loc (c : Thread nD τ) ↦{s} kc))
      ⊢ iprop((((kcM.view.loc (c : Thread nD τ) ↦{s} kc)) -∗ Q ⟨a281 c, a300 c x wq kc, a301 x wq, a303 kc, zero544⟩)
        -∗ wp frame (wpE (defs₀ (F := F)) 𝒱₀ (c : Thread nD τ) none) Set.univ (k0_part19 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (w2 c) (a47 x wq) (a235 c) a236 (a263 c) 512#32) Q) := by
  rw [k0_part19_eq_skeleton]; unfold k0_part19_skel
  simp only [Prog.lift, Prog.bind_op, Prog.bind_ret, Prog.pure_eq_ret]
  iintro Hkc Hk
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  rw [wp_ret]; imodintro
  iapply Hk
  iexact Hkc

/-- Heads 1 and 2 of batch 0. -/
theorem part20_rule {Q : _ → sProp 𝕄} (c : Dev nD) (s : PosShare TreeShare) (kc : (cc0_scratch0 : Ref sig .tc).ty.Contents (Elt F)) (x : (cc0_stg0_0 : Ref sig .tc).ty.Contents (Elt F)) (wq : (cc0_stg1_0 : Ref sig .tc).ty.Contents (Elt F)) :
    iprop((kcM.view.loc (c : Thread nD τ) ↦{s} kc))
      ⊢ iprop((((kcM.view.loc (c : Thread nD τ) ↦{s} kc)) -∗ Q ⟨a319 c x wq kc, a338 c x wq kc, a339 x wq, a341 kc, zero544⟩)
        -∗ wp frame (wpE (defs₀ (F := F)) 𝒱₀ (c : Thread nD τ) none) Set.univ (k0_part20 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (a47 x wq) (a281 c) (a301 x wq) (a303 kc) zero544) Q) := by
  rw [k0_part20_eq_skeleton]; unfold k0_part20_skel
  simp only [Prog.lift, Prog.bind_op, Prog.bind_ret, Prog.pure_eq_ret]
  iintro Hkc Hk
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  rw [wp_ret]; imodintro
  iapply Hk
  iexact Hkc

/-- Head 3 of batch 0; the output of batch 0 is stored. -/
theorem part21_rule {Q : _ → sProp 𝕄} (c : Dev nD) (s s₁ : PosShare TreeShare) (kc : (cc0_scratch0 : Ref sig .tc).ty.Contents (Elt F)) (wo : (cc0_stg3_0 : Ref sig .tc).ty.Contents (Elt F)) (o : (cc0_stg4_0 : Ref sig .tc).ty.Contents (Elt F)) (x : (cc0_stg0_0 : Ref sig .tc).ty.Contents (Elt F)) (wq : (cc0_stg1_0 : Ref sig .tc).ty.Contents (Elt F)) :
    iprop((kcM.view.loc (c : Thread nD τ) ↦{s} kc) ∗ (woM.view.loc (c : Thread nD τ) ↦{s₁} wo) ∗ (oM.view.loc (c : Thread nD τ) ↦{fullShare} o))
      ⊢ iprop((((kcM.view.loc (c : Thread nD τ) ↦{s} kc) ∗ (woM.view.loc (c : Thread nD τ) ↦{s₁} wo) ∗ (oM.view.loc (c : Thread nD τ) ↦{fullShare} (stO o 0 inb_S2x256x512_S1x256x512_0_0_0 (attn0 c x wq kc wo)))) -∗ Q (a380 c x wq kc))
        -∗ wp frame (wpE (defs₀ (F := F)) 𝒱₀ (c : Thread nD τ) none) Set.univ (k0_part21 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (a55 x wq) (a281 c) (a300 c x wq kc) (a319 c x wq kc) (a338 c x wq kc) (a339 x wq) (a341 kc) zero544) Q) := by
  rw [k0_part21_eq_skeleton]; unfold k0_part21_skel
  simp only [Prog.lift, Prog.bind_op, Prog.bind_ret, Prog.pure_eq_ret]
  iintro ⟨Hkc, Hwo, Ho⟩ Hk
  iapply (wp_load 𝒱₀ (c : Thread nD τ) none Set.univ (m := kcM) (Finset.subset_univ _)) $$ Hkc; iintro Hkc
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Ho; iintro Ho
  iapply (wp_store 𝒱₀ (c : Thread nD τ) none Set.univ (m := oM) (r := (Rect.unit (s := S2x256x512) ![0, 0, 0] S1x256x512.size inb_S2x256x512_S1x256x512_0_0_0)) (Mk := Finset.univ) (Finset.subset_univ _)) $$ Ho; iintro Ho
  iapply (wp_load 𝒱₀ (c : Thread nD τ) none Set.univ (m := kcM) (Finset.subset_univ _)) $$ Hkc; iintro Hkc
  rw [wp_ret]; imodintro
  iapply Hk
  isplitl [Hkc]; · iexact Hkc
  isplitl [Hwo]; · iexact Hwo
  iexact Ho

/-- Heads 0 and 1 of batch 1. -/
theorem part22_rule {Q : _ → sProp 𝕄} (c : Dev nD) (s : PosShare TreeShare) (kc : (cc0_scratch0 : Ref sig .tc).ty.Contents (Elt F)) (x : (cc0_stg0_0 : Ref sig .tc).ty.Contents (Elt F)) (wq : (cc0_stg1_0 : Ref sig .tc).ty.Contents (Elt F)) :
    iprop((kcM.view.loc (c : Thread nD τ) ↦{s} kc))
      ⊢ iprop((((kcM.view.loc (c : Thread nD τ) ↦{s} kc)) -∗ Q ⟨a384 c x wq kc, a403 c x wq kc, a418 c x wq kc⟩)
        -∗ wp frame (wpE (defs₀ (F := F)) 𝒱₀ (c : Thread nD τ) none) Set.univ (k0_part22 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (a55 x wq) (a281 c) (a380 c x wq kc)) Q) := by
  rw [k0_part22_eq_skeleton]; unfold k0_part22_skel
  simp only [Prog.lift, Prog.bind_op, Prog.bind_ret, Prog.pure_eq_ret]
  iintro Hkc Hk
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  rw [wp_ret]; imodintro
  iapply Hk
  iexact Hkc

/-- Heads 2 and 3 of batch 1; the output of batch 1 is stored. -/
theorem part23_rule {Q : _ → sProp 𝕄} (c : Dev nD) (s s₁ : PosShare TreeShare) (kc : (cc0_scratch0 : Ref sig .tc).ty.Contents (Elt F)) (wo : (cc0_stg3_0 : Ref sig .tc).ty.Contents (Elt F)) (o : (cc0_stg4_0 : Ref sig .tc).ty.Contents (Elt F)) (x : (cc0_stg0_0 : Ref sig .tc).ty.Contents (Elt F)) (wq : (cc0_stg1_0 : Ref sig .tc).ty.Contents (Elt F)) :
    iprop((kcM.view.loc (c : Thread nD τ) ↦{s} kc) ∗ (woM.view.loc (c : Thread nD τ) ↦{s₁} wo) ∗ (oM.view.loc (c : Thread nD τ) ↦{fullShare} o))
      ⊢ iprop((((kcM.view.loc (c : Thread nD τ) ↦{s} kc) ∗ (woM.view.loc (c : Thread nD τ) ↦{s₁} wo) ∗ (oM.view.loc (c : Thread nD τ) ↦{fullShare} (stO o 1 inb_S2x256x512_S1x256x512_1_0_0 (attn1 c x wq kc wo)))) -∗ Q (Scalar.extui (Scalar.cmpi .eq (w2 c) 0#32)))
        -∗ wp frame (wpE (defs₀ (F := F)) 𝒱₀ (c : Thread nD τ) none) Set.univ (k0_part23 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (w2 c) (a55 x wq) (a281 c) (a384 c x wq kc) (a403 c x wq kc) (a418 c x wq kc)) Q) := by
  rw [k0_part23_eq_skeleton]; unfold k0_part23_skel
  simp only [Prog.lift, Prog.bind_op, Prog.bind_ret, Prog.pure_eq_ret]
  iintro ⟨Hkc, Hwo, Ho⟩ Hk
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := kcM) (Finset.subset_univ _)) $$ Hkc; iintro Hkc
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Ho; iintro Ho
  iapply (wp_store 𝒱₀ (c : Thread nD τ) none Set.univ (m := oM) (r := (Rect.unit (s := S2x256x512) ![1, 0, 0] S1x256x512.size inb_S2x256x512_S1x256x512_1_0_0)) (Mk := Finset.univ) (Finset.subset_univ _)) $$ Ho; iintro Ho
  rw [wp_ret]; imodintro
  iapply Hk
  isplitl [Hkc]; · iexact Hkc
  isplitl [Hwo]; · iexact Hwo
  iexact Ho

/-- The combined maximum, and the first two slots of the combined sums. -/
theorem part6_rule {Q : _ → sProp 𝕄} (c : Dev nD) (s : PosShare TreeShare) (pr : (cc0_scratch3 : Ref sig .tc).ty.Contents (Elt F)) (O : FVec F S8x32x64 .f32) (M : FVec F S8x32x1 .f32) (L : FVec F S8x32x1 .f32) :
    iprop((prM.view.loc (c : Thread nD τ) ↦{s} pr))
      ⊢ iprop((((prM.view.loc (c : Thread nD τ) ↦{s} pr)) -∗ Q ⟨b536 M pr, b552 O M pr, b555 M L pr, b557 pr, b560 M pr, b561 pr⟩)
        -∗ wp frame (wpE (defs₀ (F := F)) 𝒱₀ (c : Thread nD τ) none) Set.univ (k0_part6 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 O M L (b520 M pr) (ldP pr 3 inb_S7x8x32x128_S1x8x32x128_3_0_0_0)) Q) := by
  rw [k0_part6_eq_skeleton]; unfold k0_part6_skel
  simp only [Prog.lift, Prog.bind_op, Prog.bind_ret, Prog.pure_eq_ret]
  iintro Hpr Hk
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  rw [wp_ret]; imodintro
  iapply Hk
  iexact Hpr

/-- Slots 1 to 4 of the combined sums. -/
theorem part7_rule {Q : _ → sProp 𝕄} (c : Dev nD) (s : PosShare TreeShare) (pr : (cc0_scratch3 : Ref sig .tc).ty.Contents (Elt F)) (O : FVec F S8x32x64 .f32) (M : FVec F S8x32x1 .f32) (L : FVec F S8x32x1 .f32) :
    iprop((prM.view.loc (c : Thread nD τ) ↦{s} pr))
      ⊢ iprop((((prM.view.loc (c : Thread nD τ) ↦{s} pr)) -∗ Q ⟨b600 O M pr, b603 M L pr, b605 pr⟩)
        -∗ wp frame (wpE (defs₀ (F := F)) 𝒱₀ (c : Thread nD τ) none) Set.univ (k0_part7 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (b536 M pr) (b552 O M pr) (b555 M L pr) (b557 pr) (b560 M pr) (b561 pr)) Q) := by
  rw [k0_part7_eq_skeleton]; unfold k0_part7_skel
  simp only [Prog.lift, Prog.bind_op, Prog.bind_ret, Prog.pure_eq_ret]
  iintro Hpr Hk
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  iapply (wp_load 𝒱₀ (c : Thread nD τ) none Set.univ (m := prM) (Finset.subset_univ _)) $$ Hpr; iintro Hpr
  rw [wp_ret]; imodintro
  iapply Hk
  iexact Hpr

/-- The combined output of batch 0 is stored over its first 32 rows. -/
theorem part8_rule {Q : _ → sProp 𝕄} (c : Dev nD) (s s₁ : PosShare TreeShare) (pr : (cc0_scratch3 : Ref sig .tc).ty.Contents (Elt F)) (wo : (cc0_stg3_0 : Ref sig .tc).ty.Contents (Elt F)) (o : (cc0_stg4_0 : Ref sig .tc).ty.Contents (Elt F)) (O : FVec F S8x32x64 .f32) (M : FVec F S8x32x1 .f32) (L : FVec F S8x32x1 .f32) :
    iprop((prM.view.loc (c : Thread nD τ) ↦{s} pr) ∗ (woM.view.loc (c : Thread nD τ) ↦{s₁} wo) ∗ (oM.view.loc (c : Thread nD τ) ↦{fullShare} o))
      ⊢ iprop((((prM.view.loc (c : Thread nD τ) ↦{s} pr) ∗ (woM.view.loc (c : Thread nD τ) ↦{s₁} wo) ∗ (oM.view.loc (c : Thread nD τ) ↦{fullShare} (stO32 o 0 inb_S2x256x512_S1x32x512_0_0_0 (comb0 O M L pr wo)))) -∗ Q (b654 O M L pr))
        -∗ wp frame (wpE (defs₀ (F := F)) 𝒱₀ (c : Thread nD τ) none) Set.univ (k0_part8 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (b536 M pr) (b600 O M pr) (b603 M L pr) (b605 pr)) Q) := by
  rw [k0_part8_eq_skeleton]; unfold k0_part8_skel
  simp only [Prog.lift, Prog.bind_op, Prog.bind_ret, Prog.pure_eq_ret]
  iintro ⟨Hpr, Hwo, Ho⟩ Hk
  iapply (wp_load 𝒱₀ (c : Thread nD τ) none Set.univ (m := prM) (Finset.subset_univ _)) $$ Hpr; iintro Hpr
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Ho; iintro Ho
  iapply (wp_store 𝒱₀ (c : Thread nD τ) none Set.univ (m := oM) (r := (Rect.unit (s := S2x256x512) ![0, 0, 0] S1x32x512.size inb_S2x256x512_S1x32x512_0_0_0)) (Mk := Finset.univ) (Finset.subset_univ _)) $$ Ho; iintro Ho
  rw [wp_ret]; imodintro
  iapply Hk
  isplitl [Hpr]; · iexact Hpr
  isplitl [Hwo]; · iexact Hwo
  iexact Ho

end Parts

end Cert.KernelIdeal.Attn

end
-- ==== Proof.Comm.lean ====
/-
# The parts of the kernel that signal, copy and wait

One rule per part, for the devices other than 0 and for device 0.
-/
module

public import proofs.«01_k».proof.Proof.Parts

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The devices that the kernel names -/

theorem dev1_eq (c : Dev nD) (h) : (⟨k0_dev1, k0_dev1_lt c h⟩ : Dev nD) = 0 := Fin.ext k0_dev1_eq
theorem dev2_eq (c : Dev nD) : (⟨k0_dev2 c, k0_dev2_lt c⟩ : Dev nD) = lp c := Fin.ext (k0_dev2_eq c)
theorem dev3_eq (c : Dev nD) : (⟨k0_dev3 c, k0_dev3_lt c⟩ : Dev nD) = rp c := Fin.ext (k0_dev3_eq c)
theorem dev4_eq (c : Dev nD) : (⟨k0_dev4 c, k0_dev4_lt c⟩ : Dev nD) = rp c := Fin.ext (k0_dev4_eq c)
theorem dev5_eq (c : Dev nD) : (⟨k0_dev5 c, k0_dev5_lt c⟩ : Dev nD) = lp c := Fin.ext (k0_dev5_eq c)
theorem dev6_eq (c : Dev nD) (h) : (⟨k0_dev6, k0_dev6_lt c h⟩ : Dev nD) = 1 := Fin.ext k0_dev6_eq
theorem dev7_eq (c : Dev nD) (h) : (⟨k0_dev7, k0_dev7_lt c h⟩ : Dev nD) = 2 := Fin.ext k0_dev7_eq
theorem dev8_eq (c : Dev nD) (h) : (⟨k0_dev8, k0_dev8_lt c h⟩ : Dev nD) = 3 := Fin.ext k0_dev8_eq
theorem dev9_eq (c : Dev nD) (h) : (⟨k0_dev9, k0_dev9_lt c h⟩ : Dev nD) = 4 := Fin.ext k0_dev9_eq
theorem dev10_eq (c : Dev nD) (h) : (⟨k0_dev10, k0_dev10_lt c h⟩ : Dev nD) = 5 := Fin.ext k0_dev10_eq
theorem dev11_eq (c : Dev nD) (h) : (⟨k0_dev11, k0_dev11_lt c h⟩ : Dev nD) = 6 := Fin.ext k0_dev11_eq
theorem dev12_eq (c : Dev nD) (h) : (⟨k0_dev12, k0_dev12_lt c h⟩ : Dev nD) = 7 := Fin.ext k0_dev12_eq
theorem dev13_eq (c : Dev nD) (h) : (⟨k0_dev13, k0_dev13_lt c h⟩ : Dev nD) = 1 := Fin.ext k0_dev13_eq
theorem dev14_eq (c : Dev nD) (h) : (⟨k0_dev14, k0_dev14_lt c h⟩ : Dev nD) = 2 := Fin.ext k0_dev14_eq
theorem dev15_eq (c : Dev nD) (h) : (⟨k0_dev15, k0_dev15_lt c h⟩ : Dev nD) = 3 := Fin.ext k0_dev15_eq
theorem dev16_eq (c : Dev nD) (h) : (⟨k0_dev16, k0_dev16_lt c h⟩ : Dev nD) = 4 := Fin.ext k0_dev16_eq
theorem dev17_eq (c : Dev nD) (h) : (⟨k0_dev17, k0_dev17_lt c h⟩ : Dev nD) = 5 := Fin.ext k0_dev17_eq
theorem dev18_eq (c : Dev nD) (h) : (⟨k0_dev18, k0_dev18_lt c h⟩ : Dev nD) = 6 := Fin.ext k0_dev18_eq
theorem dev19_eq (c : Dev nD) (h) : (⟨k0_dev19, k0_dev19_lt c h⟩ : Dev nD) = 7 := Fin.ext k0_dev19_eq
theorem dev20_eq (c : Dev nD) (h) : (⟨k0_dev20, k0_dev20_lt c h⟩ : Dev nD) = 0 := Fin.ext k0_dev20_eq

/-! ## The branches -/

theorem cond1_iff (c : Dev nD) : k0_cond1 c = 1#1 ↔ c ≠ 0 := by revert c; decide
theorem cond2_iff (c : Dev nD) : k0_cond2 c = 1#1 ↔ c = 0 := by revert c; decide
theorem cond4_iff (c : Dev nD) : k0_cond4 c = 1#1 ↔ c ≠ 0 := by revert c; decide
theorem cond8_iff (c : Dev nD) : k0_cond8 c = 1#1 ↔ c ≠ 0 := by revert c; decide
theorem condne_iff (c : Dev nD) : Scalar.cmpi .ne (Scalar.extui (Scalar.cmpi .ne (w2 c) 0#32) : BitVec 32) 0#32 = 1#1 ↔ c ≠ 0 := by revert c; decide
theorem condeq_iff (c : Dev nD) : Scalar.cmpi .ne (Scalar.extui (Scalar.cmpi .eq (w2 c) 0#32) : BitVec 32) 0#32 = 1#1 ↔ c = 0 := by revert c; decide

/-- What device `c` owes after its signals and its first halo copy. -/
def due₁ (c : Dev nD) : List (Dev nD × Cell) :=
  (lp c, .hr 1) :: if c = 0 then [(1, .qr), (2, .qr), (3, .qr), (4, .qr), (5, .qr), (6, .qr), (7, .qr), (1, .gr), (2, .gr), (3, .gr), (4, .gr), (5, .gr), (6, .gr), (7, .gr)] else [(0, .pr (slotOf c))]

theorem dueK_zero : dueK 0 = (lp 0, .bar) :: (rp 0, .bar) :: (rp 0, .hr 0) :: due₁ 0 := rfl
theorem dueK_pos (c : Dev nD) (hc : c ≠ 0) : dueK c = (0, .gate) :: (lp c, .bar) :: (rp c, .bar) :: (rp c, .hr 0) :: due₁ c := by
  unfold dueK due₁; rw [if_neg hc, if_neg hc]

theorem lvl_due₁ (c : Dev nD) : ∀ ck ∈ (rp c, Cell.hr 0) :: due₁ c, lvl .bar < lvl ck.2 := by revert c; decide

theorem gate_mem (c : Dev nD) (hc : c ≠ 0) : c ∈ dut 0 .gate := by revert c; decide

section Pay
variable (c : Dev nD)
omit [Named F] in
theorem pay_bar0 : pay m c 0 .bar = iprop(∃ f, aPts (rp c) f) := rfl
omit [Named F] in
theorem pay_bar1 : pay m c 1 .bar = iprop(∃ f, bPts (lp c) f) := rfl
omit [Named F] in
theorem pay_gate (d : Fin 8) : pay m c d .gate = iprop((∃ f, qPts d f) ∗ ∃ f, gPts d f) := rfl
omit [Named F] in
theorem pay_hs0 : pay m c 0 (.hs 0) = hiPts m c := rfl
omit [Named F] in
theorem pay_hs1 : pay m c 0 (.hs 1) = loPts m c := rfl
omit [Named F] in
theorem pay_hr0 : pay m c 0 (.hr 0) = aPts c (kcF m c) := rfl
omit [Named F] in
theorem pay_hr1 : pay m c 0 (.hr 1) = bPts c (kcF m c) := rfl
omit [Named F] in
theorem pay_gs (i : Fin 7) : pay m c 0 (.gs i) = gsPts m c i.castSucc := rfl
omit [Named F] in
theorem pay_qs (i : Fin 7) : pay m c 0 (.qs i) = qsPts m c i.castSucc := rfl
omit [Named F] in
theorem pay_ps : pay m c 0 .ps = psPts c (pAll (q0F m 0) (kvs m c)) := rfl
omit [Named F] in
theorem pay_gr : pay m c 0 .gr = gPts c (kcF m c) := rfl
omit [Named F] in
theorem pay_qr : pay m c 0 .qr = iprop(qPts c (q0F m 0) ∗ ∃ f, prPts 0 (slotOf c) f) := rfl
omit [Named F] in
theorem pay_pr (i : Fin 7) : pay m c 0 (.pr i) = prPts 0 i (prF m) := rfl
omit [Named F] in
theorem got_bar : (bigSep (dut c .bar) fun d => pay m c d .bar) ⊢ iprop((∃ f, aPts (rp c) f) ∗ ∃ f, bPts (lp c) f) := by
  rw [show dut c .bar = {0, 1} from rfl, bigSep_insert (by decide), bigSep_singleton]; exact .rfl
omit [Named F] in
/-- A cell with the one duty 0 hands over that duty's payload. -/
theorem got_one (k : Cell) (h : dut c k = {0}) : (bigSep (dut c k) fun d => pay m c d k) ⊢ pay m c 0 k := by
  rw [h, bigSep_singleton]
end Pay

variable (K : Dev nD × Cell → ℕ)

/-! ## The copies -/

/-- The halo copy to the device after. -/
theorem send_A {α : Type} {Q : α → sProp 𝕄} {kont : PUnit → Prog (TpuEff nD τ sig (Elt F) Λ₀ .tc) α} (c : Dev nD) (f : Buf (Elt F) (kcA.view.loc (rp c : Thread nD τ))) (l : List (Dev nD × Cell)) (n : Dev nD) (hn : n = (rp c))
    {hsc : (kcA).view.ref.isScScratch = false} {hsrc : (kvHi).view.WordExact} {hdst : (kcA).view.WordExact}
    {hsem : DmaTarget.Typed (nD := nD) (τ := τ) .vmem (csem (.hr 0)) (.remote (Dev.tc n : Thread nD τ) (kcA) (csem (.hs 0)) hsc)} :
    iprop(env m K ∗ hiPts m c ∗ aPts (rp c) f ∗ owesW c (tallyK (((rp c), (.hr 0)) :: l)) ∗ tok c (.hs 0) 0 ∗ tok (rp c) (.hr 0) 0)
      ⊢ iprop(((crd c (.hs 0) ∗ owesW c (tallyK l)) -∗ wp frame (wpE (defs₀ (F := F)) 𝒱₀ (c : Thread nD τ) none) Set.univ (kont ⟨⟩) Q)
        -∗ wp frame (wpE (defs₀ (F := F)) 𝒱₀ (c : Thread nD τ) none) Set.univ (.op (.enqueueDma (kvHi) (.remote (Dev.tc n : Thread nD τ) (kcA) (csem (.hs 0)) hsc) (csem (.hr 0)) hsrc hdst hsem) kont) Q) := by
  unfold hiPts aPts
  iintro ⟨#HE, Hs, Hd, HO, Ht1, Ht2⟩ Hk
  iapply (send_step m K c (rp c) n (.hs 0) (.hr 0) l hn (src := kvHi) (dst := kcA) (sS := csem (.hs 0)) (sR := csem (.hr 0)) (Fr := iprop(emp)) rfl rfl rfl rfl rfl (Finset.mem_singleton_self _) (q := fullShare.left) (fs := kvs m c) (fd := f) .rfl (BIBase.Entails.trans Laws.sep_emp.1 (land_A m c f))) $$ [Hs Hd HO Ht1 Ht2]
  · isplitr; · iexact HE
    isplitl [Hs]; · iexact Hs
    isplitl [Hd]
    · isplitl [Hd]; · iexact Hd
      iempintro
    isplitl [HO]; · iexact HO
    isplitl [Ht1]; · iexact Ht1
    iexact Ht2
  iexact Hk

/-- The halo copy to the device before. -/
theorem send_B {α : Type} {Q : α → sProp 𝕄} {kont : PUnit → Prog (TpuEff nD τ sig (Elt F) Λ₀ .tc) α} (c : Dev nD) (f : Buf (Elt F) (kcB.view.loc (lp c : Thread nD τ))) (l : List (Dev nD × Cell)) (n : Dev nD) (hn : n = (lp c))
    {hsc : (kcB).view.ref.isScScratch = false} {hsrc : (kvLo).view.WordExact} {hdst : (kcB).view.WordExact}
    {hsem : DmaTarget.Typed (nD := nD) (τ := τ) .vmem (csem (.hr 1)) (.remote (Dev.tc n : Thread nD τ) (kcB) (csem (.hs 1)) hsc)} :
    iprop(env m K ∗ loPts m c ∗ bPts (lp c) f ∗ owesW c (tallyK (((lp c), (.hr 1)) :: l)) ∗ tok c (.hs 1) 0 ∗ tok (lp c) (.hr 1) 0)
      ⊢ iprop(((crd c (.hs 1) ∗ owesW c (tallyK l)) -∗ wp frame (wpE (defs₀ (F := F)) 𝒱₀ (c : Thread nD τ) none) Set.univ (kont ⟨⟩) Q)
        -∗ wp frame (wpE (defs₀ (F := F)) 𝒱₀ (c : Thread nD τ) none) Set.univ (.op (.enqueueDma (kvLo) (.remote (Dev.tc n : Thread nD τ) (kcB) (csem (.hs 1)) hsc) (csem (.hr 1)) hsrc hdst hsem) kont) Q) := by
  unfold loPts bPts
  iintro ⟨#HE, Hs, Hd, HO, Ht1, Ht2⟩ Hk
  iapply (send_step m K c (lp c) n (.hs 1) (.hr 1) l hn (src := kvLo) (dst := kcB) (sS := csem (.hs 1)) (sR := csem (.hr 1)) (Fr := iprop(emp)) rfl rfl rfl rfl rfl (Finset.mem_singleton_self _) (q := fullShare.left) (fs := kvs m c) (fd := f) .rfl (BIBase.Entails.trans Laws.sep_emp.1 (land_B m c f))) $$ [Hs Hd HO Ht1 Ht2]
  · isplitr; · iexact HE
    isplitl [Hs]; · iexact Hs
    isplitl [Hd]
    · isplitl [Hd]; · iexact Hd
      iempintro
    isplitl [HO]; · iexact HO
    isplitl [Ht1]; · iexact Ht1
    iexact Ht2
  iexact Hk

/-- Device 0 copies its queries to device `x`. -/
theorem send_Q {α : Type} {Q : α → sProp 𝕄} {kont : PUnit → Prog (TpuEff nD τ sig (Elt F) Λ₀ .tc) α} (i : Fin 7) (x : Dev nD) (hx : x ≠ 0) (f : Buf (Elt F) (q0M.view.loc (x : Thread nD τ))) (l : List (Dev nD × Cell)) (n : Dev nD) (hn : n = x)
    {hsc : (q0M).view.ref.isScScratch = false} {hsrc : (q0M).view.WordExact} {hdst : (q0M).view.WordExact}
    {hsem : DmaTarget.Typed (nD := nD) (τ := τ) .vmem (csem .qr) (.remote (Dev.tc n : Thread nD τ) (q0M) (csem (.qs i)) hsc)} :
    iprop(env m K ∗ qsPts m 0 i.castSucc ∗ qPts x f ∗ (∃ f, prPts 0 (slotOf x) f) ∗ owesW (0 : Dev nD) (tallyK ((x, .qr) :: l)) ∗ tok (0 : Dev nD) (.qs i) 0 ∗ tok x .qr 0)
      ⊢ iprop(((crd (0 : Dev nD) (.qs i) ∗ owesW (0 : Dev nD) (tallyK l)) -∗ wp frame (wpE (defs₀ (F := F)) 𝒱₀ ((0 : Dev nD) : Thread nD τ) none) Set.univ (kont ⟨⟩) Q)
        -∗ wp frame (wpE (defs₀ (F := F)) 𝒱₀ ((0 : Dev nD) : Thread nD τ) none) Set.univ (.op (.enqueueDma (q0M) (.remote (Dev.tc n : Thread nD τ) (q0M) (csem (.qs i)) hsc) (csem .qr) hsrc hdst hsem) kont) Q) := by
  unfold qsPts qPts
  iintro ⟨#HE, Hs, Hd, Hf, HO, Ht1, Ht2⟩ Hk
  iapply (send_step m K (0 : Dev nD) x n (.qs i) .qr l hn (src := q0M) (dst := q0M) (sS := csem (.qs i)) (sR := csem .qr) (Fr := iprop(∃ f, prPts 0 (slotOf x) f)) rfl rfl rfl rfl rfl (by rw [dut, if_neg hx]; exact Finset.mem_singleton_self _) (q := ShareLeaves.leaf 3 fullShare i.castSucc) (fs := q0F m 0) (fd := f) .rfl (by rw [pay_qr]; exact sep_mono (land_Q m x f) .rfl)) $$ [Hs Hd Hf HO Ht1 Ht2]
  · isplitr; · iexact HE
    isplitl [Hs]; · iexact Hs
    isplitl [Hd Hf]
    · isplitl [Hd]; · iexact Hd
      iexact Hf
    isplitl [HO]; · iexact HO
    isplitl [Ht1]; · iexact Ht1
    iexact Ht2
  iexact Hk

/-- Device 0 copies its first keys and values to device `x`. -/
theorem send_G {α : Type} {Q : α → sProp 𝕄} {kont : PUnit → Prog (TpuEff nD τ sig (Elt F) Λ₀ .tc) α} (i : Fin 7) (x : Dev nD) (hx : x ≠ 0) (f : Buf (Elt F) (kcG.view.loc (x : Thread nD τ))) (l : List (Dev nD × Cell)) (n : Dev nD) (hn : n = x)
    {hsc : (kcG).view.ref.isScScratch = false} {hsrc : (kvG).view.WordExact} {hdst : (kcG).view.WordExact}
    {hsem : DmaTarget.Typed (nD := nD) (τ := τ) .vmem (csem .gr) (.remote (Dev.tc n : Thread nD τ) (kcG) (csem (.gs i)) hsc)} :
    iprop(env m K ∗ gsPts m 0 i.castSucc ∗ gPts x f ∗ owesW (0 : Dev nD) (tallyK ((x, .gr) :: l)) ∗ tok (0 : Dev nD) (.gs i) 0 ∗ tok x .gr 0)
      ⊢ iprop(((crd (0 : Dev nD) (.gs i) ∗ owesW (0 : Dev nD) (tallyK l)) -∗ wp frame (wpE (defs₀ (F := F)) 𝒱₀ ((0 : Dev nD) : Thread nD τ) none) Set.univ (kont ⟨⟩) Q)
        -∗ wp frame (wpE (defs₀ (F := F)) 𝒱₀ ((0 : Dev nD) : Thread nD τ) none) Set.univ (.op (.enqueueDma (kvG) (.remote (Dev.tc n : Thread nD τ) (kcG) (csem (.gs i)) hsc) (csem .gr) hsrc hdst hsem) kont) Q) := by
  unfold gsPts gPts
  iintro ⟨#HE, Hs, Hd, HO, Ht1, Ht2⟩ Hk
  iapply (send_step m K (0 : Dev nD) x n (.gs i) .gr l hn (src := kvG) (dst := kcG) (sS := csem (.gs i)) (sR := csem .gr) (Fr := iprop(emp)) rfl rfl rfl rfl rfl (by rw [dut, if_neg hx]; exact Finset.mem_singleton_self _) (q := ShareLeaves.leaf 3 fullShare.right.left i.castSucc) (fs := kvs m 0) (fd := f) .rfl (BIBase.Entails.trans Laws.sep_emp.1 (land_G m x f))) $$ [Hs Hd HO Ht1 Ht2]
  · isplitr; · iexact HE
    isplitl [Hs]; · iexact Hs
    isplitl [Hd]
    · isplitl [Hd]; · iexact Hd
      iempintro
    isplitl [HO]; · iexact HO
    isplitl [Ht1]; · iexact Ht1
    iexact Ht2
  iexact Hk

/-- A device other than 0 copies its packed partial to device 0. -/
theorem send_P {α : Type} {Q : α → sProp 𝕄} {kont : PUnit → Prog (TpuEff nD τ sig (Elt F) Λ₀ .tc) α} (c : Dev nD) (hc : c ≠ 0) (f : Buf (Elt F) ((prS (slotOf c)).view.loc ((0 : Dev nD) : Thread nD τ))) (l : List (Dev nD × Cell)) (n : Dev nD) (hn : n = (0 : Dev nD))
    {hsc : (prS (slotOf c)).view.ref.isScScratch = false} {hsrc : (psM).view.WordExact} {hdst : (prS (slotOf c)).view.WordExact}
    {hsem : DmaTarget.Typed (nD := nD) (τ := τ) .vmem (csem (.pr (slotOf c))) (.remote (Dev.tc n : Thread nD τ) (prS (slotOf c)) (csem .ps) hsc)} :
    iprop(env m K ∗ psPts c (pAll (q0F m 0) (kvs m c)) ∗ prPts 0 (slotOf c) f ∗ owesW c (tallyK (((0 : Dev nD), (.pr (slotOf c))) :: l)) ∗ tok c .ps 0 ∗ tok (0 : Dev nD) (.pr (slotOf c)) 0)
      ⊢ iprop(((crd c .ps ∗ owesW c (tallyK l)) -∗ wp frame (wpE (defs₀ (F := F)) 𝒱₀ (c : Thread nD τ) none) Set.univ (kont ⟨⟩) Q)
        -∗ wp frame (wpE (defs₀ (F := F)) 𝒱₀ (c : Thread nD τ) none) Set.univ (.op (.enqueueDma (psM) (.remote (Dev.tc n : Thread nD τ) (prS (slotOf c)) (csem .ps) hsc) (csem (.pr (slotOf c))) hsrc hdst hsem) kont) Q) := by
  unfold psPts prPts
  iintro ⟨#HE, Hs, Hd, HO, Ht1, Ht2⟩ Hk
  iapply (send_step m K c (0 : Dev nD) n .ps (.pr (slotOf c)) l hn (src := psM) (dst := prS (slotOf c)) (sS := csem .ps) (sR := csem (.pr (slotOf c))) (Fr := iprop(emp)) rfl rfl rfl rfl (by rw [dut, if_neg hc]) (Finset.mem_singleton_self _) (q := fullShare) (fs := pAll (q0F m 0) (kvs m c)) (fd := f) .rfl (BIBase.Entails.trans Laws.sep_emp.1 (BIBase.Entails.trans (by rw [devOf_slotOf c hc]) (land_P m (slotOf c) f)))) $$ [Hs Hd HO Ht1 Ht2]
  · isplitr; · iexact HE
    isplitl [Hs]; · iexact Hs
    isplitl [Hd]
    · isplitl [Hd]; · iexact Hd
      iempintro
    isplitl [HO]; · iexact HO
    isplitl [Ht1]; · iexact Ht1
    iexact Ht2
  iexact Hk

theorem off2_eq (c : Dev nD) (hc : c ≠ 0) : k0_off2 c = ![(slotOf c).val, 0, 0, 0] := by revert c; decide
theorem off1_eq (c : Dev nD) (hc : c ≠ 0) : k0_off1 c = ![(slotOf c).val] := by revert c; decide
theorem sem_pr (i : Fin 7) (h) : SemLoc.dma ((cc0_scratch11.slice (Rect.unit (s := S7) ![i.val] S1.size h)).squeeze S_ squeezes_S1_S_).sem = csem (.pr i) := by
  match i with
  | ⟨0, _⟩ => exact (rfl : SemLoc.dma ((cc0_scratch11.slice (Rect.unit (s := S7) ![0] S1.size inb_S7_S1_0)).squeeze S_ squeezes_S1_S_).sem = csem (.pr 0))
  | ⟨1, _⟩ => exact (rfl : SemLoc.dma ((cc0_scratch11.slice (Rect.unit (s := S7) ![1] S1.size inb_S7_S1_1)).squeeze S_ squeezes_S1_S_).sem = csem (.pr 1))
  | ⟨2, _⟩ => exact (rfl : SemLoc.dma ((cc0_scratch11.slice (Rect.unit (s := S7) ![2] S1.size inb_S7_S1_2)).squeeze S_ squeezes_S1_S_).sem = csem (.pr 2))
  | ⟨3, _⟩ => exact (rfl : SemLoc.dma ((cc0_scratch11.slice (Rect.unit (s := S7) ![3] S1.size inb_S7_S1_3)).squeeze S_ squeezes_S1_S_).sem = csem (.pr 3))
  | ⟨4, _⟩ => exact (rfl : SemLoc.dma ((cc0_scratch11.slice (Rect.unit (s := S7) ![4] S1.size inb_S7_S1_4)).squeeze S_ squeezes_S1_S_).sem = csem (.pr 4))
  | ⟨5, _⟩ => exact (rfl : SemLoc.dma ((cc0_scratch11.slice (Rect.unit (s := S7) ![5] S1.size inb_S7_S1_5)).squeeze S_ squeezes_S1_S_).sem = csem (.pr 5))
  | ⟨6, _⟩ => exact (rfl : SemLoc.dma ((cc0_scratch11.slice (Rect.unit (s := S7) ![6] S1.size inb_S7_S1_6)).squeeze S_ squeezes_S1_S_).sem = csem (.pr 6))
theorem sem_pr_off (c : Dev nD) (hc : c ≠ 0) (h) : SemLoc.dma ((cc0_scratch11.slice (Rect.unit (s := S7) (k0_off1 c) S1.size h)).squeeze S_ squeezes_S1_S_).sem = csem (.pr (slotOf c)) := by
  revert h; rw [off1_eq c hc]; exact sem_pr (slotOf c)

/-- The same copy, the slot and its semaphore as the kernel computes them. -/
theorem send_P' {α : Type} {Q : α → sProp 𝕄} {kont : PUnit → Prog (TpuEff nD τ sig (Elt F) Λ₀ .tc) α} (c : Dev nD) (hc : c ≠ 0) (f : Buf (Elt F) ((prS (slotOf c)).view.loc ((0 : Dev nD) : Thread nD τ))) (l : List (Dev nD × Cell)) (n : Dev nD) (hn : n = (0 : Dev nD))
    (o : Fin 4 → ℕ) (ho : o = ![(slotOf c).val, 0, 0, 0]) (h : ∀ a, o a + S1x8x32x128.size a ≤ S7x8x32x128.size a) (sR : SemLoc sig) (hR : sR = csem (.pr (slotOf c)))
    {hsc : ((prM.slice (Rect.unit (s := S7x8x32x128) o S1x8x32x128.size h) (fun _ => rfl)).squeeze S8x32x128 squeezes_S1x8x32x128_S8x32x128).view.ref.isScScratch = false} {hsrc : (psM).view.WordExact}
    {hdst : ((prM.slice (Rect.unit (s := S7x8x32x128) o S1x8x32x128.size h) (fun _ => rfl)).squeeze S8x32x128 squeezes_S1x8x32x128_S8x32x128).view.WordExact}
    {hsem : DmaTarget.Typed (nD := nD) (τ := τ) .vmem sR (.remote (Dev.tc n : Thread nD τ) ((prM.slice (Rect.unit (s := S7x8x32x128) o S1x8x32x128.size h) (fun _ => rfl)).squeeze S8x32x128 squeezes_S1x8x32x128_S8x32x128) (csem .ps) hsc)} :
    iprop(env m K ∗ psPts c (pAll (q0F m 0) (kvs m c)) ∗ prPts 0 (slotOf c) f ∗ owesW c (tallyK (((0 : Dev nD), (.pr (slotOf c))) :: l)) ∗ tok c .ps 0 ∗ tok (0 : Dev nD) (.pr (slotOf c)) 0)
      ⊢ iprop(((crd c .ps ∗ owesW c (tallyK l)) -∗ wp frame (wpE (defs₀ (F := F)) 𝒱₀ (c : Thread nD τ) none) Set.univ (kont ⟨⟩) Q)
        -∗ wp frame (wpE (defs₀ (F := F)) 𝒱₀ (c : Thread nD τ) none) Set.univ (.op (.enqueueDma (psM) (.remote (Dev.tc n : Thread nD τ) ((prM.slice (Rect.unit (s := S7x8x32x128) o S1x8x32x128.size h) (fun _ => rfl)).squeeze S8x32x128 squeezes_S1x8x32x128_S8x32x128) (csem .ps) hsc) sR hsrc hdst hsem) kont) Q) := by
  subst ho hR
  exact send_P m K c hc f l n hn

/-! ## The parts -/

set_option maxHeartbeats 1000000 in
/-- The gate unit (of a device other than 0), the two barrier units, the barrier wait, and the copy to the device after. -/
theorem part11_rule {Q : _ → sProp 𝕄} (c : Dev nD) :
    iprop(env m K ∗ owesW c (O₀ c) ∗ (if c = 0 then iprop(emp) else iprop(tok 0 .gate c ∗ (∃ f, qPts c f) ∗ ∃ f, gPts c f))
        ∗ tok (lp c) .bar 0 ∗ tok (rp c) .bar 1 ∗ tok (rp c) (.hr 0) 0 ∗ tok c (.hs 0) 0
        ∗ (∃ f, aPts c f) ∗ (∃ f, bPts c f) ∗ hiPts m c ∗ crd c .bar ∗ opn c .bar)
      ⊢ iprop(((owesW c (tallyK (due₁ c)) ∗ crd c (.hs 0) ∗ zer c .bar ∗ ∃ f, bPts (lp c) f) -∗ Q ⟨c, w2 c, w5 c, w7 c, 1#32⟩)
        -∗ wp frame (wpE (defs₀ (F := F)) 𝒱₀ (c : Thread nD τ) none) Set.univ (k0_part11 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [k0_part11_eq_skeleton]; unfold k0_part11_skel
  simp only [semSignalWord, semWaitWord, Prog.lift, Prog.bind_op, Prog.bind_ret, Prog.pure_eq_ret, wp_deviceId]
  by_cases hc : c = 0
  on_goal 2 =>
    rw [dif_pos ((cond1_iff c).mpr hc), if_neg hc, O₀, dueK_pos c hc]
    iintro ⟨#HE, HO, Hg, Ht0, Ht1, Ht2, Ht3, ⟨%fa, Ha⟩, ⟨%fb, Hb⟩, Hhi, Hc, Ho⟩ Hk
    icases Hg with ⟨Htg, Hq, Hgp⟩
    iapply (signal_step m K c 0 _ .gate c _ _ _ (dev1_eq c ((cond1_iff c).mpr hc)) rfl rfl (gate_mem c hc)) $$ [HO Htg Hq Hgp]
    · isplitr; · iexact HE
      isplitl [HO]; · iexact HO
      isplitl [Htg]; · iexact Htg
      rw [pay_gate]; isplitl [Hq]; · iexact Hq
      iexact Hgp
    iintro HO
  on_goal 1 =>
    rw [dif_neg (fun h => (cond1_iff c).mp h hc), if_pos hc, O₀, show dueK c = (lp c, .bar) :: (rp c, .bar) :: (rp c, .hr 0) :: due₁ c by rw [hc]; exact dueK_zero]
    iintro ⟨#HE, HO, Hg, Ht0, Ht1, Ht2, Ht3, ⟨%fa, Ha⟩, ⟨%fb, Hb⟩, Hhi, Hc, Ho⟩ Hk
  all_goals
    iapply (signal_step m K c (lp c) _ .bar 0 _ _ _ (dev2_eq c) rfl rfl (Finset.mem_insert_self _ _)) $$ [HO Ht0 Ha]
    · isplitr; · iexact HE
      isplitl [HO]; · iexact HO
      isplitl [Ht0]; · iexact Ht0
      rw [pay_bar0, rp_lp]; iexists fa; iexact Ha
    iintro HO
    iapply (signal_step m K c (rp c) _ .bar 1 _ _ _ (dev3_eq c) rfl rfl (Finset.mem_insert_of_mem (Finset.mem_singleton_self _))) $$ [HO Ht1 Hb]
    · isplitr; · iexact HE
      isplitl [HO]; · iexact HO
      isplitl [Ht1]; · iexact Ht1
      rw [pay_bar1, lp_rp]; iexists fb; iexact Hb
    iintro HO
    iapply (wait_step m K c .bar _ (v := 2) (wpE_semWait_eq 𝒱₀ (c : Thread nD τ) none Set.univ) rfl rfl (lvl_due₁ c)) $$ [HO Hc Ho]
    · isplitr; · iexact HE
      isplitl [HO]; · iexact HO
      isplitl [Hc]; · iexact Hc
      iexact Ho
    iintro ⟨HO, Hz, HP⟩
    ihave HP := (got_bar m c) $$ HP
    icases HP with ⟨⟨%gA, HA⟩, HB⟩
    iapply (send_A m K c gA (due₁ c) _ (dev4_eq c)) $$ [HO Ht2 Ht3 Hhi HA]
    · isplitr; · iexact HE
      isplitl [Hhi]; · iexact Hhi
      isplitl [HA]; · iexact HA
      isplitl [HO]; · iexact HO
      isplitl [Ht3]; · iexact Ht3
      iexact Ht2
    iintro ⟨Hcs, HO⟩
    rw [wp_ret]; imodintro
    iapply Hk
    isplitl [HO]; · iexact HO
    isplitl [Hcs]; · iexact Hcs
    isplitl [Hz]; · iexact Hz
    iexact HB

end Cert.KernelIdeal.Attn

end
-- ==== Proof.Buffers.lean ====
/-
# The buffers in parts

How the buffers split into the parts that the protocol moves, and what a store leaves.
-/
module

public import proofs.«01_k».proof.Proof.Parts
public import Idealize.ShloMosaic.Lib.Pipeline.Value

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The stretches of the key/value buffer -/

/-- Columns 0–255 of device `c`'s key/value buffer. -/
def oPts (c : Dev nD) (f : Buf (Elt F) (kcO.view.loc (c : Thread nD τ))) : sProp 𝕄 := kcO.view.loc (c : Thread nD τ) ↦[kcO.view.set]{fullShare} f

theorem mem_kc (n w : ℕ) (h) (i : S16x544x64.Idx) :
    i ∈ (Rect.unit (s := S16x544x64) ![0, n, 0] ![16, w, 64] h).set ↔ n ≤ (i 1).val ∧ (i 1).val < n + w := by
  rw [Rect.mem_set_unit]
  constructor
  · intro H; exact H 1
  · intro H a
    match a with
    | ⟨0, _⟩ => exact ⟨Nat.zero_le _, (i 0).isLt.trans_eq (Nat.zero_add 16).symm⟩
    | ⟨1, _⟩ => exact H
    | ⟨2, _⟩ => exact ⟨Nat.zero_le _, (i 2).isLt.trans_eq (Nat.zero_add 64).symm⟩

theorem mem_kcO (i : S16x544x64.Idx) : i ∈ kcO.view.set ↔ (i 1).val < 256 := by
  rw [show kcO.view.set = _ from View.set_slice_whole _ _, mem_kc]; omega
theorem mem_kcA (i : S16x544x64.Idx) : i ∈ kcA.view.set ↔ 256 ≤ (i 1).val ∧ (i 1).val < 384 := by
  rw [show kcA.view.set = _ from View.set_slice_whole _ _, mem_kc]
theorem mem_kcB (i : S16x544x64.Idx) : i ∈ kcB.view.set ↔ 384 ≤ (i 1).val ∧ (i 1).val < 512 := by
  rw [show kcB.view.set = _ from View.set_slice_whole _ _, mem_kc]
theorem mem_kcG (i : S16x544x64.Idx) : i ∈ kcG.view.set ↔ 512 ≤ (i 1).val := by
  rw [show kcG.view.set = _ from View.set_slice_whole _ _, mem_kc]
  have : (i 1).val < 544 := (i 1).isLt
  omega

theorem kc_univ : (Finset.univ : Finset S16x544x64.Idx) = kcO.view.set ∪ (kcA.view.set ∪ (kcB.view.set ∪ kcG.view.set)) := by
  ext i
  simp only [Finset.mem_union, Finset.mem_univ, true_iff]
  rw [mem_kcO, mem_kcA, mem_kcB, mem_kcG]; omega

theorem kc_disj₁ : Disjoint (kcO.view.set : Finset S16x544x64.Idx) (kcA.view.set ∪ (kcB.view.set ∪ kcG.view.set)) := by
  rw [Finset.disjoint_left]; intro i h1 h2
  simp only [Finset.mem_union] at h2
  rw [mem_kcO] at h1; rw [mem_kcA, mem_kcB, mem_kcG] at h2; omega
theorem kc_disj₂ : Disjoint (kcA.view.set : Finset S16x544x64.Idx) (kcB.view.set ∪ kcG.view.set) := by
  rw [Finset.disjoint_left]; intro i h1 h2
  simp only [Finset.mem_union] at h2
  rw [mem_kcA] at h1; rw [mem_kcB, mem_kcG] at h2; omega
theorem kc_disj₃ : Disjoint (kcB.view.set : Finset S16x544x64.Idx) kcG.view.set := by
  rw [Finset.disjoint_left]; intro i h1 h2
  rw [mem_kcB] at h1; rw [mem_kcG] at h2; omega

omit [FloatOps F] [Named F] in
/-- The key/value buffer is its four stretches. -/
theorem kc_split (c : Dev nD) (f : (cc0_scratch0 : Ref sig .tc).ty.Contents (Elt F)) :
    (kcM.view.loc (c : Thread nD τ) ↦{fullShare} f : sProp 𝕄) ⊣⊢ iprop(oPts c f ∗ aPts c f ∗ bPts c f ∗ gPts c f) := by
  have e : (kcM.view.loc (c : Thread nD τ) ↦{fullShare} f : sProp 𝕄)
      = (kcM.view.loc (c : Thread nD τ) ↦[kcO.view.set ∪ (kcA.view.set ∪ (kcB.view.set ∪ kcG.view.set))]{fullShare} f) :=
    congrArg (fun S => (kcM.view.loc (c : Thread nD τ) ↦[S]{fullShare} f : sProp 𝕄)) kc_univ
  rw [e]
  have h₁ := pointsTo_union (ℓ := kcM.view.loc (c : Thread nD τ)) (q := fullShare) (f := f) (Ix := Unit) (Name := ℕ) (U := UU) (Lvl := ℕ) kc_disj₁
  have h₂ := pointsTo_union (ℓ := kcM.view.loc (c : Thread nD τ)) (q := fullShare) (f := f) (Ix := Unit) (Name := ℕ) (U := UU) (Lvl := ℕ) kc_disj₂
  have h₃ := pointsTo_union (ℓ := kcM.view.loc (c : Thread nD τ)) (q := fullShare) (f := f) (Ix := Unit) (Name := ℕ) (U := UU) (Lvl := ℕ) kc_disj₃
  unfold oPts aPts bPts gPts
  constructor
  · exact h₁.1.trans (sep_mono .rfl (h₂.1.trans (sep_mono .rfl h₃.1)))
  · exact (sep_mono .rfl ((sep_mono .rfl h₃.2).trans h₂.2)).trans h₁.2

/-! ## The keys and values a device starts with -/

theorem mem_kv (n w : ℕ) (h) (i : S16x256x64.Idx) :
    i ∈ (Rect.unit (s := S16x256x64) ![0, n, 0] ![16, w, 64] h).set ↔ n ≤ (i 1).val ∧ (i 1).val < n + w := by
  rw [Rect.mem_set_unit]
  constructor
  · intro H; exact H 1
  · intro H a
    match a with
    | ⟨0, _⟩ => exact ⟨Nat.zero_le _, (i 0).isLt.trans_eq (Nat.zero_add 16).symm⟩
    | ⟨1, _⟩ => exact H
    | ⟨2, _⟩ => exact ⟨Nat.zero_le _, (i 2).isLt.trans_eq (Nat.zero_add 64).symm⟩

theorem mem_kvHi (i : S16x256x64.Idx) : i ∈ kvHi.view.set ↔ 128 ≤ (i 1).val := by
  rw [show kvHi.view.set = _ from View.set_slice_whole _ _, mem_kv]
  have : (i 1).val < 256 := (i 1).isLt
  omega
theorem mem_kvLo (i : S16x256x64.Idx) : i ∈ kvLo.view.set ↔ (i 1).val < 128 := by
  rw [show kvLo.view.set = _ from View.set_slice_whole _ _, mem_kv]; omega

theorem kv_univ : (Finset.univ : Finset S16x256x64.Idx) = kvHi.view.set ∪ kvLo.view.set := by
  ext i
  simp only [Finset.mem_union, Finset.mem_univ, true_iff]
  rw [mem_kvHi, mem_kvLo]; omega
theorem kv_disj : Disjoint (kvHi.view.set : Finset S16x256x64.Idx) kvLo.view.set := by
  rw [Finset.disjoint_left]; intro i h1 h2
  rw [mem_kvHi] at h1; rw [mem_kvLo] at h2; omega

omit [FloatOps F] [Named F] in
/-- The keys and values: the two halves that the halo copies read, and half of the share for the loads. -/
theorem kv_split (c : Dev nD) :
    (kvM.view.loc (c : Thread nD τ) ↦{fullShare} kvs m c : sProp 𝕄) ⊣⊢ iprop((hiPts m c ∗ loPts m c) ∗ kvM.view.loc (c : Thread nD τ) ↦{fullShare.right} kvs m c) := by
  have e : (kvM.view.loc (c : Thread nD τ) ↦{fullShare.left} kvs m c : sProp 𝕄)
      = (kvM.view.loc (c : Thread nD τ) ↦[kvHi.view.set ∪ kvLo.view.set]{fullShare.left} kvs m c) :=
    congrArg (fun S => (kvM.view.loc (c : Thread nD τ) ↦[S]{fullShare.left} kvs m c : sProp 𝕄)) kv_univ
  have h₁ := pointsTo_union (ℓ := kvM.view.loc (c : Thread nD τ)) (q := fullShare.left) (f := kvs m c) (Ix := Unit) (Name := ℕ) (U := UU) (Lvl := ℕ) kv_disj
  rw [← e] at h₁
  have h₂ := pointsTo_share (ℓ := kvM.view.loc (c : Thread nD τ)) (I := Finset.univ) (f := kvs m c) (Ix := Unit) (Name := ℕ) (U := UU) (Lvl := ℕ) (PosShare.mem_left_op_right fullShare)
  unfold hiPts loPts
  constructor
  · exact h₂.1.trans (sep_mono h₁.1 .rfl)
  · exact (sep_mono h₁.2 .rfl).trans h₂.2

/-- The rest of the quarter share that device 0's copies of its first keys read from: leaf 7, and the other columns. -/
def gsRest : sProp 𝕄 := iprop(gsPts m 0 7 ∗ kvM.view.loc ((0 : Dev nD) : Thread nD τ) ↦[Finset.univ \ kvG.view.set]{fullShare.right.left} kvs m 0)

omit [FloatOps F] [Named F] in
/-- Device 0's half share: seven leaves on its first 32 columns, and a quarter for the loads. -/
theorem kv_split0 :
    (kvM.view.loc ((0 : Dev nD) : Thread nD τ) ↦{fullShare.right} kvs m 0 : sProp 𝕄)
      ⊣⊢ iprop(((gsPts m 0 0 ∗ gsPts m 0 1 ∗ gsPts m 0 2 ∗ gsPts m 0 3 ∗ gsPts m 0 4 ∗ gsPts m 0 5 ∗ gsPts m 0 6) ∗ gsRest m)
        ∗ kvM.view.loc ((0 : Dev nD) : Thread nD τ) ↦{fullShare.right.right} kvs m 0) := by
  have h₂ := pointsTo_share (ℓ := kvM.view.loc ((0 : Dev nD) : Thread nD τ)) (I := Finset.univ) (f := kvs m 0) (Ix := Unit) (Name := ℕ) (U := UU) (Lvl := ℕ) (PosShare.mem_left_op_right fullShare.right)
  have h₃ := pointsTo_split_subset (ℓ := kvM.view.loc ((0 : Dev nD) : Thread nD τ)) (q := fullShare.right.left) (f := kvs m 0) (Ix := Unit) (Name := ℕ) (U := UU) (Lvl := ℕ) (Finset.subset_univ kvG.view.set)
  have h₄ : (kvM.view.loc ((0 : Dev nD) : Thread nD τ) ↦[kvG.view.set]{fullShare.right.left} kvs m 0 : sProp 𝕄)
      = iprop(gsPts m 0 0 ∗ gsPts m 0 1 ∗ gsPts m 0 2 ∗ gsPts m 0 3 ∗ gsPts m 0 4 ∗ gsPts m 0 5 ∗ gsPts m 0 6 ∗ gsPts m 0 7) :=
    (ShareLeaves.pointsTo_leaves _ _ 3 _).trans (bigSep_univ_eq_bigSepL [0, 1, 2, 3, 4, 5, 6, 7] (by decide) (by decide) _)
  rw [h₄] at h₃
  unfold gsRest
  constructor
  · refine h₂.1.trans (sep_mono (h₃.1.trans ?_) .rfl)
    iintro ⟨⟨H0, H1, H2, H3, H4, H5, H6, H7⟩, H⟩
    isplitl [H0 H1 H2 H3 H4 H5 H6]
    · iframe
    iframe
  · refine BIBase.Entails.trans (sep_mono (BIBase.Entails.trans ?_ h₃.2) .rfl) h₂.2
    iintro ⟨⟨H0, H1, H2, H3, H4, H5, H6⟩, H7, H⟩
    isplitl [H0 H1 H2 H3 H4 H5 H6 H7]
    · iframe
    iframe

omit [Named F] in
/-- Device 0's queries: eight leaves. -/
theorem q_split0 : (qPts 0 (q0F m 0) : sProp 𝕄)
      = iprop(qsPts m 0 0 ∗ qsPts m 0 1 ∗ qsPts m 0 2 ∗ qsPts m 0 3 ∗ qsPts m 0 4 ∗ qsPts m 0 5 ∗ qsPts m 0 6 ∗ qsPts m 0 7) :=
  (ShareLeaves.pointsTo_leaves _ _ 3 _).trans (bigSep_univ_eq_bigSepL [0, 1, 2, 3, 4, 5, 6, 7] (by decide) (by decide) _)

/-! ## The slots of the partial buffer -/

theorem mem_slot (i : Fin 7) (x : S7x8x32x128.Idx) : x ∈ (prS i).view.set ↔ x 0 = i := by
  rw [show (prS i).view.set = _ from (View.set_reshape _ _).trans (View.set_slice_whole _ _), Rect.mem_set_unit]
  constructor
  · intro H; have := H 0; exact Fin.ext (by have h1 : i.val ≤ (x 0).val := this.1; have h2 : (x 0).val < i.val + 1 := this.2; omega)
  · rintro rfl a
    match a with
    | ⟨0, _⟩ => exact ⟨Nat.le_refl _, Nat.lt_succ_self _⟩
    | ⟨1, _⟩ => exact ⟨Nat.zero_le _, (x 1).isLt.trans_eq (Nat.zero_add 8).symm⟩
    | ⟨2, _⟩ => exact ⟨Nat.zero_le _, (x 2).isLt.trans_eq (Nat.zero_add 32).symm⟩
    | ⟨3, _⟩ => exact ⟨Nat.zero_le _, (x 3).isLt.trans_eq (Nat.zero_add 128).symm⟩

omit [FloatOps F] [Named F] in
/-- Device 0's partial buffer is its seven slots. -/
theorem pr_split (f : (cc0_scratch3 : Ref sig .tc).ty.Contents (Elt F)) : (prM.view.loc ((0 : Dev nD) : Thread nD τ) ↦{fullShare} f : sProp 𝕄)
      = iprop(prPts 0 0 f ∗ prPts 0 1 f ∗ prPts 0 2 f ∗ prPts 0 3 f ∗ prPts 0 4 f ∗ prPts 0 5 f ∗ prPts 0 6 f) := by
  have e : (Finset.univ : Finset S7x8x32x128.Idx) = Finset.univ.biUnion fun i : Fin 7 => ((prS i).view.set : Finset S7x8x32x128.Idx) := by
    ext x; simp only [Finset.mem_univ, Finset.mem_biUnion, true_and, true_iff]; exact ⟨x 0, (mem_slot _ _).mpr rfl⟩
  have h := pointsTo_biUnion (ℓ := prM.view.loc ((0 : Dev nD) : Thread nD τ)) (q := fullShare) (f := f) (Ix := Unit) (Name := ℕ) (U := UU) (Lvl := ℕ) Finset.univ
    (fun i : Fin 7 => ((prS i).view.set : Finset S7x8x32x128.Idx)) (fun t _ t' _ hne => by
      rw [Finset.disjoint_left]; intro x h1 h2
      exact hne (((mem_slot _ _).mp h1).symm.trans ((mem_slot _ _).mp h2)))
  exact ((congrArg (fun S => (prM.view.loc ((0 : Dev nD) : Thread nD τ) ↦[S]{fullShare} f : sProp 𝕄)) e).trans h).trans
    (bigSep_univ_eq_bigSepL [0, 1, 2, 3, 4, 5, 6] (by decide) (by decide) _)

/-! ## What the stores leave -/

section Stores
variable (c : Dev nD)

theorem pay25_eq (v : Vec F S16x256x64 .bf16) : k0_pay25 v = v := by
  unfold k0_pay25; dsimp only; rw [shapeCast_self, shapeCast_self]
theorem pay3_eq (v : Vec F S16x32x64 .bf16) : k0_pay3 v = v := by
  unfold k0_pay3; dsimp only; rw [shapeCast_self, shapeCast_self]

/-- The device's own keys and values, stored into columns 0–255. -/
theorem store_O (f : Buf (Elt F) (kcO.view.loc (c : Thread nD τ))) :
    (kcO.view.loc (c : Thread nD τ) ↦[kcO.view.set]{fullShare} ((kcM.access (Rect.unit (s := S16x544x64) ![0, 0, 0] S16x256x64.size inb_S16x544x64_S16x256x64_0_0_0)).write (Elt F) f
        (k0_pay25 (kvM.view.readAt (Elt F) (Rect.unit (s := S16x256x64) ![0, 0, 0] S16x256x64.size inb_S16x256x64_S16x256x64_0_0_0).toLoadRect (kvs m c))) Finset.univ) : sProp 𝕄)
      ⊢ oPts c (kcF m c) := by
  unfold oPts
  refine Entails.of_eq (pointsTo_congr fun i hi => ?_)
  obtain ⟨j, -, rfl⟩ := Finset.mem_map.mp hi
  refine (View.write_emb_of_mem (v := kcM.access (Rect.unit (s := S16x544x64) ![0, 0, 0] S16x256x64.size inb_S16x544x64_S16x256x64_0_0_0)) _ _ (Finset.mem_univ j)).trans ?_
  rw [pay25_eq]
  have e1 : ((kcO.view.emb j) (1 : Fin 3)).val = (j (1 : Fin 3)).val := by show 0 + 1 * (j (1 : Fin 3)).val = _; omega
  have hj : (j (1 : Fin 3)).val < 256 := (j (1 : Fin 3)).isLt
  unfold kcF
  rw [dif_pos (by rw [e1]; exact hj)]
  show kvs m c _ = kvs m c _
  congr 1; funext a; apply Fin.ext
  match a with
  | ⟨0, _⟩ => rfl
  | ⟨1, _⟩ => rfl
  | ⟨2, _⟩ => rfl

/-- Device 0's first keys and values, stored into its own columns 512–543. -/
theorem store_G (f : Buf (Elt F) (kcG.view.loc ((0 : Dev nD) : Thread nD τ))) :
    (kcG.view.loc ((0 : Dev nD) : Thread nD τ) ↦[kcG.view.set]{fullShare} ((kcM.access (Rect.unit (s := S16x544x64) ![0, 512, 0] S16x32x64.size inb_S16x544x64_S16x32x64_0_512_0)).write (Elt F) f
        (k0_pay3 (kvM.view.readAt (Elt F) (Rect.unit (s := S16x256x64) ![0, 0, 0] S16x32x64.size inb_S16x256x64_S16x32x64_0_0_0).toLoadRect (kvs m 0))) Finset.univ) : sProp 𝕄)
      ⊢ gPts 0 (kcF m 0) := by
  rw [pay3_eq]
  exact land_G m 0 f

/-- Device 0's queries, stored one batch after the other. -/
theorem store_q (f : (cc0_scratch1 : Ref sig .tc).ty.Contents (Elt F)) :
    (q0M.access (Rect.unit (s := S2x32x256) ![1, 0, 0] S1x32x256.size inb_S2x32x256_S1x32x256_1_0_0)).write (Elt F)
      ((q0M.access (Rect.unit (s := S2x32x256) ![0, 0, 0] S1x32x256.size inb_S2x32x256_S1x32x256_0_0_0)).write (Elt F) f
        (k0_pay1 (ldX32 (xs m c) 0 inb_S2x256x512_S1x32x512_0_0_0) (ldWq (wqs m c))) Finset.univ)
      (k0_pay2 (ldX32 (xs m c) 1 inb_S2x256x512_S1x32x512_1_0_0) (ldWq (wqs m c))) Finset.univ = q0F m c := by
  funext i
  have h0 : (i (0 : Fin 3)).val < 2 := (i (0 : Fin 3)).isLt
  have hi : ∀ (b : ℕ) (hb : ∀ a, (![b, 0, 0] : Fin 3 → ℕ) a + S1x32x256.size a ≤ S2x32x256.size a), (i (0 : Fin 3)).val = b →
      i = (q0M.access (Rect.unit (s := S2x32x256) ![b, 0, 0] S1x32x256.size hb)).emb (fun a => match a with | ⟨0, _⟩ => (0 : Fin 1) | ⟨1, _⟩ => i 1 | ⟨2, _⟩ => i 2) := by
    intro b hb e
    funext a; apply Fin.ext
    match a with
    | ⟨0, _⟩ => show (i (0 : Fin 3)).val = b + 1 * 0; omega
    | ⟨1, _⟩ => show (i (1 : Fin 3)).val = 0 + 1 * (i (1 : Fin 3)).val; omega
    | ⟨2, _⟩ => show (i (2 : Fin 3)).val = 0 + 1 * (i (2 : Fin 3)).val; omega
  unfold q0F
  by_cases e : (i (0 : Fin 3)).val = 0
  · rw [if_pos e]
    rw [View.write_of_not_mem _ _ _ (fun h => by
      obtain ⟨j, -, hj⟩ := Finset.mem_map.mp h
      have h1 : 1 + 1 * (j (0 : Fin 3)).val = (i (0 : Fin 3)).val := congrArg (fun k => (k (0 : Fin 3)).val) hj
      rw [e] at h1; omega)]
    refine (congrArg _ (hi 0 inb_S2x32x256_S1x32x256_0_0_0 e)).trans ?_
    exact View.write_emb_of_mem (v := q0M.access (Rect.unit (s := S2x32x256) ![0, 0, 0] S1x32x256.size inb_S2x32x256_S1x32x256_0_0_0)) _ _ (Finset.mem_univ _)
  · rw [if_neg e]
    refine (congrArg _ (hi 1 inb_S2x32x256_S1x32x256_1_0_0 (by omega))).trans ?_
    exact View.write_emb_of_mem _ _ (Finset.mem_univ _)

end Stores

/-- A load from a stretch of the key/value buffer reads inside the stretch. -/
theorem setOn_kc {n w : ℕ} {h} {i : S16x544x64.Idx} (hi : i ∈ kcM.view.setOn (Rect.unit (s := S16x544x64) ![0, n, 0] ![16, w, 64] h).toLoadRect.set) :
    i ∈ (Rect.unit (s := S16x544x64) ![0, n, 0] ![16, w, 64] h).set := by
  obtain ⟨j, hj, rfl⟩ := Finset.mem_map.mp hi
  exact hj

omit [FloatOps F] [Named F] in
/-- The query buffer, whole. -/
theorem qPts_eq (c : Dev nD) (f : (cc0_scratch1 : Ref sig .tc).ty.Contents (Elt F)) : (qPts c f : sProp 𝕄) = (q0M.view.loc (c : Thread nD τ) ↦{fullShare} f) := by
  unfold qPts; rw [View.set_whole]
omit [Named F] in
theorem qsPts_eq (i : Fin 8) : (qsPts m 0 i : sProp 𝕄) = (q0M.view.loc ((0 : Dev nD) : Thread nD τ) ↦{ShareLeaves.leaf 3 fullShare i} q0F m 0) := by
  unfold qsPts; rw [View.set_whole]
omit [Named F] in
theorem q_split0' : (q0M.view.loc ((0 : Dev nD) : Thread nD τ) ↦{fullShare} q0F m 0 : sProp 𝕄)
      = iprop(qsPts m 0 0 ∗ qsPts m 0 1 ∗ qsPts m 0 2 ∗ qsPts m 0 3 ∗ qsPts m 0 4 ∗ qsPts m 0 5 ∗ qsPts m 0 6 ∗ qsPts m 0 7) :=
  (qPts_eq 0 (q0F m 0)).symm.trans (q_split0 m)

/-- The packed partial, stored whole. -/
theorem store_ps (c : Dev nD) (f : (cc0_scratch2 : Ref sig .tc).ty.Contents (Elt F)) (q : (cc0_scratch1 : Ref sig .tc).ty.Contents (Elt F)) (kv : (cc0_stg2_0 : Ref sig .tc).ty.Contents (Elt F)) (hq : q = q0F m 0) (hkv : kv = kvs m c) :
    (psM.view.loc (c : Thread nD τ) ↦{fullShare} ((psM.access (Rect.unit (s := S8x32x128) ![0, 0, 0] S8x32x128.size inb_S8x32x128_S8x32x128_0_0_0)).write (Elt F) f (pAll q kv) Finset.univ) : sProp 𝕄)
      ⊢ psPts c (pAll (q0F m 0) (kvs m c)) := by
  subst hq hkv
  unfold psPts; rw [View.set_whole]
  refine Entails.of_eq (congrArg (fun f => (psM.view.loc (c : Thread nD τ) ↦{fullShare} f : sProp 𝕄)) ?_)
  funext i
  have hi : i = (psM.access (Rect.unit (s := S8x32x128) ![0, 0, 0] S8x32x128.size inb_S8x32x128_S8x32x128_0_0_0)).emb i := by
    funext a; apply Fin.ext
    match a with
    | ⟨0, _⟩ => show (i (0 : Fin 3)).val = 0 + 1 * (i (0 : Fin 3)).val; omega
    | ⟨1, _⟩ => show (i (1 : Fin 3)).val = 0 + 1 * (i (1 : Fin 3)).val; omega
    | ⟨2, _⟩ => show (i (2 : Fin 3)).val = 0 + 1 * (i (2 : Fin 3)).val; omega
  refine (congrArg _ hi).trans ?_
  exact View.write_emb_of_mem (v := psM.access (Rect.unit (s := S8x32x128) ![0, 0, 0] S8x32x128.size inb_S8x32x128_S8x32x128_0_0_0)) _ _ (Finset.mem_univ _)

end Cert.KernelIdeal.Attn

end
-- ==== Proof.Zero.lean ====
/-
# Device 0's parts
-/
module

public import proofs.«01_k».proof.Proof.Comm
public import proofs.«01_k».proof.Proof.Buffers

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Cell → ℕ)

/-- A wait for a transfer cell's one duty: what the duty hands over, and the cell closed. -/
theorem wait_dma {α : Type} {Q : α → sProp 𝕄} {kont : PUnit → Prog (TpuEff nD τ sig (Elt F) Λ₀ .tc) α} (c : Dev nD) (k : Cell) (l : List (Dev nD × Cell)) {sp sp' : Space} {s s' : Shape} {e e' : EltTy} {sem : DmaSem sig}
    {src : Memref sig .tc sp' s' e'} (dst : Memref sig .tc sp s e) {hsrc : src.view.WordExact} {hdst : dst.view.WordExact}
    (hs : SemLoc.dma sem = csem k) (hN : dst.view.dmaCredit = amt k) (hd : dut c k = {0}) (hl : ∀ ck ∈ l, lvl k < lvl ck.2) :
    iprop(env m K ∗ owesW c (tallyK l) ∗ crd c k ∗ opn c k)
      ⊢ iprop(((owesW c (tallyK l) ∗ zer c k ∗ pay m c 0 k) -∗ wp frame (wpE (defs₀ (F := F)) 𝒱₀ (c : Thread nD τ) none) Set.univ (kont ⟨⟩) Q)
        -∗ wp frame (wpE (defs₀ (F := F)) 𝒱₀ (c : Thread nD τ) none) Set.univ (.op (.waitDma2 sem src dst hsrc hdst) kont) Q) := by
  iintro H Hk
  iapply (wait_step m K c k l (v := dst.view.dmaCredit) (wpE_waitDma2_eq 𝒱₀ (c : Thread nD τ) none Set.univ) hs (by rw [hd, hN, Finset.card_singleton, Nat.one_mul]) hl) $$ H
  iintro ⟨HO, Hz, HP⟩
  ihave HP := (got_one m c k hd) $$ HP
  iapply Hk
  isplitl [HO]; · iexact HO
  isplitl [Hz]; · iexact Hz
  iexact HP

/-! ## Device 0: its queries and its first keys and values to everyone -/

/-- What one copy of device 0's queries needs: a leaf of the queries, the target's buffer and the two duties; with it goes the
    slot of the partial buffer that the target will fill. -/
def QR (i : Fin 7) : sProp 𝕄 := iprop(qsPts m 0 i.castSucc ∗ (∃ f, qPts (devOf i) f) ∗ (∃ f, prPts 0 i f) ∗ tok 0 (.qs i) 0 ∗ tok (devOf i) .qr 0)
/-- What one copy of device 0's first keys and values needs. -/
def GR (i : Fin 7) : sProp 𝕄 := iprop(gsPts m 0 i.castSucc ∗ (∃ f, gPts (devOf i) f) ∗ tok 0 (.gs i) 0 ∗ tok (devOf i) .gr 0)

theorem devOf_ne (i : Fin 7) : devOf i ≠ 0 := by revert i; decide

theorem send_QR {α : Type} {Q : α → sProp 𝕄} {kont : PUnit → Prog (TpuEff nD τ sig (Elt F) Λ₀ .tc) α} (i : Fin 7) (l : List (Dev nD × Cell)) (n : Dev nD) (hn : n = devOf i)
    {hsc : (q0M).view.ref.isScScratch = false} {hsrc : (q0M).view.WordExact} {hdst : (q0M).view.WordExact}
    {hsem : DmaTarget.Typed (nD := nD) (τ := τ) .vmem (csem .qr) (.remote (Dev.tc n : Thread nD τ) (q0M) (csem (.qs i)) hsc)} :
    iprop(env m K ∗ owesW (0 : Dev nD) (tallyK ((devOf i, .qr) :: l)) ∗ QR m i)
      ⊢ iprop(((crd (0 : Dev nD) (.qs i) ∗ owesW (0 : Dev nD) (tallyK l)) -∗ wp frame (wpE (defs₀ (F := F)) 𝒱₀ ((0 : Dev nD) : Thread nD τ) none) Set.univ (kont ⟨⟩) Q)
        -∗ wp frame (wpE (defs₀ (F := F)) 𝒱₀ ((0 : Dev nD) : Thread nD τ) none) Set.univ (.op (.enqueueDma (q0M) (.remote (Dev.tc n : Thread nD τ) (q0M) (csem (.qs i)) hsc) (csem .qr) hsrc hdst hsem) kont) Q) := by
  unfold QR
  iintro ⟨#HE, HO, Hs, ⟨%f, Hd⟩, Hp, Ht, Ht'⟩
  iapply (send_Q m K i (devOf i) (devOf_ne i) f l n hn)
  rw [slotOf_devOf]
  isplitr; · iexact HE
  isplitl [Hs]; · iexact Hs
  isplitl [Hd]; · iexact Hd
  isplitl [Hp]; · iexact Hp
  isplitl [HO]; · iexact HO
  isplitl [Ht]; · iexact Ht
  iexact Ht'

theorem send_GR {α : Type} {Q : α → sProp 𝕄} {kont : PUnit → Prog (TpuEff nD τ sig (Elt F) Λ₀ .tc) α} (i : Fin 7) (l : List (Dev nD × Cell)) (n : Dev nD) (hn : n = devOf i)
    {hsc : (kcG).view.ref.isScScratch = false} {hsrc : (kvG).view.WordExact} {hdst : (kcG).view.WordExact}
    {hsem : DmaTarget.Typed (nD := nD) (τ := τ) .vmem (csem .gr) (.remote (Dev.tc n : Thread nD τ) (kcG) (csem (.gs i)) hsc)} :
    iprop(env m K ∗ owesW (0 : Dev nD) (tallyK ((devOf i, .gr) :: l)) ∗ GR m i)
      ⊢ iprop(((crd (0 : Dev nD) (.gs i) ∗ owesW (0 : Dev nD) (tallyK l)) -∗ wp frame (wpE (defs₀ (F := F)) 𝒱₀ ((0 : Dev nD) : Thread nD τ) none) Set.univ (kont ⟨⟩) Q)
        -∗ wp frame (wpE (defs₀ (F := F)) 𝒱₀ ((0 : Dev nD) : Thread nD τ) none) Set.univ (.op (.enqueueDma (kvG) (.remote (Dev.tc n : Thread nD τ) (kcG) (csem (.gs i)) hsc) (csem .gr) hsrc hdst hsem) kont) Q) := by
  unfold GR
  iintro ⟨#HE, HO, Hs, ⟨%f, Hd⟩, Ht, Ht'⟩
  iapply (send_G m K i (devOf i) (devOf_ne i) f l n hn)
  isplitr; · iexact HE
  isplitl [Hs]; · iexact Hs
  isplitl [Hd]; · iexact Hd
  isplitl [HO]; · iexact HO
  isplitl [Ht]; · iexact Ht
  iexact Ht'

/-- What every other device hands over at the gate: its query buffer and columns 512–543 of its key/value buffer. -/
def GT (i : Fin 7) : sProp 𝕄 := iprop((∃ f, qPts (F := F) (devOf i) f) ∗ ∃ f, gPts (F := F) (devOf i) f)

omit [Named F] in
theorem got_gate : (bigSep (dut 0 .gate) fun d => pay m 0 d .gate) ⊢ iprop(GT 0 ∗ GT 1 ∗ GT 2 ∗ GT 3 ∗ GT 4 ∗ GT 5 ∗ GT 6) := by
  rw [show dut 0 .gate = {1, 2, 3, 4, 5, 6, 7} from rfl]
  rw [bigSep_insert (by decide), bigSep_insert (by decide), bigSep_insert (by decide), bigSep_insert (by decide), bigSep_insert (by decide), bigSep_insert (by decide), bigSep_singleton]
  exact .rfl

/-- Device 0's debts after its halo copies. -/
abbrev dueQ : List (Dev nD × Cell) := [(devOf 0, .qr), (devOf 1, .qr), (devOf 2, .qr), (devOf 3, .qr), (devOf 4, .qr), (devOf 5, .qr), (devOf 6, .qr), (devOf 0, .gr), (devOf 1, .gr), (devOf 2, .gr), (devOf 3, .gr), (devOf 4, .gr), (devOf 5, .gr), (devOf 6, .gr)]
abbrev dueG : List (Dev nD × Cell) := [(devOf 0, .gr), (devOf 1, .gr), (devOf 2, .gr), (devOf 3, .gr), (devOf 4, .gr), (devOf 5, .gr), (devOf 6, .gr)]
abbrev dueG₄ : List (Dev nD × Cell) := [(devOf 4, .gr), (devOf 5, .gr), (devOf 6, .gr)]

set_option maxHeartbeats 1000000 in
/-- Device 0 computes its queries, copies its first keys and values into its own buffer, and waits for the gate. -/
theorem part1_rule {Q : _ → sProp 𝕄} (s : PosShare TreeShare) :
    iprop(env m K ∗ owesW (0 : Dev nD) (tallyK dueQ) ∗ crd 0 .gate ∗ opn 0 .gate ∗ (xM.view.loc ((0 : Dev nD) : Thread nD τ) ↦{fullShare} xs m 0) ∗ (wqM.view.loc ((0 : Dev nD) : Thread nD τ) ↦{fullShare} wqs m 0) ∗ (kvM.view.loc ((0 : Dev nD) : Thread nD τ) ↦{s} kvs m 0)
        ∗ (∃ f, (q0M.view.loc ((0 : Dev nD) : Thread nD τ) ↦{fullShare} f)) ∗ (∃ f, gPts 0 f))
      ⊢ iprop(((owesW (0 : Dev nD) (tallyK dueQ) ∗ zer 0 .gate ∗ (xM.view.loc ((0 : Dev nD) : Thread nD τ) ↦{fullShare} xs m 0) ∗ (wqM.view.loc ((0 : Dev nD) : Thread nD τ) ↦{fullShare} wqs m 0) ∗ (kvM.view.loc ((0 : Dev nD) : Thread nD τ) ↦{s} kvs m 0)
          ∗ (q0M.view.loc ((0 : Dev nD) : Thread nD τ) ↦{fullShare} q0F m 0) ∗ gPts 0 (kcF m 0) ∗ GT 0 ∗ GT 1 ∗ GT 2 ∗ GT 3 ∗ GT 4 ∗ GT 5 ∗ GT 6) -∗ Q (Scalar.muli 1#32 1#32))
        -∗ wp frame (wpE (defs₀ (F := F)) 𝒱₀ ((0 : Dev nD) : Thread nD τ) none) Set.univ (k0_part1 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [k0_part1_eq_skeleton]; unfold k0_part1_skel
  simp only [semWaitWord, Prog.lift, Prog.bind_op, Prog.bind_ret, Prog.pure_eq_ret]
  iintro ⟨#HE, HO, Hc, Ho, Hx, Hwq, Hkv, ⟨%fq, Hq⟩, ⟨%fg, Hg⟩⟩ Hk
  iapply (wp_load 𝒱₀ ((0 : Dev nD) : Thread nD τ) none Set.univ (m := xM) (Finset.subset_univ _)) $$ Hx; iintro Hx
  iapply (wp_load 𝒱₀ ((0 : Dev nD) : Thread nD τ) none Set.univ (m := wqM) (Finset.subset_univ _)) $$ Hwq; iintro Hwq
  iapply (wp_load 𝒱₀ ((0 : Dev nD) : Thread nD τ) none Set.univ (m := q0M) (Finset.subset_univ _)) $$ Hq; iintro Hq
  iapply (wp_store 𝒱₀ ((0 : Dev nD) : Thread nD τ) none Set.univ (m := q0M) (r := Rect.unit (s := S2x32x256) ![0, 0, 0] S1x32x256.size inb_S2x32x256_S1x32x256_0_0_0) (Mk := Finset.univ) (Finset.subset_univ _)) $$ Hq; iintro Hq
  iapply (wp_load 𝒱₀ ((0 : Dev nD) : Thread nD τ) none Set.univ (m := xM) (Finset.subset_univ _)) $$ Hx; iintro Hx
  iapply (wp_load 𝒱₀ ((0 : Dev nD) : Thread nD τ) none Set.univ (m := wqM) (Finset.subset_univ _)) $$ Hwq; iintro Hwq
  iapply (wp_load 𝒱₀ ((0 : Dev nD) : Thread nD τ) none Set.univ (m := q0M) (Finset.subset_univ _)) $$ Hq; iintro Hq
  iapply (wp_store 𝒱₀ ((0 : Dev nD) : Thread nD τ) none Set.univ (m := q0M) (r := Rect.unit (s := S2x32x256) ![1, 0, 0] S1x32x256.size inb_S2x32x256_S1x32x256_1_0_0) (Mk := Finset.univ) (Finset.subset_univ _)) $$ Hq; iintro Hq
  iapply (wp_load 𝒱₀ ((0 : Dev nD) : Thread nD τ) none Set.univ (m := kvM) (Finset.subset_univ _)) $$ Hkv; iintro Hkv
  unfold gPts
  iapply (wp_load 𝒱₀ ((0 : Dev nD) : Thread nD τ) none Set.univ (m := kcM) (S := kcG.view.set) (fun i hi => by rw [show kcG.view.set = _ from View.set_slice_whole _ _]; exact setOn_kc hi)) $$ Hg; iintro Hg
  iapply (wp_store 𝒱₀ ((0 : Dev nD) : Thread nD τ) none Set.univ (m := kcM) (r := Rect.unit (s := S16x544x64) ![0, 512, 0] S16x32x64.size inb_S16x544x64_S16x32x64_0_512_0) (Mk := Finset.univ) (S := kcG.view.set) (fun _ h => h)) $$ Hg; iintro Hg
  ihave Hg := (store_G m fg) $$ Hg
  iapply (wait_step m K 0 .gate dueQ (v := 7) (wpE_semWait_eq 𝒱₀ ((0 : Dev nD) : Thread nD τ) none Set.univ) rfl rfl (by decide)) $$ [HO Hc Ho]
  · isplitr; · iexact HE
    isplitl [HO]; · iexact HO
    isplitl [Hc]; · iexact Hc
    iexact Ho
  iintro ⟨HO, Hz, HP⟩
  ihave HP := (got_gate m) $$ HP
  rw [wp_ret]; imodintro
  iapply Hk
  isplitl [HO]; · iexact HO
  isplitl [Hz]; · iexact Hz
  isplitl [Hx]; · iexact Hx
  isplitl [Hwq]; · iexact Hwq
  isplitl [Hkv]; · iexact Hkv
  isplitl [Hq]; · iapply (Entails.of_eq (congrArg (fun f => (q0M.view.loc ((0 : Dev nD) : Thread nD τ) ↦{fullShare} f)) (store_q m 0 fq))); iexact Hq
  isplitl [Hg]; · unfold gPts; iexact Hg
  iexact HP

set_option maxHeartbeats 1000000 in
/-- Device 0's seven copies of its queries. -/
theorem part2_rule {Q : _ → sProp 𝕄} (h : k0_cond2 (0 : Dev nD) = 1#1) (v : BitVec 32) :
    iprop(env m K ∗ owesW (0 : Dev nD) (tallyK dueQ) ∗ QR m 0 ∗ QR m 1 ∗ QR m 2 ∗ QR m 3 ∗ QR m 4 ∗ QR m 5 ∗ QR m 6)
      ⊢ iprop(((owesW (0 : Dev nD) (tallyK dueG) ∗ crd 0 (.qs 0) ∗ crd 0 (.qs 1) ∗ crd 0 (.qs 2) ∗ crd 0 (.qs 3) ∗ crd 0 (.qs 4) ∗ crd 0 (.qs 5) ∗ crd 0 (.qs 6)) -∗ Q ⟨⟩)
        -∗ wp frame (wpE (defs₀ (F := F)) 𝒱₀ ((0 : Dev nD) : Thread nD τ) none) Set.univ (k0_part2 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 0 h v) Q) := by
  rw [k0_part2_eq_skeleton]; unfold k0_part2_skel
  simp only [Prog.lift, Prog.bind_op, Prog.bind_ret, Prog.pure_eq_ret]
  iintro ⟨#HE, HO, H0, H1, H2, H3, H4, H5, H6⟩ Hk
  iapply (send_QR m K 0 _ _ (dev6_eq 0 h)) $$ [HO H0]
  · isplitr; · iexact HE
    isplitl [HO]; · iexact HO
    iexact H0
  iintro ⟨C0, HO⟩
  iapply (send_QR m K 1 _ _ (dev7_eq 0 h)) $$ [HO H1]
  · isplitr; · iexact HE
    isplitl [HO]; · iexact HO
    iexact H1
  iintro ⟨C1, HO⟩
  iapply (send_QR m K 2 _ _ (dev8_eq 0 h)) $$ [HO H2]
  · isplitr; · iexact HE
    isplitl [HO]; · iexact HO
    iexact H2
  iintro ⟨C2, HO⟩
  iapply (send_QR m K 3 _ _ (dev9_eq 0 h)) $$ [HO H3]
  · isplitr; · iexact HE
    isplitl [HO]; · iexact HO
    iexact H3
  iintro ⟨C3, HO⟩
  iapply (send_QR m K 4 _ _ (dev10_eq 0 h)) $$ [HO H4]
  · isplitr; · iexact HE
    isplitl [HO]; · iexact HO
    iexact H4
  iintro ⟨C4, HO⟩
  iapply (send_QR m K 5 _ _ (dev11_eq 0 h)) $$ [HO H5]
  · isplitr; · iexact HE
    isplitl [HO]; · iexact HO
    iexact H5
  iintro ⟨C5, HO⟩
  iapply (send_QR m K 6 _ _ (dev12_eq 0 h)) $$ [HO H6]
  · isplitr; · iexact HE
    isplitl [HO]; · iexact HO
    iexact H6
  iintro ⟨C6, HO⟩
  rw [wp_ret]; imodintro
  iapply Hk
  isplitl [HO]; · iexact HO
  isplitl [C0]; · iexact C0
  isplitl [C1]; · iexact C1
  isplitl [C2]; · iexact C2
  isplitl [C3]; · iexact C3
  isplitl [C4]; · iexact C4
  isplitl [C5]; · iexact C5
  iexact C6

set_option maxHeartbeats 1000000 in
/-- Device 0's first four copies of its first keys and values. -/
theorem part3_rule {Q : _ → sProp 𝕄} (h : k0_cond2 (0 : Dev nD) = 1#1) :
    iprop(env m K ∗ owesW (0 : Dev nD) (tallyK dueG) ∗ GR m 0 ∗ GR m 1 ∗ GR m 2 ∗ GR m 3)
      ⊢ iprop(((owesW (0 : Dev nD) (tallyK dueG₄) ∗ crd 0 (.gs 0) ∗ crd 0 (.gs 1) ∗ crd 0 (.gs 2) ∗ crd 0 (.gs 3)) -∗ Q (Scalar.muli 5#32 1#32))
        -∗ wp frame (wpE (defs₀ (F := F)) 𝒱₀ ((0 : Dev nD) : Thread nD τ) none) Set.univ (k0_part3 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 0 h) Q) := by
  rw [k0_part3_eq_skeleton]; unfold k0_part3_skel
  simp only [Prog.lift, Prog.bind_op, Prog.bind_ret, Prog.pure_eq_ret]
  iintro ⟨#HE, HO, H0, H1, H2, H3⟩ Hk
  iapply (send_GR m K 0 _ _ (dev13_eq 0 h)) $$ [HO H0]
  · isplitr; · iexact HE
    isplitl [HO]; · iexact HO
    iexact H0
  iintro ⟨C0, HO⟩
  iapply (send_GR m K 1 _ _ (dev14_eq 0 h)) $$ [HO H1]
  · isplitr; · iexact HE
    isplitl [HO]; · iexact HO
    iexact H1
  iintro ⟨C1, HO⟩
  iapply (send_GR m K 2 _ _ (dev15_eq 0 h)) $$ [HO H2]
  · isplitr; · iexact HE
    isplitl [HO]; · iexact HO
    iexact H2
  iintro ⟨C2, HO⟩
  iapply (send_GR m K 3 _ _ (dev16_eq 0 h)) $$ [HO H3]
  · isplitr; · iexact HE
    isplitl [HO]; · iexact HO
    iexact H3
  iintro ⟨C3, HO⟩
  rw [wp_ret]; imodintro
  iapply Hk
  isplitl [HO]; · iexact HO
  isplitl [C0]; · iexact C0
  isplitl [C1]; · iexact C1
  isplitl [C2]; · iexact C2
  iexact C3

/-! ## Device 0: the partials of everyone, and the ends of its own copies -/

/-- A cell of device 0 that has one transfer to come. -/
abbrev due0 (k : Cell) : sProp 𝕄 := iprop(crd (F := F) 0 k ∗ opn (F := F) 0 k)
/-- The same cell after its wait. -/
abbrev got0 (k : Cell) : sProp 𝕄 := iprop(zer (F := F) 0 k ∗ pay m 0 0 k)

set_option maxHeartbeats 1000000 in
/-- Device 0 waits for the partials of devices 1 to 4. -/
theorem part4_rule {Q : _ → sProp 𝕄} :
    iprop(env m K ∗ owesW (0 : Dev nD) (tallyK []) ∗ due0 (.pr 0) ∗ due0 (.pr 1) ∗ due0 (.pr 2) ∗ due0 (.pr 3))
      ⊢ iprop(((owesW (0 : Dev nD) (tallyK []) ∗ got0 m (.pr 0) ∗ got0 m (.pr 1) ∗ got0 m (.pr 2) ∗ got0 m (.pr 3)) -∗ Q ⟨⟩)
        -∗ wp frame (wpE (defs₀ (F := F)) 𝒱₀ ((0 : Dev nD) : Thread nD τ) none) Set.univ (k0_part4 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [k0_part4_eq_skeleton]; unfold k0_part4_skel
  simp only [Prog.lift, Prog.bind_op, Prog.bind_ret, Prog.pure_eq_ret]
  iintro ⟨#HE, HO, ⟨C0, O0⟩, ⟨C1, O1⟩, ⟨C2, O2⟩, ⟨C3, O3⟩⟩ Hk
  iapply (wait_dma m K 0 (.pr 0) [] (prS 0) rfl rfl rfl (by simp)) $$ [HO C0 O0]
  · isplitr; · iexact HE
    isplitl [HO]; · iexact HO
    isplitl [C0]; · iexact C0
    iexact O0
  iintro ⟨HO, Z0, P0⟩
  iapply (wait_dma m K 0 (.pr 1) [] (prS 1) rfl rfl rfl (by simp)) $$ [HO C1 O1]
  · isplitr; · iexact HE
    isplitl [HO]; · iexact HO
    isplitl [C1]; · iexact C1
    iexact O1
  iintro ⟨HO, Z1, P1⟩
  iapply (wait_dma m K 0 (.pr 2) [] (prS 2) rfl rfl rfl (by simp)) $$ [HO C2 O2]
  · isplitr; · iexact HE
    isplitl [HO]; · iexact HO
    isplitl [C2]; · iexact C2
    iexact O2
  iintro ⟨HO, Z2, P2⟩
  iapply (wait_dma m K 0 (.pr 3) [] (prS 3) rfl rfl rfl (by simp)) $$ [HO C3 O3]
  · isplitr; · iexact HE
    isplitl [HO]; · iexact HO
    isplitl [C3]; · iexact C3
    iexact O3
  iintro ⟨HO, Z3, P3⟩
  rw [wp_ret]; imodintro
  iapply Hk
  isplitl [HO]; · iexact HO
  isplitl [Z0 P0];
  · isplitl [Z0]; · iexact Z0
    iexact P0
  isplitl [Z1 P1];
  · isplitl [Z1]; · iexact Z1
    iexact P1
  isplitl [Z2 P2];
  · isplitl [Z2]; · iexact Z2
    iexact P2
  isplitl [Z3]; · iexact Z3
  iexact P3

set_option maxHeartbeats 1000000 in
/-- The ends of the first four copies of the first keys and values. -/
theorem part9_rule {Q : _ → sProp 𝕄} :
    iprop(env m K ∗ owesW (0 : Dev nD) (tallyK []) ∗ due0 (.gs 0) ∗ due0 (.gs 1) ∗ due0 (.gs 2) ∗ due0 (.gs 3))
      ⊢ iprop(((owesW (0 : Dev nD) (tallyK []) ∗ got0 m (.gs 0) ∗ got0 m (.gs 1) ∗ got0 m (.gs 2) ∗ got0 m (.gs 3)) -∗ Q ⟨⟩)
        -∗ wp frame (wpE (defs₀ (F := F)) 𝒱₀ ((0 : Dev nD) : Thread nD τ) none) Set.univ (k0_part9 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [k0_part9_eq_skeleton]; unfold k0_part9_skel
  simp only [Prog.lift, Prog.bind_op, Prog.bind_ret, Prog.pure_eq_ret]
  iintro ⟨#HE, HO, ⟨C0, O0⟩, ⟨C1, O1⟩, ⟨C2, O2⟩, ⟨C3, O3⟩⟩ Hk
  iapply (wait_dma m K 0 (.gs 0) [] (kvG) rfl rfl rfl (by simp)) $$ [HO C0 O0]
  · isplitr; · iexact HE
    isplitl [HO]; · iexact HO
    isplitl [C0]; · iexact C0
    iexact O0
  iintro ⟨HO, Z0, P0⟩
  iapply (wait_dma m K 0 (.gs 1) [] (kvG) rfl rfl rfl (by simp)) $$ [HO C1 O1]
  · isplitr; · iexact HE
    isplitl [HO]; · iexact HO
    isplitl [C1]; · iexact C1
    iexact O1
  iintro ⟨HO, Z1, P1⟩
  iapply (wait_dma m K 0 (.gs 2) [] (kvG) rfl rfl rfl (by simp)) $$ [HO C2 O2]
  · isplitr; · iexact HE
    isplitl [HO]; · iexact HO
    isplitl [C2]; · iexact C2
    iexact O2
  iintro ⟨HO, Z2, P2⟩
  iapply (wait_dma m K 0 (.gs 3) [] (kvG) rfl rfl rfl (by simp)) $$ [HO C3 O3]
  · isplitr; · iexact HE
    isplitl [HO]; · iexact HO
    isplitl [C3]; · iexact C3
    iexact O3
  iintro ⟨HO, Z3, P3⟩
  rw [wp_ret]; imodintro
  iapply Hk
  isplitl [HO]; · iexact HO
  isplitl [Z0 P0];
  · isplitl [Z0]; · iexact Z0
    iexact P0
  isplitl [Z1 P1];
  · isplitl [Z1]; · iexact Z1
    iexact P1
  isplitl [Z2 P2];
  · isplitl [Z2]; · iexact Z2
    iexact P2
  isplitl [Z3]; · iexact Z3
  iexact P3

set_option maxHeartbeats 1000000 in
/-- The ends of the other three, and of the first five copies of the queries. -/
theorem part10_rule {Q : _ → sProp 𝕄} :
    iprop(env m K ∗ owesW (0 : Dev nD) (tallyK []) ∗ due0 (.gs 4) ∗ due0 (.gs 5) ∗ due0 (.gs 6) ∗ due0 (.qs 0) ∗ due0 (.qs 1) ∗ due0 (.qs 2) ∗ due0 (.qs 3) ∗ due0 (.qs 4))
      ⊢ iprop(((owesW (0 : Dev nD) (tallyK []) ∗ got0 m (.gs 4) ∗ got0 m (.gs 5) ∗ got0 m (.gs 6) ∗ got0 m (.qs 0) ∗ got0 m (.qs 1) ∗ got0 m (.qs 2) ∗ got0 m (.qs 3) ∗ got0 m (.qs 4)) -∗ Q ⟨⟩)
        -∗ wp frame (wpE (defs₀ (F := F)) 𝒱₀ ((0 : Dev nD) : Thread nD τ) none) Set.univ (k0_part10 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [k0_part10_eq_skeleton]; unfold k0_part10_skel
  simp only [Prog.lift, Prog.bind_op, Prog.bind_ret, Prog.pure_eq_ret]
  iintro ⟨#HE, HO, ⟨C0, O0⟩, ⟨C1, O1⟩, ⟨C2, O2⟩, ⟨C3, O3⟩, ⟨C4, O4⟩, ⟨C5, O5⟩, ⟨C6, O6⟩, ⟨C7, O7⟩⟩ Hk
  iapply (wait_dma m K 0 (.gs 4) [] (kvG) rfl rfl rfl (by simp)) $$ [HO C0 O0]
  · isplitr; · iexact HE
    isplitl [HO]; · iexact HO
    isplitl [C0]; · iexact C0
    iexact O0
  iintro ⟨HO, Z0, P0⟩
  iapply (wait_dma m K 0 (.gs 5) [] (kvG) rfl rfl rfl (by simp)) $$ [HO C1 O1]
  · isplitr; · iexact HE
    isplitl [HO]; · iexact HO
    isplitl [C1]; · iexact C1
    iexact O1
  iintro ⟨HO, Z1, P1⟩
  iapply (wait_dma m K 0 (.gs 6) [] (kvG) rfl rfl rfl (by simp)) $$ [HO C2 O2]
  · isplitr; · iexact HE
    isplitl [HO]; · iexact HO
    isplitl [C2]; · iexact C2
    iexact O2
  iintro ⟨HO, Z2, P2⟩
  iapply (wait_dma m K 0 (.qs 0) [] (q0M) rfl rfl rfl (by simp)) $$ [HO C3 O3]
  · isplitr; · iexact HE
    isplitl [HO]; · iexact HO
    isplitl [C3]; · iexact C3
    iexact O3
  iintro ⟨HO, Z3, P3⟩
  iapply (wait_dma m K 0 (.qs 1) [] (q0M) rfl rfl rfl (by simp)) $$ [HO C4 O4]
  · isplitr; · iexact HE
    isplitl [HO]; · iexact HO
    isplitl [C4]; · iexact C4
    iexact O4
  iintro ⟨HO, Z4, P4⟩
  iapply (wait_dma m K 0 (.qs 2) [] (q0M) rfl rfl rfl (by simp)) $$ [HO C5 O5]
  · isplitr; · iexact HE
    isplitl [HO]; · iexact HO
    isplitl [C5]; · iexact C5
    iexact O5
  iintro ⟨HO, Z5, P5⟩
  iapply (wait_dma m K 0 (.qs 3) [] (q0M) rfl rfl rfl (by simp)) $$ [HO C6 O6]
  · isplitr; · iexact HE
    isplitl [HO]; · iexact HO
    isplitl [C6]; · iexact C6
    iexact O6
  iintro ⟨HO, Z6, P6⟩
  iapply (wait_dma m K 0 (.qs 4) [] (q0M) rfl rfl rfl (by simp)) $$ [HO C7 O7]
  · isplitr; · iexact HE
    isplitl [HO]; · iexact HO
    isplitl [C7]; · iexact C7
    iexact O7
  iintro ⟨HO, Z7, P7⟩
  rw [wp_ret]; imodintro
  iapply Hk
  isplitl [HO]; · iexact HO
  isplitl [Z0 P0];
  · isplitl [Z0]; · iexact Z0
    iexact P0
  isplitl [Z1 P1];
  · isplitl [Z1]; · iexact Z1
    iexact P1
  isplitl [Z2 P2];
  · isplitl [Z2]; · iexact Z2
    iexact P2
  isplitl [Z3 P3];
  · isplitl [Z3]; · iexact Z3
    iexact P3
  isplitl [Z4 P4];
  · isplitl [Z4]; · iexact Z4
    iexact P4
  isplitl [Z5 P5];
  · isplitl [Z5]; · iexact Z5
    iexact P5
  isplitl [Z6 P6];
  · isplitl [Z6]; · iexact Z6
    iexact P6
  isplitl [Z7]; · iexact Z7
  iexact P7

set_option maxHeartbeats 1000000 in
/-- Device 0 waits for the partials of devices 5 to 7, and loads the first of them all. -/
theorem part5_rule {Q : _ → sProp 𝕄} (M : FVec F S8x32x1 .f32) :
    iprop(env m K ∗ owesW (0 : Dev nD) (tallyK []) ∗ got0 m (.pr 0) ∗ got0 m (.pr 1) ∗ got0 m (.pr 2) ∗ got0 m (.pr 3) ∗ due0 (.pr 4) ∗ due0 (.pr 5) ∗ due0 (.pr 6))
      ⊢ iprop(((owesW (0 : Dev nD) (tallyK []) ∗ (zer 0 (.pr 0) ∗ zer 0 (.pr 1) ∗ zer 0 (.pr 2) ∗ zer 0 (.pr 3) ∗ zer 0 (.pr 4) ∗ zer 0 (.pr 5) ∗ zer 0 (.pr 6)) ∗ (prM.view.loc ((0 : Dev nD) : Thread nD τ) ↦{fullShare} prF m)) -∗ Q ⟨b520 M (prF m), ldP (prF m) 3 inb_S7x8x32x128_S1x8x32x128_3_0_0_0⟩)
        -∗ wp frame (wpE (defs₀ (F := F)) 𝒱₀ ((0 : Dev nD) : Thread nD τ) none) Set.univ (k0_part5 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 M) Q) := by
  rw [k0_part5_eq_skeleton]; unfold k0_part5_skel
  simp only [Prog.lift, Prog.bind_op, Prog.bind_ret, Prog.pure_eq_ret]
  iintro ⟨#HE, HO, ⟨Z0, P0⟩, ⟨Z1, P1⟩, ⟨Z2, P2⟩, ⟨Z3, P3⟩, ⟨C4, O4⟩, ⟨C5, O5⟩, ⟨C6, O6⟩⟩ Hk
  iapply (wait_dma m K 0 (.pr 4) [] (prS 4) rfl rfl rfl (by simp)) $$ [HO C4 O4]
  · isplitr; · iexact HE
    isplitl [HO]; · iexact HO
    isplitl [C4]; · iexact C4
    iexact O4
  iintro ⟨HO, Z4, P4⟩
  iapply (wait_dma m K 0 (.pr 5) [] (prS 5) rfl rfl rfl (by simp)) $$ [HO C5 O5]
  · isplitr; · iexact HE
    isplitl [HO]; · iexact HO
    isplitl [C5]; · iexact C5
    iexact O5
  iintro ⟨HO, Z5, P5⟩
  iapply (wait_dma m K 0 (.pr 6) [] (prS 6) rfl rfl rfl (by simp)) $$ [HO C6 O6]
  · isplitr; · iexact HE
    isplitl [HO]; · iexact HO
    isplitl [C6]; · iexact C6
    iexact O6
  iintro ⟨HO, Z6, P6⟩
  ihave Hp := (Entails.of_eq (pr_split (prF m)).symm) $$ [P0 P1 P2 P3 P4 P5 P6]
  · simp only [pay_pr]
    isplitl [P0]; · iexact P0
    isplitl [P1]; · iexact P1
    isplitl [P2]; · iexact P2
    isplitl [P3]; · iexact P3
    isplitl [P4]; · iexact P4
    isplitl [P5]; · iexact P5
    iexact P6
  iapply (wp_load 𝒱₀ ((0 : Dev nD) : Thread nD τ) none Set.univ (m := prM) (Finset.subset_univ _)) $$ Hp; iintro Hp
  iapply (wp_load 𝒱₀ ((0 : Dev nD) : Thread nD τ) none Set.univ (m := prM) (Finset.subset_univ _)) $$ Hp; iintro Hp
  iapply (wp_load 𝒱₀ ((0 : Dev nD) : Thread nD τ) none Set.univ (m := prM) (Finset.subset_univ _)) $$ Hp; iintro Hp
  iapply (wp_load 𝒱₀ ((0 : Dev nD) : Thread nD τ) none Set.univ (m := prM) (Finset.subset_univ _)) $$ Hp; iintro Hp
  rw [wp_ret]; imodintro
  iapply Hk
  isplitl [HO]; · iexact HO
  isplitl [Z0 Z1 Z2 Z3 Z4 Z5 Z6]
  · iframe
  iexact Hp

end Cert.KernelIdeal.Attn

end
-- ==== Proof.Both.lean ====
/-
# The parts that branch on the device
-/
module

public import proofs.«01_k».proof.Proof.Zero

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Cell → ℕ)

/-- What device `c` owes after its halo copies, and after device 0's copies. -/
def due₂ (c : Dev nD) : List (Dev nD × Cell) := if c = 0 then dueQ else [(0, .pr (slotOf c))]
def due₃ (c : Dev nD) : List (Dev nD × Cell) := if c = 0 then [] else [(0, .pr (slotOf c))]
theorem due₁_eq (c : Dev nD) : due₁ c = (lp c, .hr 1) :: due₂ c := rfl

theorem lvl_due₃ (c : Dev nD) : ∀ ck ∈ due₃ c, lvl .qr < lvl ck.2 := by revert c; decide

/-! ## What one branch needs and the other does not -/

/-- Device 0's copies: the gate, its buffers, and the duties of its fourteen copies. -/
def X12 (c : Dev nD) : sProp 𝕄 := if c = 0 then
    iprop(crd 0 .gate ∗ opn 0 .gate ∗ (∃ f, (q0M.view.loc ((0 : Dev nD) : Thread nD τ) ↦{fullShare} f)) ∗ (∃ f, gPts 0 f)
      ∗ (gsPts m 0 0 ∗ gsPts m 0 1 ∗ gsPts m 0 2 ∗ gsPts m 0 3 ∗ gsPts m 0 4 ∗ gsPts m 0 5 ∗ gsPts m 0 6)
      ∗ ((∃ f, prPts 0 0 f) ∗ (∃ f, prPts 0 1 f) ∗ (∃ f, prPts 0 2 f) ∗ (∃ f, prPts 0 3 f) ∗ (∃ f, prPts 0 4 f) ∗ (∃ f, prPts 0 5 f) ∗ (∃ f, prPts 0 6 f))
      ∗ (tok 0 (.qs 0) 0 ∗ tok 0 (.qs 1) 0 ∗ tok 0 (.qs 2) 0 ∗ tok 0 (.qs 3) 0 ∗ tok 0 (.qs 4) 0 ∗ tok 0 (.qs 5) 0 ∗ tok 0 (.qs 6) 0) ∗ (tok (devOf 0) .qr 0 ∗ tok (devOf 1) .qr 0 ∗ tok (devOf 2) .qr 0 ∗ tok (devOf 3) .qr 0 ∗ tok (devOf 4) .qr 0 ∗ tok (devOf 5) .qr 0 ∗ tok (devOf 6) .qr 0)
      ∗ (tok 0 (.gs 0) 0 ∗ tok 0 (.gs 1) 0 ∗ tok 0 (.gs 2) 0 ∗ tok 0 (.gs 3) 0 ∗ tok 0 (.gs 4) 0 ∗ tok 0 (.gs 5) 0 ∗ tok 0 (.gs 6) 0) ∗ (tok (devOf 0) .gr 0 ∗ tok (devOf 1) .gr 0 ∗ tok (devOf 2) .gr 0 ∗ tok (devOf 3) .gr 0 ∗ tok (devOf 4) .gr 0 ∗ tok (devOf 5) .gr 0 ∗ tok (devOf 6) .gr 0))
  else iprop(emp)
/-- What device 0's copies leave. -/
def Y12 (c : Dev nD) : sProp 𝕄 := if c = 0 then
    iprop(zer (F := F) 0 .gate ∗ (crd (F := F) 0 (.qs 0) ∗ crd (F := F) 0 (.qs 1) ∗ crd (F := F) 0 (.qs 2) ∗ crd (F := F) 0 (.qs 3) ∗ crd (F := F) 0 (.qs 4) ∗ crd (F := F) 0 (.qs 5) ∗ crd (F := F) 0 (.qs 6)) ∗ (crd (F := F) 0 (.gs 0) ∗ crd (F := F) 0 (.gs 1) ∗ crd (F := F) 0 (.gs 2) ∗ crd (F := F) 0 (.gs 3) ∗ crd (F := F) 0 (.gs 4) ∗ crd (F := F) 0 (.gs 5) ∗ crd (F := F) 0 (.gs 6)))
  else iprop(emp)
/-- The share of the queries that a device reads: device 0's last leaf, the others' whole buffer once filled. -/
def qsh (c : Dev nD) : PosShare TreeShare := if c = 0 then ShareLeaves.leaf 3 fullShare 7 else fullShare
/-- Before the queries have arrived: device 0's last leaf, nothing yet on the others. -/
def QL (c : Dev nD) : sProp 𝕄 := if c = 0 then qsPts m 0 7 else iprop(emp)
/-- The same for columns 512–543. -/
def GK (c : Dev nD) : sProp 𝕄 := if c = 0 then gPts 0 (kcF m 0) else iprop(emp)

set_option maxHeartbeats 2000000 in
/-- The copy to the device before; device 0's own part; the device's own keys and values; the first batch's queries. -/
theorem part12_rule {Q : _ → sProp 𝕄} (c : Dev nD) (s : PosShare TreeShare) :
    iprop(env m K ∗ owesW c (tallyK (due₁ c)) ∗ X12 m c ∗ tok c (.hs 1) 0 ∗ tok (lp c) (.hr 1) 0 ∗ loPts m c ∗ (∃ f, bPts (lp c) f) ∗ (∃ f, oPts c f)
        ∗ (kvM.view.loc (c : Thread nD τ) ↦{s} kvs m c) ∗ (xM.view.loc (c : Thread nD τ) ↦{fullShare} xs m c) ∗ (wqM.view.loc (c : Thread nD τ) ↦{fullShare} wqs m c))
      ⊢ iprop(((owesW c (tallyK (due₃ c)) ∗ Y12 c ∗ QL m c ∗ GK m c ∗ crd c (.hs 1) ∗ oPts c (kcF m c)
          ∗ (kvM.view.loc (c : Thread nD τ) ↦{s} kvs m c) ∗ (xM.view.loc (c : Thread nD τ) ↦{fullShare} xs m c) ∗ (wqM.view.loc (c : Thread nD τ) ↦{fullShare} wqs m c)) -∗ Q ⟨a44 (xs m c) (wqs m c), cst8⟩)
        -∗ wp frame (wpE (defs₀ (F := F)) 𝒱₀ (c : Thread nD τ) none) Set.univ (k0_part12 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 c (w2 c) (w5 c) 1#32) Q) := by
  rw [k0_part12_eq_skeleton]; unfold k0_part12_skel
  simp only [Prog.lift, Prog.bind_op, Prog.bind_ret, Prog.pure_eq_ret]
  rw [due₁_eq]
  by_cases hc : c = 0
  on_goal 2 =>
    rw [dif_neg (fun h => hc ((cond2_iff c).mp h)), X12, Y12, QL, GK, due₂, due₃, if_neg hc, if_neg hc, if_neg hc, if_neg hc, if_neg hc, if_neg hc]
    iintro ⟨#HE, HO, HX, Ht, Ht', Hlo, ⟨%fb, Hb⟩, ⟨%fo, Ho⟩, Hkv, Hx, Hwq⟩ Hk
    iapply (send_B m K c fb _ _ (dev5_eq c)) $$ [Hlo Hb HO Ht Ht']
    · isplitr; · iexact HE
      isplitl [Hlo]; · iexact Hlo
      isplitl [Hb]; · iexact Hb
      isplitl [HO]; · iexact HO
      isplitl [Ht]; · iexact Ht
      iexact Ht'
    iintro ⟨Hcs, HO⟩
  on_goal 1 =>
    subst hc
    rw [dif_pos ((cond2_iff 0).mpr rfl), X12, Y12, QL, GK, due₂, due₃, if_pos rfl, if_pos rfl, if_pos rfl, if_pos rfl, if_pos rfl, if_pos rfl]
    iintro ⟨#HE, HO, HX, Ht, Ht', Hlo, ⟨%fb, Hb⟩, ⟨%fo, Ho⟩, Hkv, Hx, Hwq⟩ Hk
    icases HX with ⟨Hg1, Hg2, Hq, Hg, ⟨S0, S1, S2, S3, S4, S5, S6⟩, ⟨P0, P1, P2, P3, P4, P5, P6⟩, ⟨TA0, TA1, TA2, TA3, TA4, TA5, TA6⟩, ⟨TB0, TB1, TB2, TB3, TB4, TB5, TB6⟩, ⟨TC0, TC1, TC2, TC3, TC4, TC5, TC6⟩, TD0, TD1, TD2, TD3, TD4, TD5, TD6⟩
    iapply (send_B m K 0 fb _ _ (dev5_eq 0)) $$ [Hlo Hb HO Ht Ht']
    · isplitr; · iexact HE
      isplitl [Hlo]; · iexact Hlo
      isplitl [Hb]; · iexact Hb
      isplitl [HO]; · iexact HO
      isplitl [Ht]; · iexact Ht
      iexact Ht'
    iintro ⟨Hcs, HO⟩
    rw [wp_bind]
    iapply (part1_rule m K s) $$ [HO Hg1 Hg2 Hx Hwq Hkv Hq Hg]
    · isplitr; · iexact HE
      isplitl [HO]; · iexact HO
      isplitl [Hg1]; · iexact Hg1
      isplitl [Hg2]; · iexact Hg2
      isplitl [Hx]; · iexact Hx
      isplitl [Hwq]; · iexact Hwq
      isplitl [Hkv]; · iexact Hkv
      isplitl [Hq]; · iexact Hq
      iexact Hg
    iintro ⟨HO, Hgz, Hx, Hwq, Hkv, Hq, Hg, G0, G1, G2, G3, G4, G5, G6⟩
    ihave Hq := (Entails.of_eq (q_split0' m)) $$ Hq
    icases Hq with ⟨L0, L1, L2, L3, L4, L5, L6, L7⟩
    unfold GT
    icases G0 with ⟨U0, V0⟩
    icases G1 with ⟨U1, V1⟩
    icases G2 with ⟨U2, V2⟩
    icases G3 with ⟨U3, V3⟩
    icases G4 with ⟨U4, V4⟩
    icases G5 with ⟨U5, V5⟩
    icases G6 with ⟨U6, V6⟩
    rw [wp_bind]
    iapply (part2_rule m K _ _) $$ [HO L0 L1 L2 L3 L4 L5 L6 U0 U1 U2 U3 U4 U5 U6 P0 P1 P2 P3 P4 P5 P6 TA0 TA1 TA2 TA3 TA4 TA5 TA6 TB0 TB1 TB2 TB3 TB4 TB5 TB6]
    · unfold QR
      isplitr; · iexact HE
      isplitl [HO]; · iexact HO
      isplitl [L0 U0 P0 TA0 TB0]
      · skip
        isplitl [L0]; · iexact L0
        isplitl [U0]; · iexact U0
        isplitl [P0]; · iexact P0
        isplitl [TA0]; · iexact TA0
        iexact TB0
      isplitl [L1 U1 P1 TA1 TB1]
      · skip
        isplitl [L1]; · iexact L1
        isplitl [U1]; · iexact U1
        isplitl [P1]; · iexact P1
        isplitl [TA1]; · iexact TA1
        iexact TB1
      isplitl [L2 U2 P2 TA2 TB2]
      · skip
        isplitl [L2]; · iexact L2
        isplitl [U2]; · iexact U2
        isplitl [P2]; · iexact P2
        isplitl [TA2]; · iexact TA2
        iexact TB2
      isplitl [L3 U3 P3 TA3 TB3]
      · skip
        isplitl [L3]; · iexact L3
        isplitl [U3]; · iexact U3
        isplitl [P3]; · iexact P3
        isplitl [TA3]; · iexact TA3
        iexact TB3
      isplitl [L4 U4 P4 TA4 TB4]
      · skip
        isplitl [L4]; · iexact L4
        isplitl [U4]; · iexact U4
        isplitl [P4]; · iexact P4
        isplitl [TA4]; · iexact TA4
        iexact TB4
      isplitl [L5 U5 P5 TA5 TB5]
      · skip
        isplitl [L5]; · iexact L5
        isplitl [U5]; · iexact U5
        isplitl [P5]; · iexact P5
        isplitl [TA5]; · iexact TA5
        iexact TB5
      isplitl [L6]; · iexact L6
      isplitl [U6]; · iexact U6
      isplitl [P6]; · iexact P6
      isplitl [TA6]; · iexact TA6
      iexact TB6
    iintro ⟨HO, CQ0, CQ1, CQ2, CQ3, CQ4, CQ5, CQ6⟩
    rw [wp_bind]
    iapply (part3_rule m K _) $$ [HO S0 S1 S2 S3 V0 V1 V2 V3 TC0 TC1 TC2 TC3 TD0 TD1 TD2 TD3]
    · unfold GR
      isplitr; · iexact HE
      isplitl [HO]; · iexact HO
      isplitl [S0 V0 TC0 TD0]
      · skip
        isplitl [S0]; · iexact S0
        isplitl [V0]; · iexact V0
        isplitl [TC0]; · iexact TC0
        iexact TD0
      isplitl [S1 V1 TC1 TD1]
      · skip
        isplitl [S1]; · iexact S1
        isplitl [V1]; · iexact V1
        isplitl [TC1]; · iexact TC1
        iexact TD1
      isplitl [S2 V2 TC2 TD2]
      · skip
        isplitl [S2]; · iexact S2
        isplitl [V2]; · iexact V2
        isplitl [TC2]; · iexact TC2
        iexact TD2
      isplitl [S3]; · iexact S3
      isplitl [V3]; · iexact V3
      isplitl [TC3]; · iexact TC3
      iexact TD3
    iintro ⟨HO, CG0, CG1, CG2, CG3⟩
    iapply (send_GR m K 4 _ _ (dev17_eq 0 ((cond2_iff 0).mpr rfl))) $$ [HO S4 V4 TC4 TD4]
    · unfold GR
      isplitr; · iexact HE
      isplitl [HO]; · iexact HO
      isplitl [S4]; · iexact S4
      isplitl [V4]; · iexact V4
      isplitl [TC4]; · iexact TC4
      iexact TD4
    iintro ⟨CG4, HO⟩
    iapply (send_GR m K 5 _ _ (dev18_eq 0 ((cond2_iff 0).mpr rfl))) $$ [HO S5 V5 TC5 TD5]
    · unfold GR
      isplitr; · iexact HE
      isplitl [HO]; · iexact HO
      isplitl [S5]; · iexact S5
      isplitl [V5]; · iexact V5
      isplitl [TC5]; · iexact TC5
      iexact TD5
    iintro ⟨CG5, HO⟩
    iapply (send_GR m K 6 _ _ (dev19_eq 0 ((cond2_iff 0).mpr rfl))) $$ [HO S6 V6 TC6 TD6]
    · unfold GR
      isplitr; · iexact HE
      isplitl [HO]; · iexact HO
      isplitl [S6]; · iexact S6
      isplitl [V6]; · iexact V6
      isplitl [TC6]; · iexact TC6
      iexact TD6
    iintro ⟨CG6, HO⟩
  on_goal 2 =>
    iapply (wp_load 𝒱₀ (c : Thread nD τ) none Set.univ (m := kvM) (Finset.subset_univ _)) $$ Hkv; iintro Hkv
    unfold oPts
    iapply (wp_load 𝒱₀ (c : Thread nD τ) none Set.univ (m := kcM) (S := kcO.view.set) (fun i hi => by rw [show kcO.view.set = _ from View.set_slice_whole _ _]; exact setOn_kc hi)) $$ Ho; iintro Ho
    iapply (wp_store 𝒱₀ (c : Thread nD τ) none Set.univ (m := kcM) (r := Rect.unit (s := S16x544x64) ![0, 0, 0] S16x256x64.size inb_S16x544x64_S16x256x64_0_0_0) (Mk := Finset.univ) (S := kcO.view.set) (fun _ h => h)) $$ Ho; iintro Ho
  on_goal 1 =>
    iapply (wp_load 𝒱₀ ((0 : Dev nD) : Thread nD τ) none Set.univ (m := kvM) (Finset.subset_univ _)) $$ Hkv; iintro Hkv
    unfold oPts
    iapply (wp_load 𝒱₀ ((0 : Dev nD) : Thread nD τ) none Set.univ (m := kcM) (S := kcO.view.set) (fun i hi => by rw [show kcO.view.set = _ from View.set_slice_whole _ _]; exact setOn_kc hi)) $$ Ho; iintro Ho
    iapply (wp_store 𝒱₀ ((0 : Dev nD) : Thread nD τ) none Set.univ (m := kcM) (r := Rect.unit (s := S16x544x64) ![0, 0, 0] S16x256x64.size inb_S16x544x64_S16x256x64_0_0_0) (Mk := Finset.univ) (S := kcO.view.set) (fun _ h => h)) $$ Ho; iintro Ho
  all_goals
    ihave Ho := (store_O m _ fo) $$ Ho
    iapply (wp_load 𝒱₀ (Dev.tc _ : Thread nD τ) none Set.univ (m := xM) (Finset.subset_univ _)) $$ Hx; iintro Hx
    iapply (wp_load 𝒱₀ (Dev.tc _ : Thread nD τ) none Set.univ (m := wqM) (Finset.subset_univ _)) $$ Hwq; iintro Hwq
    rw [wp_ret]; imodintro
    iapply Hk
    isplitl [HO]; · iexact HO
  on_goal 2 =>
    isplitl [HX]; · iexact HX
    isplitr; · iempintro
    isplitr; · iempintro
  on_goal 1 =>
    isplitl [Hgz CQ0 CQ1 CQ2 CQ3 CQ4 CQ5 CQ6 CG0 CG1 CG2 CG3 CG4 CG5 CG6]
    · isplitl [Hgz]; · iexact Hgz
      isplitl [CQ0 CQ1 CQ2 CQ3 CQ4 CQ5 CQ6]
      · iframe
      iframe
    isplitl [L7]; · iexact L7
    isplitl [Hg]; · iexact Hg
  all_goals
    isplitl [Hcs]; · iexact Hcs
    isplitl [Ho]; · unfold oPts; iexact Ho
    isplitl [Hkv]; · iexact Hkv
    isplitl [Hx]; · iexact Hx
    iexact Hwq

/-- The query transfer of a device other than 0. -/
def X13 (c : Dev nD) : sProp 𝕄 := if c = 0 then iprop(emp) else iprop(crd (F := F) c .qr ∗ opn (F := F) c .qr)
/-- What it leaves: the cell closed, and the slot of device 0's partial buffer. -/
def Y13 (c : Dev nD) : sProp 𝕄 := if c = 0 then iprop(emp) else iprop(zer (F := F) c .qr ∗ ∃ f, prPts (F := F) 0 (slotOf c) f)

set_option maxHeartbeats 1000000 in
/-- The second batch's queries, the queries of the first rows, and head 0 of the partial attention. -/
theorem part13_rule {Q : _ → sProp 𝕄} (c : Dev nD) (s : PosShare TreeShare) :
    iprop(env m K ∗ owesW c (tallyK (due₃ c)) ∗ X13 c ∗ QL m c ∗ (kvM.view.loc (c : Thread nD τ) ↦{s} kvs m c) ∗ (xM.view.loc (c : Thread nD τ) ↦{fullShare} xs m c) ∗ (wqM.view.loc (c : Thread nD τ) ↦{fullShare} wqs m c))
      ⊢ iprop(((owesW c (tallyK (due₃ c)) ∗ Y13 c ∗ (q0M.view.loc (c : Thread nD τ) ↦{qsh c} q0F m 0) ∗ (kvM.view.loc (c : Thread nD τ) ↦{s} kvs m c) ∗ (xM.view.loc (c : Thread nD τ) ↦{fullShare} xs m c) ∗ (wqM.view.loc (c : Thread nD τ) ↦{fullShare} wqs m c))
          -∗ Q ⟨a47 (xs m c) (wqs m c), a55 (xs m c) (wqs m c), p61 (q0F m 0), p67 (q0F m 0) (kvs m c), p72 (q0F m 0) (kvs m c), p76 (q0F m 0) (kvs m c), p77 (q0F m 0)⟩)
        -∗ wp frame (wpE (defs₀ (F := F)) 𝒱₀ (c : Thread nD τ) none) Set.univ (k0_part13 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (w2 c) (a44 (xs m c) (wqs m c)) cst8) Q) := by
  rw [k0_part13_eq_skeleton]; unfold k0_part13_skel
  simp only [Prog.lift, Prog.bind_op, Prog.bind_ret, Prog.pure_eq_ret]
  by_cases hc : c = 0
  on_goal 2 =>
    rw [X13, Y13, QL, qsh, if_neg hc, if_neg hc, if_neg hc, if_neg hc]
    iintro ⟨#HE, HO, ⟨Hc, Ho⟩, Hq, Hkv, Hx, Hwq⟩ Hk
    iapply (wp_load 𝒱₀ (c : Thread nD τ) none Set.univ (m := xM) (Finset.subset_univ _)) $$ Hx; iintro Hx
    iapply (wp_load 𝒱₀ (c : Thread nD τ) none Set.univ (m := wqM) (Finset.subset_univ _)) $$ Hwq; iintro Hwq
    rw [dif_pos ((condne_iff c).mpr hc)]
    iapply (wait_dma m K c .qr (due₃ c) q0M rfl rfl (by rw [dut, if_neg hc]) (lvl_due₃ c)) $$ [HO Hc Ho]
    · isplitr; · iexact HE
      isplitl [HO]; · iexact HO
      isplitl [Hc]; · iexact Hc
      iexact Ho
    iintro ⟨HO, Hz, HP⟩
    ihave HP := (Entails.of_eq (pay_qr m c)) $$ HP
    icases HP with ⟨Hq0, Hpr⟩
    ihave Hq0 := (Entails.of_eq (qPts_eq c (q0F m 0))) $$ Hq0
  on_goal 1 =>
    subst hc
    rw [X13, Y13, QL, qsh, if_pos rfl, if_pos rfl, if_pos rfl, if_pos rfl]
    iintro ⟨#HE, HO, Hz, Hq0, Hkv, Hx, Hwq⟩ Hk
    iapply (wp_load 𝒱₀ ((0 : Dev nD) : Thread nD τ) none Set.univ (m := xM) (Finset.subset_univ _)) $$ Hx; iintro Hx
    iapply (wp_load 𝒱₀ ((0 : Dev nD) : Thread nD τ) none Set.univ (m := wqM) (Finset.subset_univ _)) $$ Hwq; iintro Hwq
    rw [dif_neg (fun h => (condne_iff 0).mp h rfl)]
    ihave Hq0 := (Entails.of_eq (qsPts_eq m 7)) $$ Hq0
  all_goals
    iapply (wp_load 𝒱₀ (Dev.tc _ : Thread nD τ) none Set.univ (m := q0M) (Finset.subset_univ _)) $$ Hq0; iintro Hq0
    iapply (wp_load 𝒱₀ (Dev.tc _ : Thread nD τ) none Set.univ (m := kvM) (Finset.subset_univ _)) $$ Hkv; iintro Hkv
    iapply (wp_load 𝒱₀ (Dev.tc _ : Thread nD τ) none Set.univ (m := kvM) (Finset.subset_univ _)) $$ Hkv; iintro Hkv
    rw [wp_ret]; imodintro
    iapply Hk
    isplitl [HO]; · iexact HO
  on_goal 2 =>
    isplitl [Hz Hpr]
    · isplitl [Hz]; · iexact Hz
      iexact Hpr
  on_goal 1 =>
    isplitl [Hz]; · iexact Hz
  all_goals
    isplitl [Hq0]; · iexact Hq0
    isplitl [Hkv]; · iexact Hkv
    isplitl [Hx]; · iexact Hx
    iexact Hwq

/-- The copy of the packed partial of a device other than 0. -/
def X17 (c : Dev nD) : sProp 𝕄 := if c = 0 then iprop(emp)
  else iprop((∃ f, (psM.view.loc (c : Thread nD τ) ↦{fullShare} f)) ∗ (∃ f, prPts (F := F) 0 (slotOf c) f) ∗ tok (F := F) c .ps 0 ∗ tok (F := F) 0 (.pr (slotOf c)) 0)
def Y17 (c : Dev nD) : sProp 𝕄 := if c = 0 then iprop(emp) else crd (F := F) c .ps

set_option maxHeartbeats 2000000 in
/-- The copy of the packed partial, and the wait for the halo of the device before. -/
theorem part17_rule {Q : _ → sProp 𝕄} (c : Dev nD) (q : (cc0_scratch1 : Ref sig .tc).ty.Contents (Elt F)) (kv : (cc0_stg2_0 : Ref sig .tc).ty.Contents (Elt F)) (hq : q = q0F m 0) (hkv : kv = kvs m c) :
    iprop(env m K ∗ owesW c (tallyK (due₃ c)) ∗ X17 c ∗ crd c (.hr 0) ∗ opn c (.hr 0))
      ⊢ iprop(((owesW c (tallyK []) ∗ Y17 c ∗ zer c (.hr 0) ∗ aPts c (kcF m c)) -∗ Q ⟨pO q kv, pM q kv, pL q kv⟩)
        -∗ wp frame (wpE (defs₀ (F := F)) 𝒱₀ (c : Thread nD τ) none) Set.univ (k0_part17 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 c (w2 c) (w5 c) (w7 c) (p67 q kv) (p72 q kv) (p82 q kv) (p87 q kv) (p97 q kv) (p102 q kv) (p112 q kv) (p117 q kv) (p121 q kv) (p130 q kv) (p135 q kv) (p139 q kv) (p145 q kv) (p150 q kv) (p154 q kv) (p160 q kv) (p165 q kv) (p169 q kv) (p175 q kv) (p180 q kv) (p184 q kv) (p185 q kv) (p186 q kv) (p187 q kv)) Q) := by
  rw [k0_part17_eq_skeleton]; unfold k0_part17_skel
  simp only [Prog.lift, Prog.bind_op, Prog.bind_ret, Prog.pure_eq_ret]
  unfold pO pM pL
  by_cases hc : c = 0
  on_goal 2 =>
    rw [show k0_pay79 (p67 q kv) (p72 q kv) (p82 q kv) (p87 q kv) (p97 q kv) (p102 q kv) (p112 q kv) (p117 q kv) (p121 q kv) (p130 q kv) (p135 q kv) (p139 q kv) (p145 q kv) (p150 q kv) (p154 q kv) (p160 q kv) (p165 q kv) (p169 q kv) (p175 q kv) (p180 q kv) (p184 q kv) (p185 q kv) (p186 q kv) (p187 q kv) = pAll q kv from rfl, dif_pos ((cond4_iff c).mpr hc), X17, Y17, due₃, if_neg hc, if_neg hc, if_neg hc]
    iintro ⟨#HE, HO, ⟨⟨%fs, Hs⟩, ⟨%fp, Hp⟩, Ht, Ht'⟩, Hc, Ho⟩ Hk
    iapply (wp_load 𝒱₀ (c : Thread nD τ) none Set.univ (m := psM) (Finset.subset_univ _)) $$ Hs; iintro Hs
    iapply (wp_store 𝒱₀ (c : Thread nD τ) none Set.univ (m := psM) (r := Rect.unit (s := S8x32x128) ![0, 0, 0] S8x32x128.size inb_S8x32x128_S8x32x128_0_0_0) (Mk := Finset.univ) (Finset.subset_univ _)) $$ Hs; iintro Hs
    ihave Hs := (store_ps m c fs q kv hq hkv) $$ Hs
    iapply (send_P' m K c hc fp [] _ (dev20_eq c ((cond4_iff c).mpr hc)) (k0_off2 c) (off2_eq c hc) _ _ (sem_pr_off c hc _)) $$ [HO Hs Hp Ht Ht']
    · isplitr; · iexact HE
      isplitl [Hs]; · iexact Hs
      isplitl [Hp]; · iexact Hp
      isplitl [HO]; · iexact HO
      isplitl [Ht]; · iexact Ht
      iexact Ht'
    iintro ⟨HY, HO⟩
  on_goal 1 =>
    subst hc
    rw [dif_neg (fun h => (cond4_iff 0).mp h rfl), X17, Y17, due₃, if_pos rfl, if_pos rfl, if_pos rfl]
    iintro ⟨#HE, HO, HY, Hc, Ho⟩ Hk
  all_goals
    iapply (wait_dma m K _ (.hr 0) [] kcA rfl rfl rfl (by simp)) $$ [HO Hc Ho]
    · isplitr; · iexact HE
      isplitl [HO]; · iexact HO
      isplitl [Hc]; · iexact Hc
      iexact Ho
    iintro ⟨HO, Hz, HP⟩
    ihave HP := (Entails.of_eq (pay_hr0 m _)) $$ HP
    rw [wp_ret]; imodintro
    iapply Hk
    isplitl [HO]; · iexact HO
    isplitl [HY]; · iexact HY
    isplitl [Hz]; · iexact Hz
    iexact HP

/-- The transfer of the global keys to a device other than 0. -/
def X18 (c : Dev nD) : sProp 𝕄 := if c = 0 then iprop(emp) else iprop(crd (F := F) c .gr ∗ opn (F := F) c .gr)
def Y18 (c : Dev nD) : sProp 𝕄 := if c = 0 then iprop(emp) else zer (F := F) c .gr

set_option maxHeartbeats 1000000 in
/-- The waits for the halo of the device after and for the global keys. -/
theorem part18_rule {Q : _ → sProp 𝕄} (c : Dev nD) :
    iprop(env m K ∗ owesW c (tallyK []) ∗ X18 c ∗ GK m c ∗ crd c (.hr 1) ∗ opn c (.hr 1))
      ⊢ iprop(((owesW c (tallyK []) ∗ Y18 c ∗ gPts c (kcF m c) ∗ zer c (.hr 1) ∗ bPts c (kcF m c)) -∗ Q ⟨a235 c, a236, a263 c, 512#32⟩)
        -∗ wp frame (wpE (defs₀ (F := F)) 𝒱₀ (c : Thread nD τ) none) Set.univ (k0_part18 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (w2 c) (w5 c) (w7 c)) Q) := by
  rw [k0_part18_eq_skeleton]; unfold k0_part18_skel
  simp only [Prog.lift, Prog.bind_op, Prog.bind_ret, Prog.pure_eq_ret]
  by_cases hc : c = 0
  on_goal 2 =>
    rw [dif_pos ((condne_iff c).mpr hc), X18, Y18, GK, if_neg hc, if_neg hc, if_neg hc]
    iintro ⟨#HE, HO, ⟨Hg1, Hg2⟩, HG, Hc, Ho⟩ Hk
    iapply (wait_dma m K c (.hr 1) [] kcB rfl rfl rfl (by simp)) $$ [HO Hc Ho]
    · isplitr; · iexact HE
      isplitl [HO]; · iexact HO
      isplitl [Hc]; · iexact Hc
      iexact Ho
    iintro ⟨HO, Hz, HP⟩
    ihave HP := (Entails.of_eq (pay_hr1 m _)) $$ HP
    iapply (wait_dma m K c .gr [] kcG rfl rfl (by rw [dut, if_neg hc]) (by simp)) $$ [HO Hg1 Hg2]
    · isplitr; · iexact HE
      isplitl [HO]; · iexact HO
      isplitl [Hg1]; · iexact Hg1
      iexact Hg2
    iintro ⟨HO, HY, Hg⟩
    ihave Hg := (Entails.of_eq (pay_gr m _)) $$ Hg
  on_goal 1 =>
    subst hc
    rw [dif_neg (fun h => (condne_iff 0).mp h rfl), X18, Y18, GK, if_pos rfl, if_pos rfl, if_pos rfl]
    iintro ⟨#HE, HO, HY, Hg, Hc, Ho⟩ Hk
    iapply (wait_dma m K 0 (.hr 1) [] kcB rfl rfl rfl (by simp)) $$ [HO Hc Ho]
    · isplitr; · iexact HE
      isplitl [HO]; · iexact HO
      isplitl [Hc]; · iexact Hc
      iexact Ho
    iintro ⟨HO, Hz, HP⟩
    ihave HP := (Entails.of_eq (pay_hr1 m _)) $$ HP
  all_goals
    rw [wp_ret]; imodintro
    iapply Hk
    isplitl [HO]; · iexact HO
    isplitl [HY]; · iexact HY
    isplitl [Hg]; · iexact Hg
    isplitl [Hz]; · iexact Hz
    iexact HP

/-- The seven partials that device 0 waits for. -/
def X24 (c : Dev nD) : sProp 𝕄 := if c = 0 then iprop(due0 (F := F) (.pr 0) ∗ due0 (F := F) (.pr 1) ∗ due0 (F := F) (.pr 2) ∗ due0 (F := F) (.pr 3) ∗ due0 (F := F) (.pr 4) ∗ due0 (F := F) (.pr 5) ∗ due0 (F := F) (.pr 6)) else iprop(emp)
def Y24 (c : Dev nD) : sProp 𝕄 := if c = 0 then iprop((zer (F := F) 0 (.pr 0) ∗ zer (F := F) 0 (.pr 1) ∗ zer (F := F) 0 (.pr 2) ∗ zer (F := F) 0 (.pr 3) ∗ zer (F := F) 0 (.pr 4) ∗ zer (F := F) 0 (.pr 5) ∗ zer (F := F) 0 (.pr 6)) ∗ (prM.view.loc ((0 : Dev nD) : Thread nD τ) ↦{fullShare} prF m)) else iprop(emp)
/-- The output after the combination: device 0's first 32 rows. -/
def outC (c : Dev nD) (o : (cc0_stg4_0 : Ref sig .tc).ty.Contents (Elt F)) : (cc0_stg4_0 : Ref sig .tc).ty.Contents (Elt F) :=
  if c = 0 then stO32 (stO32 o 0 inb_S2x256x512_S1x32x512_0_0_0 (comb0 (pO (q0F m 0) (kvs m 0)) (pM (q0F m 0) (kvs m 0)) (pL (q0F m 0) (kvs m 0)) (prF m) (wos m 0)))
    1 inb_S2x256x512_S1x32x512_1_0_0 (comb1 (pO (q0F m 0) (kvs m 0)) (pM (q0F m 0) (kvs m 0)) (pL (q0F m 0) (kvs m 0)) (prF m) (wos m 0))
  else o

set_option maxHeartbeats 2000000 in
/-- Device 0's combination of the partials, and the ends of the halo copies. -/
theorem part24_rule {Q : _ → sProp 𝕄} (c : Dev nD) (o : (cc0_stg4_0 : Ref sig .tc).ty.Contents (Elt F)) :
    iprop(env m K ∗ owesW c (tallyK []) ∗ X24 c ∗ (woM.view.loc (c : Thread nD τ) ↦{fullShare} wos m c) ∗ (oM.view.loc (c : Thread nD τ) ↦{fullShare} o) ∗ (crd c (.hs 0) ∗ opn c (.hs 0)) ∗ (crd c (.hs 1) ∗ opn c (.hs 1)))
      ⊢ iprop(((owesW c (tallyK []) ∗ Y24 m c ∗ (woM.view.loc (c : Thread nD τ) ↦{fullShare} wos m c) ∗ (oM.view.loc (c : Thread nD τ) ↦{fullShare} outC m c o) ∗ (zer c (.hs 0) ∗ hiPts m c) ∗ (zer c (.hs 1) ∗ loPts m c))
          -∗ Q (Scalar.cmpi .ne (Scalar.extui (Scalar.cmpi .eq (w2 c) 0#32) : BitVec 32) 0#32))
        -∗ wp frame (wpE (defs₀ (F := F)) 𝒱₀ (c : Thread nD τ) none) Set.univ (k0_part24 (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12 (w2 c) (pO (q0F m 0) (kvs m c)) (pM (q0F m 0) (kvs m c)) (pL (q0F m 0) (kvs m c)) (Scalar.extui (Scalar.cmpi .eq (w2 c) 0#32))) Q) := by
  rw [k0_part24_eq_skeleton]; unfold k0_part24_skel
  simp only [Prog.lift, Prog.bind_op, Prog.bind_ret, Prog.pure_eq_ret]
  by_cases hc : c = 0
  on_goal 2 =>
    rw [dif_neg (fun h => hc ((condeq_iff c).mp h)), X24, Y24, outC, if_neg hc, if_neg hc, if_neg hc]
    iintro ⟨#HE, HO, HY, Hwo, Ho, ⟨Ha1, Ha2⟩, ⟨Hb1, Hb2⟩⟩ Hk
  on_goal 1 =>
    subst hc
    rw [dif_pos ((condeq_iff 0).mpr rfl), X24, Y24, outC, if_pos rfl, if_pos rfl, if_pos rfl]
    iintro ⟨#HE, HO, ⟨D0, D1, D2, D3, D4, D5, D6⟩, Hwo, Ho, ⟨Ha1, Ha2⟩, ⟨Hb1, Hb2⟩⟩ Hk
    rw [wp_bind]
    iapply (part4_rule m K) $$ [HO D0 D1 D2 D3]
    · isplitr; · iexact HE
      isplitl [HO]; · iexact HO
      isplitl [D0]; · iexact D0
      isplitl [D1]; · iexact D1
      isplitl [D2]; · iexact D2
      iexact D3
    iintro ⟨HO, D0, D1, D2, D3⟩
    rw [wp_bind]
    iapply (part5_rule m K (pM (q0F m 0) (kvs m 0))) $$ [HO D0 D1 D2 D3 D4 D5 D6]
    · isplitr; · iexact HE
      isplitl [HO]; · iexact HO
      isplitl [D0]; · iexact D0
      isplitl [D1]; · iexact D1
      isplitl [D2]; · iexact D2
      isplitl [D3]; · iexact D3
      isplitl [D4]; · iexact D4
      isplitl [D5]; · iexact D5
      iexact D6
    iintro ⟨HO, HZ, Hp⟩
    rw [wp_bind]
    iapply (part6_rule 0 fullShare (prF m) (pO (q0F m 0) (kvs m 0)) (pM (q0F m 0) (kvs m 0)) (pL (q0F m 0) (kvs m 0))) $$ Hp; iintro Hp
    rw [wp_bind]
    iapply (part7_rule 0 fullShare (prF m) (pO (q0F m 0) (kvs m 0)) (pM (q0F m 0) (kvs m 0)) (pL (q0F m 0) (kvs m 0))) $$ Hp; iintro Hp
    rw [wp_bind]
    iapply (part8_rule 0 fullShare fullShare (prF m) (wos m 0) o (pO (q0F m 0) (kvs m 0)) (pM (q0F m 0) (kvs m 0)) (pL (q0F m 0) (kvs m 0))) $$ [Hp Hwo Ho]
    · skip
      isplitl [Hp]; · iexact Hp
      isplitl [Hwo]; · iexact Hwo
      iexact Ho
    iintro ⟨Hp, Hwo, Ho⟩
    iapply (wp_load 𝒱₀ ((0 : Dev nD) : Thread nD τ) none Set.univ (m := woM) (Finset.subset_univ _)) $$ Hwo; iintro Hwo
    iapply (wp_load 𝒱₀ ((0 : Dev nD) : Thread nD τ) none Set.univ (m := oM) (Finset.subset_univ _)) $$ Ho; iintro Ho
    iapply (wp_store 𝒱₀ ((0 : Dev nD) : Thread nD τ) none Set.univ (m := oM) (r := Rect.unit (s := S2x256x512) ![1, 0, 0] S1x32x512.size inb_S2x256x512_S1x32x512_1_0_0) (Mk := Finset.univ) (Finset.subset_univ _)) $$ Ho; iintro Ho
  all_goals
    iapply (wait_dma m K _ (.hs 0) [] kvHi rfl rfl rfl (by simp)) $$ [HO Ha1 Ha2]
    · isplitr; · iexact HE
      isplitl [HO]; · iexact HO
      isplitl [Ha1]; · iexact Ha1
      iexact Ha2
    iintro ⟨HO, Hza, Ha⟩
    ihave Ha := (Entails.of_eq (pay_hs0 m _)) $$ Ha
    iapply (wait_dma m K _ (.hs 1) [] kvLo rfl rfl rfl (by simp)) $$ [HO Hb1 Hb2]
    · isplitr; · iexact HE
      isplitl [HO]; · iexact HO
      isplitl [Hb1]; · iexact Hb1
      iexact Hb2
    iintro ⟨HO, Hzb, Hb⟩
    ihave Hb := (Entails.of_eq (pay_hs1 m _)) $$ Hb
    rw [wp_ret]; imodintro
    iapply Hk
    isplitl [HO]; · iexact HO
  on_goal 2 =>
    isplitl [HY]; · iexact HY
  on_goal 1 =>
    isplitl [HZ Hp]
    · isplitl [HZ]; · iexact HZ
      iexact Hp
  all_goals
    isplitl [Hwo]; · iexact Hwo
    isplitl [Ho]; · iexact Ho
    isplitl [Hza Ha]
    · isplitl [Hza]; · iexact Hza
      iexact Ha
    isplitl [Hzb]; · iexact Hzb
    iexact Hb

end Cert.KernelIdeal.Attn

end
-- ==== Proof.Body.lean ====
/-
# The kernel body on one device
-/
module

public import proofs.«01_k».proof.Proof.Both

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (K : Dev nD × Cell → ℕ)

/-! ## What a device starts with and ends with -/

/-- The thirty cells at round 0. -/
def opnAll (c : Dev nD) : sProp 𝕄 := iprop(opn (F := F) c .bar ∗ opn (F := F) c .gate ∗ opn (F := F) c (.hs 0) ∗ opn (F := F) c (.hs 1) ∗ opn (F := F) c (.hr 0) ∗ opn (F := F) c (.hr 1) ∗ opn (F := F) c (.gs 0) ∗ opn (F := F) c (.gs 1) ∗ opn (F := F) c (.gs 2) ∗ opn (F := F) c (.gs 3) ∗ opn (F := F) c (.gs 4) ∗ opn (F := F) c (.gs 5) ∗ opn (F := F) c (.gs 6) ∗ opn (F := F) c (.qs 0) ∗ opn (F := F) c (.qs 1) ∗ opn (F := F) c (.qs 2) ∗ opn (F := F) c (.qs 3) ∗ opn (F := F) c (.qs 4) ∗ opn (F := F) c (.qs 5) ∗ opn (F := F) c (.qs 6) ∗ opn (F := F) c .ps ∗ opn (F := F) c .gr ∗ opn (F := F) c .qr ∗ opn (F := F) c (.pr 0) ∗ opn (F := F) c (.pr 1) ∗ opn (F := F) c (.pr 2) ∗ opn (F := F) c (.pr 3) ∗ opn (F := F) c (.pr 4) ∗ opn (F := F) c (.pr 5) ∗ opn (F := F) c (.pr 6))
/-- The thirty cells closed. -/
def zerAll (c : Dev nD) : sProp 𝕄 := iprop(zer (F := F) c .bar ∗ zer (F := F) c .gate ∗ zer (F := F) c (.hs 0) ∗ zer (F := F) c (.hs 1) ∗ zer (F := F) c (.hr 0) ∗ zer (F := F) c (.hr 1) ∗ zer (F := F) c (.gs 0) ∗ zer (F := F) c (.gs 1) ∗ zer (F := F) c (.gs 2) ∗ zer (F := F) c (.gs 3) ∗ zer (F := F) c (.gs 4) ∗ zer (F := F) c (.gs 5) ∗ zer (F := F) c (.gs 6) ∗ zer (F := F) c (.qs 0) ∗ zer (F := F) c (.qs 1) ∗ zer (F := F) c (.qs 2) ∗ zer (F := F) c (.qs 3) ∗ zer (F := F) c (.qs 4) ∗ zer (F := F) c (.qs 5) ∗ zer (F := F) c (.qs 6) ∗ zer (F := F) c .ps ∗ zer (F := F) c .gr ∗ zer (F := F) c .qr ∗ zer (F := F) c (.pr 0) ∗ zer (F := F) c (.pr 1) ∗ zer (F := F) c (.pr 2) ∗ zer (F := F) c (.pr 3) ∗ zer (F := F) c (.pr 4) ∗ zer (F := F) c (.pr 5) ∗ zer (F := F) c (.pr 6))
/-- The duties that device 0 pays alone, and those that each other device pays. -/
def TK0 (c : Dev nD) : sProp 𝕄 := if c = 0 then
    iprop((tok (F := F) 0 (.qs 0) 0 ∗ tok (F := F) 0 (.qs 1) 0 ∗ tok (F := F) 0 (.qs 2) 0 ∗ tok (F := F) 0 (.qs 3) 0 ∗ tok (F := F) 0 (.qs 4) 0 ∗ tok (F := F) 0 (.qs 5) 0 ∗ tok (F := F) 0 (.qs 6) 0) ∗ (tok (F := F) (devOf 0) .qr 0 ∗ tok (F := F) (devOf 1) .qr 0 ∗ tok (F := F) (devOf 2) .qr 0 ∗ tok (F := F) (devOf 3) .qr 0 ∗ tok (F := F) (devOf 4) .qr 0 ∗ tok (F := F) (devOf 5) .qr 0 ∗ tok (F := F) (devOf 6) .qr 0)
      ∗ (tok (F := F) 0 (.gs 0) 0 ∗ tok (F := F) 0 (.gs 1) 0 ∗ tok (F := F) 0 (.gs 2) 0 ∗ tok (F := F) 0 (.gs 3) 0 ∗ tok (F := F) 0 (.gs 4) 0 ∗ tok (F := F) 0 (.gs 5) 0 ∗ tok (F := F) 0 (.gs 6) 0) ∗ (tok (F := F) (devOf 0) .gr 0 ∗ tok (F := F) (devOf 1) .gr 0 ∗ tok (F := F) (devOf 2) .gr 0 ∗ tok (F := F) (devOf 3) .gr 0 ∗ tok (F := F) (devOf 4) .gr 0 ∗ tok (F := F) (devOf 5) .gr 0 ∗ tok (F := F) (devOf 6) .gr 0))
  else iprop(tok (F := F) 0 .gate c ∗ tok (F := F) c .ps 0 ∗ tok (F := F) 0 (.pr (slotOf c)) 0)
/-- The credits that device 0 has alone, and those that each other device has. -/
def CR0 (c : Dev nD) : sProp 𝕄 := if c = 0 then
    iprop(crd (F := F) 0 .gate ∗ crd (F := F) 0 (.pr 0) ∗ crd (F := F) 0 (.pr 1) ∗ crd (F := F) 0 (.pr 2) ∗ crd (F := F) 0 (.pr 3) ∗ crd (F := F) 0 (.pr 4) ∗ crd (F := F) 0 (.pr 5) ∗ crd (F := F) 0 (.pr 6))
  else iprop(crd (F := F) c .gr ∗ crd (F := F) c .qr)

/-- The first part's share of the bundle. -/
def P11 (c : Dev nD) : sProp 𝕄 := if c = 0 then iprop(emp) else iprop(tok 0 .gate c ∗ (∃ f, qPts c f) ∗ ∃ f, gPts c f)
/-- The packed partial and its duties, before the slot has arrived. -/
def XA (c : Dev nD) : sProp 𝕄 := if c = 0 then iprop(emp)
  else iprop((∃ f, (psM.view.loc (c : Thread nD τ) ↦{fullShare} f)) ∗ tok (F := F) c .ps 0 ∗ tok (F := F) 0 (.pr (slotOf c)) 0)
/-- The cells of the sends that are waited for at the end. -/
def XE (c : Dev nD) : sProp 𝕄 := if c = 0 then iprop((opn (F := F) 0 (.gs 0) ∗ opn (F := F) 0 (.gs 1) ∗ opn (F := F) 0 (.gs 2) ∗ opn (F := F) 0 (.gs 3) ∗ opn (F := F) 0 (.gs 4) ∗ opn (F := F) 0 (.gs 5) ∗ opn (F := F) 0 (.gs 6)) ∗ opn (F := F) 0 (.qs 0) ∗ opn (F := F) 0 (.qs 1) ∗ opn (F := F) 0 (.qs 2) ∗ opn (F := F) 0 (.qs 3) ∗ opn (F := F) 0 (.qs 4) ∗ opn (F := F) 0 (.qs 5) ∗ opn (F := F) 0 (.qs 6)) else opn (F := F) c .ps
/-- The cells that the device does not use. -/
def XU (c : Dev nD) : sProp 𝕄 := if c = 0 then iprop(opn (F := F) 0 .ps ∗ opn (F := F) 0 .gr ∗ opn (F := F) 0 .qr)
  else iprop(opn (F := F) c .gate ∗ (opn (F := F) c (.gs 0) ∗ opn (F := F) c (.gs 1) ∗ opn (F := F) c (.gs 2) ∗ opn (F := F) c (.gs 3) ∗ opn (F := F) c (.gs 4) ∗ opn (F := F) c (.gs 5) ∗ opn (F := F) c (.gs 6)) ∗ (opn (F := F) c (.qs 0) ∗ opn (F := F) c (.qs 1) ∗ opn (F := F) c (.qs 2) ∗ opn (F := F) c (.qs 3) ∗ opn (F := F) c (.qs 4) ∗ opn (F := F) c (.qs 5) ∗ opn (F := F) c (.qs 6)) ∗ opn (F := F) c (.pr 0) ∗ opn (F := F) c (.pr 1) ∗ opn (F := F) c (.pr 2) ∗ opn (F := F) c (.pr 3) ∗ opn (F := F) c (.pr 4) ∗ opn (F := F) c (.pr 5) ∗ opn (F := F) c (.pr 6))
/-- The buffer that the device does not use. -/
def PSR (c : Dev nD) : sProp 𝕄 := if c = 0 then iprop(∃ f, (psM.view.loc (c : Thread nD τ) ↦{fullShare} f)) else iprop(∃ f, (prM.view.loc (c : Thread nD τ) ↦{fullShare} f))
/-- What is left of the half share of device 0's keys and values. -/
def gsR (c : Dev nD) : sProp 𝕄 := if c = 0 then gsRest m else iprop(emp)
/-- The share of the keys and values that the loads use. -/
def shr (c : Dev nD) : PosShare TreeShare := if c = 0 then fullShare.right.right else fullShare.right
def Z13 (c : Dev nD) : sProp 𝕄 := if c = 0 then iprop(emp) else zer (F := F) c .qr

omit [FloatOps F] [Named F] in
theorem at_zero {P A B : sProp 𝕄} (h : P = if (0 : Dev nD) = 0 then A else B) : P ⊢ A := by rw [h, if_pos rfl]
omit [FloatOps F] [Named F] in
theorem at_other {P A B : sProp 𝕄} {c : Dev nD} (h : P = if c = 0 then A else B) (hc : ¬c = 0) : P ⊢ B := by rw [h, if_neg hc]

theorem X17_of (c : Dev nD) : iprop(XA c ∗ Y13 c) ⊢ iprop(X17 (F := F) c ∗ Z13 c) := by
  by_cases hc : c = 0
  · rw [XA, Y13, X17, Z13, if_pos hc, if_pos hc, if_pos hc, if_pos hc]
  · rw [XA, Y13, X17, Z13, if_neg hc, if_neg hc, if_neg hc, if_neg hc]
    iintro ⟨⟨Ha, Hb, Hc⟩, Hz, Hp⟩
    isplitl [Ha Hb Hc Hp]
    · skip
      isplitl [Ha]; · iexact Ha
      isplitl [Hp]; · iexact Hp
      isplitl [Hb]; · iexact Hb
      iexact Hc
    iexact Hz

set_option maxHeartbeats 4000000 in
/-- The start, bundle by bundle. -/
theorem pre_bundle (c : Dev nD) :
    iprop(TK0 c ∗ CR0 c ∗ opnAll c ∗ (kvM.view.loc (c : Thread nD τ) ↦{fullShare} kvs m c) ∗ (∃ f, (kcM.view.loc (c : Thread nD τ) ↦{fullShare} f)) ∗ (∃ f, (q0M.view.loc (c : Thread nD τ) ↦{fullShare} f)) ∗ (∃ f, (psM.view.loc (c : Thread nD τ) ↦{fullShare} f)) ∗ (∃ f, (prM.view.loc (c : Thread nD τ) ↦{fullShare} f)))
      ⊢ iprop(P11 c ∗ X12 m c ∗ X13 c ∗ XA c ∗ X18 c ∗ X24 c ∗ XE c ∗ XU c ∗ PSR c ∗ gsR m c ∗ hiPts m c ∗ loPts m c ∗ (kvM.view.loc (c : Thread nD τ) ↦{shr c} kvs m c)
        ∗ (∃ f, oPts c f) ∗ (∃ f, aPts c f) ∗ (∃ f, bPts c f) ∗ opn (F := F) c .bar ∗ opn (F := F) c (.hr 0) ∗ opn (F := F) c (.hr 1) ∗ opn (F := F) c (.hs 0) ∗ opn (F := F) c (.hs 1)) := by
  by_cases hc : c = 0
  · subst hc
    rw [TK0, CR0, P11, X12, X13, XA, X18, X24, XE, XU, PSR, gsR, shr]
    repeat rw [if_pos rfl]
    unfold opnAll due0
    iintro ⟨⟨TA, TB, TC, TD⟩, ⟨Cg, C0, C1, C2, C3, C4, C5, C6⟩, ⟨Ob, Og, Os0, Os1, Or0, Or1, OG0, OG1, OG2, OG3, OG4, OG5, OG6, OQ0, OQ1, OQ2, OQ3, OQ4, OQ5, OQ6, Op, Ogr, Oqr, OP0, OP1, OP2, OP3, OP4, OP5, OP6⟩, Hkv, ⟨%fk, Hkc⟩, Hq, Hps, ⟨%fp, Hpr⟩⟩
    ihave Hkv := (kv_split m 0).1 $$ Hkv
    icases Hkv with ⟨⟨Hhi, Hlo⟩, Hkv⟩
    ihave Hkv := (kv_split0 m).1 $$ Hkv
    icases Hkv with ⟨⟨HG, HGR⟩, Hkv⟩
    ihave Hkc := (kc_split 0 fk).1 $$ Hkc
    icases Hkc with ⟨Ko, Ka, Kb, Kg⟩
    ihave Hpr := (Entails.of_eq (pr_split fp)) $$ Hpr
    icases Hpr with ⟨P0, P1, P2, P3, P4, P5, P6⟩
    isplitr; · iempintro
    isplitl [Cg Og Hq Kg HG P0 P1 P2 P3 P4 P5 P6 TA TB TC TD]
    · isplitl [Cg]; · iexact Cg
      isplitl [Og]; · iexact Og
      isplitl [Hq]; · iexact Hq
      isplitl [Kg]; · iexists fk; iexact Kg
      isplitl [HG]; · iexact HG
      isplitl [P0 P1 P2 P3 P4 P5 P6]
      · isplitl [P0]; · iexists fp; iexact P0
        isplitl [P1]; · iexists fp; iexact P1
        isplitl [P2]; · iexists fp; iexact P2
        isplitl [P3]; · iexists fp; iexact P3
        isplitl [P4]; · iexists fp; iexact P4
        isplitl [P5]; · iexists fp; iexact P5
        iexists fp; iexact P6
      isplitl [TA]; · iexact TA
      isplitl [TB]; · iexact TB
      isplitl [TC]; · iexact TC
      iexact TD
    isplitr; · iempintro
    isplitr; · iempintro
    isplitr; · iempintro
    isplitl [C0 C1 C2 C3 C4 C5 C6 OP0 OP1 OP2 OP3 OP4 OP5 OP6]
    · isplitl [C0 OP0]
      · isplitl [C0]; · iexact C0
        iexact OP0
      isplitl [C1 OP1]
      · isplitl [C1]; · iexact C1
        iexact OP1
      isplitl [C2 OP2]
      · isplitl [C2]; · iexact C2
        iexact OP2
      isplitl [C3 OP3]
      · isplitl [C3]; · iexact C3
        iexact OP3
      isplitl [C4 OP4]
      · isplitl [C4]; · iexact C4
        iexact OP4
      isplitl [C5 OP5]
      · isplitl [C5]; · iexact C5
        iexact OP5
      isplitl [C6]; · iexact C6
      iexact OP6
    isplitl [OG0 OG1 OG2 OG3 OG4 OG5 OG6 OQ0 OQ1 OQ2 OQ3 OQ4 OQ5 OQ6]
    · isplitl [OG0 OG1 OG2 OG3 OG4 OG5 OG6]
      · skip
        isplitl [OG0]; · iexact OG0
        isplitl [OG1]; · iexact OG1
        isplitl [OG2]; · iexact OG2
        isplitl [OG3]; · iexact OG3
        isplitl [OG4]; · iexact OG4
        isplitl [OG5]; · iexact OG5
        iexact OG6
      isplitl [OQ0]; · iexact OQ0
      isplitl [OQ1]; · iexact OQ1
      isplitl [OQ2]; · iexact OQ2
      isplitl [OQ3]; · iexact OQ3
      isplitl [OQ4]; · iexact OQ4
      isplitl [OQ5]; · iexact OQ5
      iexact OQ6
    isplitl [Op Ogr Oqr]
    · skip
      isplitl [Op]; · iexact Op
      isplitl [Ogr]; · iexact Ogr
      iexact Oqr
    isplitl [Hps]; · iexact Hps
    isplitl [HGR]; · iexact HGR
    isplitl [Hhi]; · iexact Hhi
    isplitl [Hlo]; · iexact Hlo
    isplitl [Hkv]; · iexact Hkv
    isplitl [Ko]; · iexists fk; iexact Ko
    isplitl [Ka]; · iexists fk; iexact Ka
    isplitl [Kb]; · iexists fk; iexact Kb
    isplitl [Ob]; · iexact Ob
    isplitl [Or0]; · iexact Or0
    isplitl [Or1]; · iexact Or1
    isplitl [Os0]; · iexact Os0
    iexact Os1
  · rw [TK0, CR0, P11, X12, X13, XA, X18, X24, XE, XU, PSR, gsR, shr]
    repeat rw [if_neg hc]
    unfold opnAll
    iintro ⟨⟨T1, T2, T3⟩, ⟨C1, C2⟩, ⟨Ob, Og, Os0, Os1, Or0, Or1, OG0, OG1, OG2, OG3, OG4, OG5, OG6, OQ0, OQ1, OQ2, OQ3, OQ4, OQ5, OQ6, Op, Ogr, Oqr, OP0, OP1, OP2, OP3, OP4, OP5, OP6⟩, Hkv, ⟨%fk, Hkc⟩, ⟨%fq, Hq⟩, Hps, Hpr⟩
    ihave Hkv := (kv_split m c).1 $$ Hkv
    icases Hkv with ⟨⟨Hhi, Hlo⟩, Hkv⟩
    ihave Hkc := (kc_split c fk).1 $$ Hkc
    icases Hkc with ⟨Ko, Ka, Kb, Kg⟩
    isplitl [T1 Hq Kg]
    · isplitl [T1]; · iexact T1
      isplitl [Hq]; · iexists fq; iapply (Entails.of_eq (qPts_eq c fq).symm); iexact Hq
      iexists fk; iexact Kg
    isplitr; · iempintro
    isplitl [C2 Oqr]
    · skip
      isplitl [C2]; · iexact C2
      iexact Oqr
    isplitl [Hps T2 T3]
    · skip
      isplitl [Hps]; · iexact Hps
      isplitl [T2]; · iexact T2
      iexact T3
    isplitl [C1 Ogr]
    · skip
      isplitl [C1]; · iexact C1
      iexact Ogr
    isplitr; · iempintro
    isplitl [Op]; · iexact Op
    isplitl [Og OG0 OG1 OG2 OG3 OG4 OG5 OG6 OQ0 OQ1 OQ2 OQ3 OQ4 OQ5 OQ6 OP0 OP1 OP2 OP3 OP4 OP5 OP6]
    · isplitl [Og]; · iexact Og
      isplitl [OG0 OG1 OG2 OG3 OG4 OG5 OG6]
      · skip
        isplitl [OG0]; · iexact OG0
        isplitl [OG1]; · iexact OG1
        isplitl [OG2]; · iexact OG2
        isplitl [OG3]; · iexact OG3
        isplitl [OG4]; · iexact OG4
        isplitl [OG5]; · iexact OG5
        iexact OG6
      isplitl [OQ0 OQ1 OQ2 OQ3 OQ4 OQ5 OQ6]
      · skip
        isplitl [OQ0]; · iexact OQ0
        isplitl [OQ1]; · iexact OQ1
        isplitl [OQ2]; · iexact OQ2
        isplitl [OQ3]; · iexact OQ3
        isplitl [OQ4]; · iexact OQ4
        isplitl [OQ5]; · iexact OQ5
        iexact OQ6
      isplitl [OP0]; · iexact OP0
      isplitl [OP1]; · iexact OP1
      isplitl [OP2]; · iexact OP2
      isplitl [OP3]; · iexact OP3
      isplitl [OP4]; · iexact OP4
      isplitl [OP5]; · iexact OP5
      iexact OP6
    isplitl [Hpr]; · iexact Hpr
    isplitr; · iempintro
    isplitl [Hhi]; · iexact Hhi
    isplitl [Hlo]; · iexact Hlo
    isplitl [Hkv]; · iexact Hkv
    isplitl [Ko]; · iexists fk; iexact Ko
    isplitl [Ka]; · iexists fk; iexact Ka
    isplitl [Kb]; · iexists fk; iexact Kb
    isplitl [Ob]; · iexact Ob
    isplitl [Or0]; · iexact Or0
    isplitl [Or1]; · iexact Or1
    isplitl [Os0]; · iexact Os0
    iexact Os1

/-- What device `c` leaves in its output block. -/
def outK (c : Dev nD) (o : (cc0_stg4_0 : Ref sig .tc).ty.Contents (Elt F)) : (cc0_stg4_0 : Ref sig .tc).ty.Contents (Elt F) :=
  outC m c (stO (stO o 0 inb_S2x256x512_S1x256x512_0_0_0 (attn0 c (xs m c) (wqs m c) (kcF m c) (wos m c))) 1 inb_S2x256x512_S1x256x512_1_0_0 (attn1 c (xs m c) (wqs m c) (kcF m c) (wos m c)))

theorem psPts_eq (c : Dev nD) (f : (cc0_scratch2 : Ref sig .tc).ty.Contents (Elt F)) : (psPts c f : sProp 𝕄) = (psM.view.loc (c : Thread nD τ) ↦{fullShare} f) := by
  unfold psPts; rw [View.set_whole]

set_option maxHeartbeats 4000000 in
/-- The kernel's body on device `c`: from its duties, credits, cells and buffers to its cells closed, its buffers back and
    its output block written. -/
theorem body_rule {Q : _ → sProp 𝕄} (c : Dev nD) (o : (cc0_stg4_0 : Ref sig .tc).ty.Contents (Elt F)) :
    iprop(env m K ∗ owesW c (O₀ c) ∗ (TK0 c ∗ CR0 c ∗ opnAll c ∗ (kvM.view.loc (c : Thread nD τ) ↦{fullShare} kvs m c) ∗ (∃ f, (kcM.view.loc (c : Thread nD τ) ↦{fullShare} f)) ∗ (∃ f, (q0M.view.loc (c : Thread nD τ) ↦{fullShare} f)) ∗ (∃ f, (psM.view.loc (c : Thread nD τ) ↦{fullShare} f)) ∗ (∃ f, (prM.view.loc (c : Thread nD τ) ↦{fullShare} f)))
        ∗ (tok (lp c) .bar 0 ∗ tok (rp c) .bar 1 ∗ tok (rp c) (.hr 0) 0 ∗ tok c (.hs 0) 0 ∗ tok (lp c) (.hr 1) 0 ∗ tok c (.hs 1) 0) ∗ (crd c .bar ∗ crd c (.hr 0) ∗ crd c (.hr 1))
        ∗ (xM.view.loc (c : Thread nD τ) ↦{fullShare} xs m c) ∗ (wqM.view.loc (c : Thread nD τ) ↦{fullShare} wqs m c) ∗ (woM.view.loc (c : Thread nD τ) ↦{fullShare} wos m c) ∗ (oM.view.loc (c : Thread nD τ) ↦{fullShare} o))
      ⊢ iprop(((owesW c (tallyK []) ∗ zerAll c ∗ (kvM.view.loc (c : Thread nD τ) ↦{fullShare} kvs m c) ∗ (∃ f, (kcM.view.loc (c : Thread nD τ) ↦{fullShare} f)) ∗ (∃ f, (q0M.view.loc (c : Thread nD τ) ↦{fullShare} f)) ∗ (∃ f, (psM.view.loc (c : Thread nD τ) ↦{fullShare} f)) ∗ (∃ f, (prM.view.loc (c : Thread nD τ) ↦{fullShare} f))
          ∗ (xM.view.loc (c : Thread nD τ) ↦{fullShare} xs m c) ∗ (wqM.view.loc (c : Thread nD τ) ↦{fullShare} wqs m c) ∗ (woM.view.loc (c : Thread nD τ) ↦{fullShare} wos m c) ∗ (oM.view.loc (c : Thread nD τ) ↦{fullShare} outK m c o)) -∗ Q ⟨⟩)
        -∗ wp frame (wpE (defs₀ (F := F)) 𝒱₀ (c : Thread nD τ) none) Set.univ (cc0_body (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) Q) := by
  rw [cc0_body_eq_skeleton]; unfold cc0_body_skel
  simp only [Prog.lift, Prog.bind_op, Prog.bind_ret, Prog.pure_eq_ret]
  iintro ⟨#HE, HO, HB, ⟨T1, T2, T3, T4, T5, T6⟩, ⟨Cb, Ca0, Ca1⟩, Hx, Hwq, Hwo, Ho⟩ Hk
  ihave HB := (pre_bundle m c) $$ HB
  icases HB with ⟨P11, X12, X13, XA, X18, X24, XE, XU, PSR, GSR, Hhi, Hlo, Hkv, Ko, Ka, Kb, Ob, Or0, Or1, Os0, Os1⟩
  rw [wp_bind]
  ihave P11 := (Entails.of_eq (show P11 (F := F) c = (if c = 0 then iprop(emp) else iprop(tok 0 .gate c ∗ (∃ f, qPts c f) ∗ ∃ f, gPts c f)) from rfl)) $$ P11
  iapply (part11_rule m K c) $$ [HO P11 T1 T2 T3 T4 Ka Kb Hhi Cb Ob]
  · isplitr; · iexact HE
    isplitl [HO]; · iexact HO
    isplitl [P11]; · iexact P11
    isplitl [T1]; · iexact T1
    isplitl [T2]; · iexact T2
    isplitl [T3]; · iexact T3
    isplitl [T4]; · iexact T4
    isplitl [Ka]; · iexact Ka
    isplitl [Kb]; · iexact Kb
    isplitl [Hhi]; · iexact Hhi
    isplitl [Cb]; · iexact Cb
    iexact Ob
  iintro ⟨HO, Cs0, Zb, Kb⟩
  rw [wp_bind]
  iapply (part12_rule m K c (shr c)) $$ [HO X12 T6 T5 Hlo Kb Ko Hkv Hx Hwq]
  · isplitr; · iexact HE
    isplitl [HO]; · iexact HO
    isplitl [X12]; · iexact X12
    isplitl [T6]; · iexact T6
    isplitl [T5]; · iexact T5
    isplitl [Hlo]; · iexact Hlo
    isplitl [Kb]; · iexact Kb
    isplitl [Ko]; · iexact Ko
    isplitl [Hkv]; · iexact Hkv
    isplitl [Hx]; · iexact Hx
    iexact Hwq
  iintro ⟨HO, Y12, HQ, HG, Cs1, Ko, Hkv, Hx, Hwq⟩
  rw [wp_bind]
  iapply (part13_rule m K c (shr c)) $$ [HO X13 HQ Hkv Hx Hwq]
  · isplitr; · iexact HE
    isplitl [HO]; · iexact HO
    isplitl [X13]; · iexact X13
    isplitl [HQ]; · iexact HQ
    isplitl [Hkv]; · iexact Hkv
    isplitl [Hx]; · iexact Hx
    iexact Hwq
  iintro ⟨HO, Y13, Hq, Hkv, Hx, Hwq⟩
  rw [wp_bind]
  iapply (part14_rule c (shr c) (kvs m c) (q0F m 0)) $$ Hkv; iintro Hkv
  rw [wp_bind]
  iapply (part15_rule c (shr c) (qsh c) (kvs m c) (q0F m 0)) $$ [Hkv Hq]
  · skip
    isplitl [Hkv]; · iexact Hkv
    iexact Hq
  iintro ⟨Hkv, Hq⟩
  rw [wp_bind]
  iapply (part16_rule c (shr c) (kvs m c) (q0F m 0)) $$ Hkv; iintro Hkv
  ihave HX := (X17_of c) $$ [XA Y13]
  · skip
    isplitl [XA]; · iexact XA
    iexact Y13
  icases HX with ⟨X17, Z13⟩
  rw [wp_bind]
  iapply (part17_rule m K c (q0F m 0) (kvs m c) rfl rfl) $$ [HO X17 Ca0 Or0]
  · isplitr; · iexact HE
    isplitl [HO]; · iexact HO
    isplitl [X17]; · iexact X17
    isplitl [Ca0]; · iexact Ca0
    iexact Or0
  iintro ⟨HO, Y17, Zr0, Ka⟩
  rw [wp_bind]
  iapply (part18_rule m K c) $$ [HO X18 HG Ca1 Or1]
  · isplitr; · iexact HE
    isplitl [HO]; · iexact HO
    isplitl [X18]; · iexact X18
    isplitl [HG]; · iexact HG
    isplitl [Ca1]; · iexact Ca1
    iexact Or1
  iintro ⟨HO, Y18, Kg, Zr1, Kb⟩
  ihave Hkc := (kc_split c (kcF m c)).2 $$ [Ko Ka Kb Kg]
  · skip
    isplitl [Ko]; · iexact Ko
    isplitl [Ka]; · iexact Ka
    isplitl [Kb]; · iexact Kb
    iexact Kg
  rw [wp_bind]
  iapply (part19_rule c fullShare (kcF m c) (xs m c) (wqs m c)) $$ Hkc; iintro Hkc
  rw [wp_bind]
  iapply (part20_rule c fullShare (kcF m c) (xs m c) (wqs m c)) $$ Hkc; iintro Hkc
  rw [wp_bind]
  iapply (part21_rule c fullShare fullShare (kcF m c) (wos m c) o (xs m c) (wqs m c)) $$ [Hkc Hwo Ho]
  · skip
    isplitl [Hkc]; · iexact Hkc
    isplitl [Hwo]; · iexact Hwo
    iexact Ho
  iintro ⟨Hkc, Hwo, Ho⟩
  rw [wp_bind]
  iapply (part22_rule c fullShare (kcF m c) (xs m c) (wqs m c)) $$ Hkc; iintro Hkc
  rw [wp_bind]
  iapply (part23_rule c fullShare fullShare (kcF m c) (wos m c) (stO o 0 inb_S2x256x512_S1x256x512_0_0_0 (attn0 c (xs m c) (wqs m c) (kcF m c) (wos m c))) (xs m c) (wqs m c)) $$ [Hkc Hwo Ho]
  · skip
    isplitl [Hkc]; · iexact Hkc
    isplitl [Hwo]; · iexact Hwo
    iexact Ho
  iintro ⟨Hkc, Hwo, Ho⟩
  rw [wp_bind]
  iapply (part24_rule m K c (stO (stO o 0 inb_S2x256x512_S1x256x512_0_0_0 (attn0 c (xs m c) (wqs m c) (kcF m c) (wos m c))) 1 inb_S2x256x512_S1x256x512_1_0_0 (attn1 c (xs m c) (wqs m c) (kcF m c) (wos m c)))) $$ [HO X24 Hwo Ho Cs0 Os0 Cs1 Os1]
  · isplitr; · iexact HE
    isplitl [HO]; · iexact HO
    isplitl [X24]; · iexact X24
    isplitl [Hwo]; · iexact Hwo
    isplitl [Ho]; · iexact Ho
    isplitl [Cs0 Os0]
    · skip
      isplitl [Cs0]; · iexact Cs0
      iexact Os0
    isplitl [Cs1]; · iexact Cs1
    iexact Os1
  iintro ⟨HO, Y24, Hwo, Ho, ⟨Zs0, Hhi⟩, Zs1, Hlo⟩
  by_cases hc : c = 0
  · subst hc
    rw [dif_pos ((condeq_iff 0).mpr rfl)]
    ihave Y12 := (at_zero (P := Y12 (F := F) 0) rfl) $$ Y12
    ihave Y24 := (at_zero (P := Y24 m 0) rfl) $$ Y24
    ihave XE := (at_zero (P := XE (F := F) 0) rfl) $$ XE
    ihave XU := (at_zero (P := XU (F := F) 0) rfl) $$ XU
    ihave PSR := (at_zero (P := PSR (F := F) 0) rfl) $$ PSR
    ihave GSR := (at_zero (P := gsR m 0) rfl) $$ GSR
    icases Y12 with ⟨Zg, ⟨CQ0, CQ1, CQ2, CQ3, CQ4, CQ5, CQ6⟩, CG0, CG1, CG2, CG3, CG4, CG5, CG6⟩
    icases Y24 with ⟨⟨ZP0, ZP1, ZP2, ZP3, ZP4, ZP5, ZP6⟩, Hpr⟩
    icases XE with ⟨⟨OG0, OG1, OG2, OG3, OG4, OG5, OG6⟩, OQ0, OQ1, OQ2, OQ3, OQ4, OQ5, OQ6⟩
    icases XU with ⟨Up, Ug, Uq⟩
    rw [wp_bind]
    iapply (part9_rule m K) $$ [HO CG0 CG1 CG2 CG3 OG0 OG1 OG2 OG3]
    · unfold due0
      isplitr; · iexact HE
      isplitl [HO]; · iexact HO
      isplitl [CG0 OG0]
      · skip
        isplitl [CG0]; · iexact CG0
        iexact OG0
      isplitl [CG1 OG1]
      · skip
        isplitl [CG1]; · iexact CG1
        iexact OG1
      isplitl [CG2 OG2]
      · skip
        isplitl [CG2]; · iexact CG2
        iexact OG2
      isplitl [CG3]; · iexact CG3
      iexact OG3
    unfold got0
    iintro ⟨HO, ⟨ZG0, G0⟩, ⟨ZG1, G1⟩, ⟨ZG2, G2⟩, ⟨ZG3, G3⟩⟩
    rw [wp_bind]
    iapply (part10_rule m K) $$ [HO CG4 CG5 CG6 OG4 OG5 OG6 CQ0 CQ1 CQ2 CQ3 CQ4 OQ0 OQ1 OQ2 OQ3 OQ4]
    · unfold due0
      isplitr; · iexact HE
      isplitl [HO]; · iexact HO
      isplitl [CG4 OG4]
      · skip
        isplitl [CG4]; · iexact CG4
        iexact OG4
      isplitl [CG5 OG5]
      · skip
        isplitl [CG5]; · iexact CG5
        iexact OG5
      isplitl [CG6 OG6]
      · skip
        isplitl [CG6]; · iexact CG6
        iexact OG6
      isplitl [CQ0 OQ0]
      · skip
        isplitl [CQ0]; · iexact CQ0
        iexact OQ0
      isplitl [CQ1 OQ1]
      · skip
        isplitl [CQ1]; · iexact CQ1
        iexact OQ1
      isplitl [CQ2 OQ2]
      · skip
        isplitl [CQ2]; · iexact CQ2
        iexact OQ2
      isplitl [CQ3 OQ3]
      · skip
        isplitl [CQ3]; · iexact CQ3
        iexact OQ3
      isplitl [CQ4]; · iexact CQ4
      iexact OQ4
    unfold got0
    iintro ⟨HO, ⟨ZG4, G4⟩, ⟨ZG5, G5⟩, ⟨ZG6, G6⟩, ⟨ZQ0, Q0⟩, ⟨ZQ1, Q1⟩, ⟨ZQ2, Q2⟩, ⟨ZQ3, Q3⟩, ⟨ZQ4, Q4⟩⟩
    iapply (wait_dma m K 0 (.qs 5) [] q0M rfl rfl rfl (by simp)) $$ [HO CQ5 OQ5]
    · isplitr; · iexact HE
      isplitl [HO]; · iexact HO
      isplitl [CQ5]; · iexact CQ5
      iexact OQ5
    iintro ⟨HO, ZQ5, Q5⟩
    iapply (wait_dma m K 0 (.qs 6) [] q0M rfl rfl rfl (by simp)) $$ [HO CQ6 OQ6]
    · isplitr; · iexact HE
      isplitl [HO]; · iexact HO
      isplitl [CQ6]; · iexact CQ6
      iexact OQ6
    iintro ⟨HO, ZQ6, Q6⟩
    rw [dif_neg (fun h => (cond8_iff 0).mp h rfl), wp_ret]
    imod (close_unused m K 0 .ps rfl) $$ [Up] with Up
    · isplitr; · iexact HE
      iexact Up
    imod (close_unused m K 0 .gr rfl) $$ [Ug] with Ug
    · isplitr; · iexact HE
      iexact Ug
    imod (close_unused m K 0 .qr rfl) $$ [Uq] with Uq
    · isplitr; · iexact HE
      iexact Uq
    imodintro
    ihave Hq := (Entails.of_eq (show (q0M.view.loc ((0 : Dev nD) : Thread nD τ) ↦{qsh 0} q0F m 0) = ((q0M.view.loc ((0 : Dev nD) : Thread nD τ) ↦{ShareLeaves.leaf 3 fullShare 7} q0F m 0) : sProp 𝕄) by rw [qsh, if_pos rfl])) $$ Hq
    ihave Hq := (Entails.of_eq ((qsPts_eq m 7).symm)) $$ Hq
    ihave Q0 := (Entails.of_eq (show pay m 0 0 (.qs 0) = qsPts m 0 0 from rfl)) $$ Q0
    ihave G0 := (Entails.of_eq (show pay m 0 0 (.gs 0) = gsPts m 0 0 from rfl)) $$ G0
    ihave Q1 := (Entails.of_eq (show pay m 0 0 (.qs 1) = qsPts m 0 1 from rfl)) $$ Q1
    ihave G1 := (Entails.of_eq (show pay m 0 0 (.gs 1) = gsPts m 0 1 from rfl)) $$ G1
    ihave Q2 := (Entails.of_eq (show pay m 0 0 (.qs 2) = qsPts m 0 2 from rfl)) $$ Q2
    ihave G2 := (Entails.of_eq (show pay m 0 0 (.gs 2) = gsPts m 0 2 from rfl)) $$ G2
    ihave Q3 := (Entails.of_eq (show pay m 0 0 (.qs 3) = qsPts m 0 3 from rfl)) $$ Q3
    ihave G3 := (Entails.of_eq (show pay m 0 0 (.gs 3) = gsPts m 0 3 from rfl)) $$ G3
    ihave Q4 := (Entails.of_eq (show pay m 0 0 (.qs 4) = qsPts m 0 4 from rfl)) $$ Q4
    ihave G4 := (Entails.of_eq (show pay m 0 0 (.gs 4) = gsPts m 0 4 from rfl)) $$ G4
    ihave Q5 := (Entails.of_eq (show pay m 0 0 (.qs 5) = qsPts m 0 5 from rfl)) $$ Q5
    ihave G5 := (Entails.of_eq (show pay m 0 0 (.gs 5) = gsPts m 0 5 from rfl)) $$ G5
    ihave Q6 := (Entails.of_eq (show pay m 0 0 (.qs 6) = qsPts m 0 6 from rfl)) $$ Q6
    ihave G6 := (Entails.of_eq (show pay m 0 0 (.gs 6) = gsPts m 0 6 from rfl)) $$ G6
    ihave Hq := (Entails.of_eq (q_split0' m).symm) $$ [Q0 Q1 Q2 Q3 Q4 Q5 Q6 Hq]
    · skip
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      iexact Hq
    ihave Hkv := (kv_split0 m).2 $$ [G0 G1 G2 G3 G4 G5 G6 GSR Hkv]
    · isplitl [G0 G1 G2 G3 G4 G5 G6 GSR]
      · isplitl [G0 G1 G2 G3 G4 G5 G6]
        · skip
          isplitl [G0]; · iexact G0
          isplitl [G1]; · iexact G1
          isplitl [G2]; · iexact G2
          isplitl [G3]; · iexact G3
          isplitl [G4]; · iexact G4
          isplitl [G5]; · iexact G5
          iexact G6
        iexact GSR
      iexact Hkv
    ihave Hkv := (kv_split m 0).2 $$ [Hhi Hlo Hkv]
    · isplitl [Hhi Hlo]
      · skip
        isplitl [Hhi]; · iexact Hhi
        iexact Hlo
      iexact Hkv
    iapply Hk
    isplitl [HO]; · iexact HO
    isplitl [Zb Zg Zs0 Zs1 Zr0 Zr1 ZG0 ZG1 ZG2 ZG3 ZG4 ZG5 ZG6 ZQ0 ZQ1 ZQ2 ZQ3 ZQ4 ZQ5 ZQ6 Up Ug Uq ZP0 ZP1 ZP2 ZP3 ZP4 ZP5 ZP6]
    · unfold zerAll
      isplitl [Zb]; · iexact Zb
      isplitl [Zg]; · iexact Zg
      isplitl [Zs0]; · iexact Zs0
      isplitl [Zs1]; · iexact Zs1
      isplitl [Zr0]; · iexact Zr0
      isplitl [Zr1]; · iexact Zr1
      isplitl [ZG0]; · iexact ZG0
      isplitl [ZG1]; · iexact ZG1
      isplitl [ZG2]; · iexact ZG2
      isplitl [ZG3]; · iexact ZG3
      isplitl [ZG4]; · iexact ZG4
      isplitl [ZG5]; · iexact ZG5
      isplitl [ZG6]; · iexact ZG6
      isplitl [ZQ0]; · iexact ZQ0
      isplitl [ZQ1]; · iexact ZQ1
      isplitl [ZQ2]; · iexact ZQ2
      isplitl [ZQ3]; · iexact ZQ3
      isplitl [ZQ4]; · iexact ZQ4
      isplitl [ZQ5]; · iexact ZQ5
      isplitl [ZQ6]; · iexact ZQ6
      isplitl [Up]; · iexact Up
      isplitl [Ug]; · iexact Ug
      isplitl [Uq]; · iexact Uq
      isplitl [ZP0]; · iexact ZP0
      isplitl [ZP1]; · iexact ZP1
      isplitl [ZP2]; · iexact ZP2
      isplitl [ZP3]; · iexact ZP3
      isplitl [ZP4]; · iexact ZP4
      isplitl [ZP5]; · iexact ZP5
      iexact ZP6
    isplitl [Hkv]; · iexact Hkv
    isplitl [Hkc]; · iexists _; iexact Hkc
    isplitl [Hq]; · iexists _; iexact Hq
    isplitl [PSR]; · iexact PSR
    isplitl [Hpr]; · iexists _; iexact Hpr
    isplitl [Hx]; · iexact Hx
    isplitl [Hwq]; · iexact Hwq
    isplitl [Hwo]; · iexact Hwo
    iexact Ho
  · rw [dif_neg (fun h => hc ((condeq_iff c).mp h)), dif_pos ((cond8_iff c).mpr hc)]
    ihave Y17 := (at_other (P := Y17 (F := F) c) rfl hc) $$ Y17
    ihave Y18 := (at_other (P := Y18 (F := F) c) rfl hc) $$ Y18
    ihave Z13 := (at_other (P := Z13 (F := F) c) rfl hc) $$ Z13
    ihave XE := (at_other (P := XE (F := F) c) rfl hc) $$ XE
    ihave XU := (at_other (P := XU (F := F) c) rfl hc) $$ XU
    ihave PSR := (at_other (P := PSR (F := F) c) rfl hc) $$ PSR
    icases XU with ⟨Ug, ⟨UG0, UG1, UG2, UG3, UG4, UG5, UG6⟩, ⟨UQ0, UQ1, UQ2, UQ3, UQ4, UQ5, UQ6⟩, UP0, UP1, UP2, UP3, UP4, UP5, UP6⟩
    iapply (wait_dma m K c .ps [] psM rfl rfl (by rw [dut, if_neg hc]) (by simp)) $$ [HO Y17 XE]
    · isplitr; · iexact HE
      isplitl [HO]; · iexact HO
      isplitl [Y17]; · iexact Y17
      iexact XE
    iintro ⟨HO, Zp, Hps⟩
    rw [wp_ret]
    imod (close_unused m K c .gate (by rw [dut, if_neg hc])) $$ [Ug] with Ug
    · isplitr; · iexact HE
      iexact Ug
    imod (close_unused m K c (.gs 0) (by rw [dut, if_neg hc])) $$ [UG0] with UG0
    · isplitr; · iexact HE
      iexact UG0
    imod (close_unused m K c (.gs 1) (by rw [dut, if_neg hc])) $$ [UG1] with UG1
    · isplitr; · iexact HE
      iexact UG1
    imod (close_unused m K c (.gs 2) (by rw [dut, if_neg hc])) $$ [UG2] with UG2
    · isplitr; · iexact HE
      iexact UG2
    imod (close_unused m K c (.gs 3) (by rw [dut, if_neg hc])) $$ [UG3] with UG3
    · isplitr; · iexact HE
      iexact UG3
    imod (close_unused m K c (.gs 4) (by rw [dut, if_neg hc])) $$ [UG4] with UG4
    · isplitr; · iexact HE
      iexact UG4
    imod (close_unused m K c (.gs 5) (by rw [dut, if_neg hc])) $$ [UG5] with UG5
    · isplitr; · iexact HE
      iexact UG5
    imod (close_unused m K c (.gs 6) (by rw [dut, if_neg hc])) $$ [UG6] with UG6
    · isplitr; · iexact HE
      iexact UG6
    imod (close_unused m K c (.qs 0) (by rw [dut, if_neg hc])) $$ [UQ0] with UQ0
    · isplitr; · iexact HE
      iexact UQ0
    imod (close_unused m K c (.qs 1) (by rw [dut, if_neg hc])) $$ [UQ1] with UQ1
    · isplitr; · iexact HE
      iexact UQ1
    imod (close_unused m K c (.qs 2) (by rw [dut, if_neg hc])) $$ [UQ2] with UQ2
    · isplitr; · iexact HE
      iexact UQ2
    imod (close_unused m K c (.qs 3) (by rw [dut, if_neg hc])) $$ [UQ3] with UQ3
    · isplitr; · iexact HE
      iexact UQ3
    imod (close_unused m K c (.qs 4) (by rw [dut, if_neg hc])) $$ [UQ4] with UQ4
    · isplitr; · iexact HE
      iexact UQ4
    imod (close_unused m K c (.qs 5) (by rw [dut, if_neg hc])) $$ [UQ5] with UQ5
    · isplitr; · iexact HE
      iexact UQ5
    imod (close_unused m K c (.qs 6) (by rw [dut, if_neg hc])) $$ [UQ6] with UQ6
    · isplitr; · iexact HE
      iexact UQ6
    imod (close_unused m K c (.pr 0) (by rw [dut, if_neg hc])) $$ [UP0] with UP0
    · isplitr; · iexact HE
      iexact UP0
    imod (close_unused m K c (.pr 1) (by rw [dut, if_neg hc])) $$ [UP1] with UP1
    · isplitr; · iexact HE
      iexact UP1
    imod (close_unused m K c (.pr 2) (by rw [dut, if_neg hc])) $$ [UP2] with UP2
    · isplitr; · iexact HE
      iexact UP2
    imod (close_unused m K c (.pr 3) (by rw [dut, if_neg hc])) $$ [UP3] with UP3
    · isplitr; · iexact HE
      iexact UP3
    imod (close_unused m K c (.pr 4) (by rw [dut, if_neg hc])) $$ [UP4] with UP4
    · isplitr; · iexact HE
      iexact UP4
    imod (close_unused m K c (.pr 5) (by rw [dut, if_neg hc])) $$ [UP5] with UP5
    · isplitr; · iexact HE
      iexact UP5
    imod (close_unused m K c (.pr 6) (by rw [dut, if_neg hc])) $$ [UP6] with UP6
    · isplitr; · iexact HE
      iexact UP6
    imodintro
    ihave Hps := (Entails.of_eq (pay_ps m c)) $$ Hps
    ihave Hps := (Entails.of_eq (psPts_eq c _)) $$ Hps
    ihave Hq := (Entails.of_eq (show (q0M.view.loc (c : Thread nD τ) ↦{qsh c} q0F m 0) = ((q0M.view.loc (c : Thread nD τ) ↦{fullShare} q0F m 0) : sProp 𝕄) by rw [qsh, if_neg hc])) $$ Hq
    ihave Hkv := (Entails.of_eq (show (kvM.view.loc (c : Thread nD τ) ↦{shr c} kvs m c) = ((kvM.view.loc (c : Thread nD τ) ↦{fullShare.right} kvs m c) : sProp 𝕄) by rw [shr, if_neg hc])) $$ Hkv
    ihave Hkv := (kv_split m c).2 $$ [Hhi Hlo Hkv]
    · isplitl [Hhi Hlo]
      · skip
        isplitl [Hhi]; · iexact Hhi
        iexact Hlo
      iexact Hkv
    iapply Hk
    isplitl [HO]; · iexact HO
    isplitl [Zb Ug Zs0 Zs1 Zr0 Zr1 UG0 UG1 UG2 UG3 UG4 UG5 UG6 UQ0 UQ1 UQ2 UQ3 UQ4 UQ5 UQ6 Zp Y18 Z13 UP0 UP1 UP2 UP3 UP4 UP5 UP6]
    · unfold zerAll
      isplitl [Zb]; · iexact Zb
      isplitl [Ug]; · iexact Ug
      isplitl [Zs0]; · iexact Zs0
      isplitl [Zs1]; · iexact Zs1
      isplitl [Zr0]; · iexact Zr0
      isplitl [Zr1]; · iexact Zr1
      isplitl [UG0]; · iexact UG0
      isplitl [UG1]; · iexact UG1
      isplitl [UG2]; · iexact UG2
      isplitl [UG3]; · iexact UG3
      isplitl [UG4]; · iexact UG4
      isplitl [UG5]; · iexact UG5
      isplitl [UG6]; · iexact UG6
      isplitl [UQ0]; · iexact UQ0
      isplitl [UQ1]; · iexact UQ1
      isplitl [UQ2]; · iexact UQ2
      isplitl [UQ3]; · iexact UQ3
      isplitl [UQ4]; · iexact UQ4
      isplitl [UQ5]; · iexact UQ5
      isplitl [UQ6]; · iexact UQ6
      isplitl [Zp]; · iexact Zp
      isplitl [Y18]; · iexact Y18
      isplitl [Z13]; · iexact Z13
      isplitl [UP0]; · iexact UP0
      isplitl [UP1]; · iexact UP1
      isplitl [UP2]; · iexact UP2
      isplitl [UP3]; · iexact UP3
      isplitl [UP4]; · iexact UP4
      isplitl [UP5]; · iexact UP5
      iexact UP6
    isplitl [Hkv]; · iexact Hkv
    isplitl [Hkc]; · iexists _; iexact Hkc
    isplitl [Hq]; · iexists _; iexact Hq
    isplitl [Hps]; · iexists _; iexact Hps
    isplitl [PSR]; · iexact PSR
    isplitl [Hx]; · iexact Hx
    isplitl [Hwq]; · iexact Hwq
    isplitl [Hwo]; · iexact Hwo
    iexact Ho

end Cert.KernelIdeal.Attn

end
-- ==== Proof.Out.lean ====
/-
# The block that a device stores
-/
module

public import proofs.«01_k».proof.Proof.Body

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The stores of the output block, read at an index -/

section
variable (o : (cc0_stg4_0 : Ref sig .tc).ty.Contents (Elt F)) (i : S2x256x512.Idx)

/-- The index of the batch's block: the row and the lane. -/
abbrev ixO (n : ℕ) (r : ℕ) (hr : r < n) (d : Fin 512) : (⟨3, ![1, n, 512]⟩ : Shape).Idx :=
  fun a => match a with | ⟨0, _⟩ => (0 : Fin 1) | ⟨1, _⟩ => ⟨r, hr⟩ | ⟨2, _⟩ => d

/-- A store of batch `b`'s rows: inside the batch the stored block, outside what was there. -/
theorem stO_at (b : ℕ) (hb) (w : FVec F S1x256x512 .f32) : stO o b hb w i = if (i 0).val = b then w (ixO 256 (i 1).val (i 1).isLt (i 2)) else o i := by
  by_cases e : (i (0 : Fin 3)).val = b
  · rw [if_pos e]
    have hi : i = (oM.access (Rect.unit (s := S2x256x512) ![b, 0, 0] S1x256x512.size hb)).emb (ixO 256 (i 1).val (i 1).isLt (i 2)) := by
      funext a; apply Fin.ext
      match a with
      | ⟨0, _⟩ => show (i (0 : Fin 3)).val = b + 1 * 0; omega
      | ⟨1, _⟩ => show (i (1 : Fin 3)).val = 0 + 1 * (i (1 : Fin 3)).val; omega
      | ⟨2, _⟩ => show (i (2 : Fin 3)).val = 0 + 1 * (i (2 : Fin 3)).val; omega
    refine (congrArg _ hi).trans ?_
    exact View.write_emb_of_mem (v := oM.access (Rect.unit (s := S2x256x512) ![b, 0, 0] S1x256x512.size hb)) _ _ (Finset.mem_univ _)
  · rw [if_neg e]
    exact View.write_of_not_mem _ _ _ (fun h => by
      obtain ⟨j, -, hj⟩ := Finset.mem_map.mp h
      have h1 : b + 1 * (j (0 : Fin 3)).val = (i (0 : Fin 3)).val := congrArg (fun k => (k (0 : Fin 3)).val) hj
      have h2 : (j (0 : Fin 3)).val < 1 := (j (0 : Fin 3)).isLt
      omega)

/-- A store of batch `b`'s first 32 rows. -/
theorem stO32_at (b : ℕ) (hb) (w : FVec F S1x32x512 .f32) :
    stO32 o b hb w i = if h : (i 0).val = b ∧ (i 1).val < 32 then w (ixO 32 (i 1).val h.2 (i 2)) else o i := by
  by_cases e : (i (0 : Fin 3)).val = b ∧ (i 1).val < 32
  · rw [dif_pos e]
    have hi : i = (oM.access (Rect.unit (s := S2x256x512) ![b, 0, 0] S1x32x512.size hb)).emb (ixO 32 (i 1).val e.2 (i 2)) := by
      funext a; apply Fin.ext
      match a with
      | ⟨0, _⟩ => show (i (0 : Fin 3)).val = b + 1 * 0; omega
      | ⟨1, _⟩ => show (i (1 : Fin 3)).val = 0 + 1 * (i (1 : Fin 3)).val; omega
      | ⟨2, _⟩ => show (i (2 : Fin 3)).val = 0 + 1 * (i (2 : Fin 3)).val; omega
    refine (congrArg _ hi).trans ?_
    exact View.write_emb_of_mem (v := oM.access (Rect.unit (s := S2x256x512) ![b, 0, 0] S1x32x512.size hb)) _ _ (Finset.mem_univ _)
  · rw [dif_neg e]
    exact View.write_of_not_mem _ _ _ (fun h => by
      obtain ⟨j, -, hj⟩ := Finset.mem_map.mp h
      have h1 : b + 1 * (j (0 : Fin 3)).val = (i (0 : Fin 3)).val := congrArg (fun k => (k (0 : Fin 3)).val) hj
      have h3 : 0 + 1 * (j (1 : Fin 3)).val = (i (1 : Fin 3)).val := congrArg (fun k => (k (1 : Fin 3)).val) hj
      have h2 : (j (0 : Fin 3)).val < 1 := (j (0 : Fin 3)).isLt
      have h4 : (j (1 : Fin 3)).val < 32 := (j (1 : Fin 3)).isLt
      exact e ⟨by omega, by omega⟩)
end

/-- The attention of device `c`'s own rows, and device 0's combination for its first 32, by batch. -/
def attnF (c : Dev nD) (b : Fin 2) : FVec F S1x256x512 .f32 :=
  if b = 0 then attn0 c (xs m c) (wqs m c) (kcF m c) (wos m c) else attn1 c (xs m c) (wqs m c) (kcF m c) (wos m c)
def combF (b : Fin 2) : FVec F S1x32x512 .f32 :=
  if b = 0 then comb0 (pO (q0F m 0) (kvs m 0)) (pM (q0F m 0) (kvs m 0)) (pL (q0F m 0) (kvs m 0)) (prF m) (wos m 0)
  else comb1 (pO (q0F m 0) (kvs m 0)) (pM (q0F m 0) (kvs m 0)) (pL (q0F m 0) (kvs m 0)) (prF m) (wos m 0)

/-- The block that device `c` stores: its own rows' attention, except that device 0's first 32 rows are the combination. -/
def outF (c : Dev nD) : (cc0_stg4_0 : Ref sig .tc).ty.Contents (Elt F) := fun i =>
  if h : c = 0 ∧ (i 1).val < 32 then combF m (i 0) (ixO 32 (i 1).val h.2 (i 2)) else attnF m c (i 0) (ixO 256 (i 1).val (i 1).isLt (i 2))

theorem outK_eq (c : Dev nD) (o : (cc0_stg4_0 : Ref sig .tc).ty.Contents (Elt F)) : outK m c o = outF m c := by
  funext i
  have h2 : (i (0 : Fin 3)).val < 2 := (i (0 : Fin 3)).isLt
  have hb : @Eq (Fin 2) (i 0) 0 ∨ @Eq (Fin 2) (i 0) 1 := by
    rcases Nat.lt_or_ge (i (0 : Fin 3)).val 1 with h | h
    · exact Or.inl (Fin.ext (by show (i (0 : Fin 3)).val = 0; omega))
    · exact Or.inr (Fin.ext (by show (i (0 : Fin 3)).val = 1; omega))
  unfold outK outC outF attnF combF
  by_cases hc : c = 0
  · subst hc
    rw [if_pos rfl, stO32_at, stO32_at, stO_at, stO_at]
    by_cases h : (i 1).val < 32
    · rw [dif_pos (show (0 : Dev nD) = 0 ∧ (i 1).val < 32 from ⟨rfl, h⟩)]
      rcases hb with e | e
      · rw [dif_neg (by rw [e]; exact fun h => absurd h.1 (by decide)), dif_pos (by rw [e]; exact ⟨rfl, h⟩), if_pos e]
      · rw [dif_pos (by rw [e]; exact ⟨rfl, h⟩), if_neg (by rw [e]; decide)]
    · rw [dif_neg (fun h' => h h'.2), dif_neg (fun h' => h h'.2), dif_neg (fun h' => h h'.2)]
      rcases hb with e | e
      · rw [if_neg (by rw [e]; decide), if_pos (by rw [e]; rfl), if_pos e]
      · rw [if_pos (by rw [e]; rfl), if_neg (by rw [e]; decide)]
  · rw [if_neg hc, stO_at, stO_at, dif_neg (fun h' => hc h'.1)]
    rcases hb with e | e
    · rw [if_neg (by rw [e]; decide), if_pos (by rw [e]; rfl), if_pos e]
    · rw [if_pos (by rw [e]; rfl), if_neg (by rw [e]; decide)]

end Cert.KernelIdeal.Attn

end
-- ==== Proof.Sound.lean ====
/-
# The body as the pipeline's proof obligation
-/
module

public import proofs.«01_k».proof.Proof.Out
public import proofs.«01_k».proof.Proof.Gen.KernelIdeal.Launch
public import proofs.«01_k».proof.Proof.Gen.KernelIdeal.Points

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## What each device starts from and ends with, and the pipeline's data -/

/-- That every cell has its invariant and is at round 0. -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)

omit [Named F] in
instance records_persistent (K : Dev nD × Cell → ℕ) : BI.Persistent (records m K) := by unfold records; infer_instance

/-- The duties that device `c` pays: to its neighbours, from device 0 to everyone, from everyone else to device 0. The
    list is filled up to 34 with tokens that nobody uses. -/
def tkL (c : Dev nD) : List ((Dev nD × Cell) × ℕ × Fin 8) := [⟨(lp c, .bar), 0, 0⟩, ⟨(rp c, .bar), 0, 1⟩, ⟨(rp c, .hr 0), 0, 0⟩, ⟨(c, .hs 0), 0, 0⟩, ⟨(lp c, .hr 1), 0, 0⟩, ⟨(c, .hs 1), 0, 0⟩] ++
  (if c = 0 then [⟨(0, .qs 0), 0, 0⟩, ⟨(0, .qs 1), 0, 0⟩, ⟨(0, .qs 2), 0, 0⟩, ⟨(0, .qs 3), 0, 0⟩, ⟨(0, .qs 4), 0, 0⟩, ⟨(0, .qs 5), 0, 0⟩, ⟨(0, .qs 6), 0, 0⟩,
    ⟨(devOf 0, .qr), 0, 0⟩, ⟨(devOf 1, .qr), 0, 0⟩, ⟨(devOf 2, .qr), 0, 0⟩, ⟨(devOf 3, .qr), 0, 0⟩, ⟨(devOf 4, .qr), 0, 0⟩, ⟨(devOf 5, .qr), 0, 0⟩, ⟨(devOf 6, .qr), 0, 0⟩,
    ⟨(0, .gs 0), 0, 0⟩, ⟨(0, .gs 1), 0, 0⟩, ⟨(0, .gs 2), 0, 0⟩, ⟨(0, .gs 3), 0, 0⟩, ⟨(0, .gs 4), 0, 0⟩, ⟨(0, .gs 5), 0, 0⟩, ⟨(0, .gs 6), 0, 0⟩,
    ⟨(devOf 0, .gr), 0, 0⟩, ⟨(devOf 1, .gr), 0, 0⟩, ⟨(devOf 2, .gr), 0, 0⟩, ⟨(devOf 3, .gr), 0, 0⟩, ⟨(devOf 4, .gr), 0, 0⟩, ⟨(devOf 5, .gr), 0, 0⟩, ⟨(devOf 6, .gr), 0, 0⟩]
  else [⟨(0, .gate), 0, c⟩, ⟨(c, .ps), 0, 0⟩, ⟨(0, .pr (slotOf c)), 0, 0⟩])
def tk (cj : Dev nD × Fin 34) : (Dev nD × Cell) × ℕ × Fin 8 := (tkL cj.1).getD cj.2.val ((cj.1, .bar), cj.2.val, 0)

theorem tk_inj : Function.Injective tk := by
  have h : ∀ c c' : Dev nD, ∀ j j' : Fin 34, tk (c, j) = tk (c', j') → c = c' ∧ j = j' := by decide +kernel
  rintro ⟨c, j⟩ ⟨c', j'⟩ e
  obtain ⟨h1, h2⟩ := h c c' j j' e
  rw [h1, h2]

abbrev tokOf (cj : Dev nD × Fin 34) : GSem nD τ sig × ℕ × Fin 8 := (kcell (tk cj).1, (tk cj).2)

theorem tokOf_injective : Function.Injective tokOf := fun a b h =>
  tk_inj (Prod.ext (kcell_injective (congrArg (fun x : GSem nD τ sig × ℕ × Fin 8 => x.1) h)) (congrArg (fun x : GSem nD τ sig × ℕ × Fin 8 => x.2) h))

def ringCells : Finset (GSem nD τ sig) := Finset.univ.map ⟨kcell, kcell_injective⟩
def ringToks : Finset (GSem nD τ sig × ℕ × Fin 8) := Finset.univ.map ⟨tokOf, tokOf_injective⟩

/-- The tokens of the duties that device `c` pays. -/
def toks (c : Dev nD) : sProp 𝕄 := bigSep Finset.univ fun j : Fin 34 => dutyTok ER (tokOf (c, j)).1 (tokOf (c, j)).2.1 (tokOf (c, j)).2.2

omit [FloatOps F] [Named F] in
theorem bigSep_34 (Φ : Fin 34 → sProp 𝕄) : bigSep Finset.univ Φ = bigSepL [0, 1, 2, 3, 4, 5, 6, 7, 8, 9, 10, 11, 12, 13, 14, 15, 16, 17, 18, 19, 20, 21, 22, 23, 24, 25, 26, 27, 28, 29, 30, 31, 32, 33] Φ :=
  bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) Φ
omit [FloatOps F] [Named F] in
theorem bigSep_cells (Φ : Cell → sProp 𝕄) : bigSep Finset.univ Φ = iprop(Φ .bar ∗ Φ .gate ∗ Φ (.hs 0) ∗ Φ (.hs 1) ∗ Φ (.hr 0) ∗ Φ (.hr 1) ∗ Φ (.gs 0) ∗ Φ (.gs 1) ∗ Φ (.gs 2) ∗ Φ (.gs 3) ∗ Φ (.gs 4) ∗ Φ (.gs 5) ∗ Φ (.gs 6) ∗ Φ (.qs 0) ∗ Φ (.qs 1) ∗ Φ (.qs 2) ∗ Φ (.qs 3) ∗ Φ (.qs 4) ∗ Φ (.qs 5) ∗ Φ (.qs 6) ∗ Φ .ps ∗ Φ .gr ∗ Φ .qr ∗ Φ (.pr 0) ∗ Φ (.pr 1) ∗ Φ (.pr 2) ∗ Φ (.pr 3) ∗ Φ (.pr 4) ∗ Φ (.pr 5) ∗ Φ (.pr 6)) :=
  (bigSep_univ_eq_bigSepL ([.bar, .gate, .hs 0, .hs 1, .hr 0, .hr 1, .gs 0, .gs 1, .gs 2, .gs 3, .gs 4, .gs 5, .gs 6, .qs 0, .qs 1, .qs 2, .qs 3, .qs 4, .qs 5, .qs 6, .ps, .gr, .qr, .pr 0, .pr 1, .pr 2, .pr 3, .pr 4, .pr 5, .pr 6] : List Cell) (by decide) (by decide) Φ).trans rfl

omit [FloatOps F] [Named F] in
/-- The first nine tokens of a device other than 0. -/
theorem bigSep_take (c : Dev nD) (e : tkL c = [⟨(lp c, .bar), 0, 0⟩, ⟨(rp c, .bar), 0, 1⟩, ⟨(rp c, .hr 0), 0, 0⟩, ⟨(c, .hs 0), 0, 0⟩, ⟨(lp c, .hr 1), 0, 0⟩, ⟨(c, .hs 1), 0, 0⟩] ++ [⟨(0, .gate), 0, c⟩, ⟨(c, .ps), 0, 0⟩, ⟨(0, .pr (slotOf c)), 0, 0⟩]) :
    (bigSepL [0, 1, 2, 3, 4, 5, 6, 7, 8, 9, 10, 11, 12, 13, 14, 15, 16, 17, 18, 19, 20, 21, 22, 23, 24, 25, 26, 27, 28, 29, 30, 31, 32, 33] (fun j : Fin 34 => dutyTok ER (tokOf (c, j)).1 (tokOf (c, j)).2.1 (tokOf (c, j)).2.2) : sProp 𝕄)
      ⊢ iprop(tok (F := F) (lp c) .bar 0 ∗ tok (F := F) (rp c) .bar 1 ∗ tok (F := F) (rp c) (.hr 0) 0 ∗ tok (F := F) c (.hs 0) 0 ∗ tok (F := F) (lp c) (.hr 1) 0 ∗ tok (F := F) c (.hs 1) 0 ∗ tok (F := F) 0 .gate c ∗ tok (F := F) c .ps 0 ∗ tok (F := F) 0 (.pr (slotOf c)) 0) := by
  unfold tokOf tk
  dsimp only
  rw [e]
  refine BIBase.Entails.trans (Entails.of_eq (show _ = iprop(tok (F := F) (lp c) .bar 0 ∗ tok (F := F) (rp c) .bar 1 ∗ tok (F := F) (rp c) (.hr 0) 0 ∗ tok (F := F) c (.hs 0) 0 ∗ tok (F := F) (lp c) (.hr 1) 0 ∗ tok (F := F) c (.hs 1) 0 ∗ tok (F := F) 0 .gate c ∗ tok (F := F) c .ps 0 ∗ tok (F := F) 0 (.pr (slotOf c)) 0 ∗ dutyTok ER (kcell (c, .bar)) 9 0 ∗ dutyTok ER (kcell (c, .bar)) 10 0 ∗ dutyTok ER (kcell (c, .bar)) 11 0 ∗ dutyTok ER (kcell (c, .bar)) 12 0 ∗ dutyTok ER (kcell (c, .bar)) 13 0 ∗ dutyTok ER (kcell (c, .bar)) 14 0 ∗ dutyTok ER (kcell (c, .bar)) 15 0 ∗ dutyTok ER (kcell (c, .bar)) 16 0 ∗ dutyTok ER (kcell (c, .bar)) 17 0 ∗ dutyTok ER (kcell (c, .bar)) 18 0 ∗ dutyTok ER (kcell (c, .bar)) 19 0 ∗ dutyTok ER (kcell (c, .bar)) 20 0 ∗ dutyTok ER (kcell (c, .bar)) 21 0 ∗ dutyTok ER (kcell (c, .bar)) 22 0 ∗ dutyTok ER (kcell (c, .bar)) 23 0 ∗ dutyTok ER (kcell (c, .bar)) 24 0 ∗ dutyTok ER (kcell (c, .bar)) 25 0 ∗ dutyTok ER (kcell (c, .bar)) 26 0 ∗ dutyTok ER (kcell (c, .bar)) 27 0 ∗ dutyTok ER (kcell (c, .bar)) 28 0 ∗ dutyTok ER (kcell (c, .bar)) 29 0 ∗ dutyTok ER (kcell (c, .bar)) 30 0 ∗ dutyTok ER (kcell (c, .bar)) 31 0 ∗ dutyTok ER (kcell (c, .bar)) 32 0 ∗ dutyTok ER (kcell (c, .bar)) 33 0) from rfl)) ?_
  iintro ⟨J0, J1, J2, J3, J4, J5, J6, J7, J8, J9, J10, J11, J12, J13, J14, J15, J16, J17, J18, J19, J20, J21, J22, J23, J24, J25, J26, J27, J28, J29, J30, J31, J32, J33⟩
  isplitl [J0]; · iexact J0
  isplitl [J1]; · iexact J1
  isplitl [J2]; · iexact J2
  isplitl [J3]; · iexact J3
  isplitl [J4]; · iexact J4
  isplitl [J5]; · iexact J5
  isplitl [J6]; · iexact J6
  isplitl [J7]; · iexact J7
  iexact J8

omit [FloatOps F] [Named F] in
/-- The tokens, sorted as the body takes them. -/
theorem toks_out (c : Dev nD) : (toks c : sProp 𝕄) ⊢ iprop(TK0 c ∗ (tok (F := F) (lp c) .bar 0 ∗ tok (F := F) (rp c) .bar 1 ∗ tok (F := F) (rp c) (.hr 0) 0 ∗ tok (F := F) c (.hs 0) 0 ∗ tok (F := F) (lp c) (.hr 1) 0 ∗ tok (F := F) c (.hs 1) 0)) := by
  unfold toks
  rw [bigSep_34]
  by_cases hc : c = 0
  · subst hc
    rw [TK0, if_pos rfl]
    refine BIBase.Entails.trans (Entails.of_eq (show _ = iprop(tok (F := F) (lp 0) .bar 0 ∗ tok (F := F) (rp 0) .bar 1 ∗ tok (F := F) (rp 0) (.hr 0) 0 ∗ tok (F := F) 0 (.hs 0) 0 ∗ tok (F := F) (lp 0) (.hr 1) 0 ∗ tok (F := F) 0 (.hs 1) 0 ∗ tok (F := F) 0 (.qs 0) 0 ∗ tok (F := F) 0 (.qs 1) 0 ∗ tok (F := F) 0 (.qs 2) 0 ∗ tok (F := F) 0 (.qs 3) 0 ∗ tok (F := F) 0 (.qs 4) 0 ∗ tok (F := F) 0 (.qs 5) 0 ∗ tok (F := F) 0 (.qs 6) 0 ∗ tok (F := F) (devOf 0) .qr 0 ∗ tok (F := F) (devOf 1) .qr 0 ∗ tok (F := F) (devOf 2) .qr 0 ∗ tok (F := F) (devOf 3) .qr 0 ∗ tok (F := F) (devOf 4) .qr 0 ∗ tok (F := F) (devOf 5) .qr 0 ∗ tok (F := F) (devOf 6) .qr 0 ∗ tok (F := F) 0 (.gs 0) 0 ∗ tok (F := F) 0 (.gs 1) 0 ∗ tok (F := F) 0 (.gs 2) 0 ∗ tok (F := F) 0 (.gs 3) 0 ∗ tok (F := F) 0 (.gs 4) 0 ∗ tok (F := F) 0 (.gs 5) 0 ∗ tok (F := F) 0 (.gs 6) 0 ∗ tok (F := F) (devOf 0) .gr 0 ∗ tok (F := F) (devOf 1) .gr 0 ∗ tok (F := F) (devOf 2) .gr 0 ∗ tok (F := F) (devOf 3) .gr 0 ∗ tok (F := F) (devOf 4) .gr 0 ∗ tok (F := F) (devOf 5) .gr 0 ∗ tok (F := F) (devOf 6) .gr 0) from rfl)) ?_
    iintro ⟨J0, J1, J2, J3, J4, J5, J6, J7, J8, J9, J10, J11, J12, J13, J14, J15, J16, J17, J18, J19, J20, J21, J22, J23, J24, J25, J26, J27, J28, J29, J30, J31, J32, J33⟩
    isplitr [J0 J1 J2 J3 J4 J5]
    · isplitl [J6 J7 J8 J9 J10 J11 J12]
      · isplitl [J6]; · iexact J6
        isplitl [J7]; · iexact J7
        isplitl [J8]; · iexact J8
        isplitl [J9]; · iexact J9
        isplitl [J10]; · iexact J10
        isplitl [J11]; · iexact J11
        iexact J12
      isplitl [J13 J14 J15 J16 J17 J18 J19]
      · isplitl [J13]; · iexact J13
        isplitl [J14]; · iexact J14
        isplitl [J15]; · iexact J15
        isplitl [J16]; · iexact J16
        isplitl [J17]; · iexact J17
        isplitl [J18]; · iexact J18
        iexact J19
      isplitl [J20 J21 J22 J23 J24 J25 J26]
      · isplitl [J20]; · iexact J20
        isplitl [J21]; · iexact J21
        isplitl [J22]; · iexact J22
        isplitl [J23]; · iexact J23
        isplitl [J24]; · iexact J24
        isplitl [J25]; · iexact J25
        iexact J26
      isplitl [J27]; · iexact J27
      isplitl [J28]; · iexact J28
      isplitl [J29]; · iexact J29
      isplitl [J30]; · iexact J30
      isplitl [J31]; · iexact J31
      isplitl [J32]; · iexact J32
      iexact J33
    isplitl [J0]; · iexact J0
    isplitl [J1]; · iexact J1
    isplitl [J2]; · iexact J2
    isplitl [J3]; · iexact J3
    isplitl [J4]; · iexact J4
    iexact J5
  · have e : tkL c = [⟨(lp c, .bar), 0, 0⟩, ⟨(rp c, .bar), 0, 1⟩, ⟨(rp c, .hr 0), 0, 0⟩, ⟨(c, .hs 0), 0, 0⟩, ⟨(lp c, .hr 1), 0, 0⟩, ⟨(c, .hs 1), 0, 0⟩] ++ [⟨(0, .gate), 0, c⟩, ⟨(c, .ps), 0, 0⟩, ⟨(0, .pr (slotOf c)), 0, 0⟩] := by unfold tkL; rw [if_neg hc]
    rw [TK0, if_neg hc]
    refine BIBase.Entails.trans (bigSep_take c e) ?_
    iintro ⟨J0, J1, J2, J3, J4, J5, J6, J7, J8⟩
    isplitr [J0 J1 J2 J3 J4 J5]
    · isplitl [J6]; · iexact J6
      isplitl [J7]; · iexact J7
      iexact J8
    isplitl [J0]; · iexact J0
    isplitl [J1]; · iexact J1
    isplitl [J2]; · iexact J2
    isplitl [J3]; · iexact J3
    isplitl [J4]; · iexact J4
    iexact J5

/-- What device `c` starts from. -/
def start (c : Dev nD) : sProp 𝕄 :=
  iprop((∃ K, records m K) ∗ opnAll c ∗ toks c ∗ (CR0 c ∗ (crd c .bar ∗ crd c (.hr 0) ∗ crd c (.hr 1))) ∗ levAts L lv)

/-- The start of the body, the credits aside of what the levels allow. -/
def Φ₀ (c : Dev nD) : sProp 𝕄 := iprop(start m c ∗ (∃ f, (kcM.view.loc (c : Thread nD τ) ↦{fullShare} f)) ∗ (∃ f, (q0M.view.loc (c : Thread nD τ) ↦{fullShare} f)) ∗ (∃ f, (psM.view.loc (c : Thread nD τ) ↦{fullShare} f)) ∗ (∃ f, (prM.view.loc (c : Thread nD τ) ↦{fullShare} f)))
/-- The end of the body. -/
def Φ₁ (c : Dev nD) : sProp 𝕄 := iprop(zerAll c ∗ (∃ f, (kcM.view.loc (c : Thread nD τ) ↦{fullShare} f)) ∗ (∃ f, (q0M.view.loc (c : Thread nD τ) ↦{fullShare} f)) ∗ (∃ f, (psM.view.loc (c : Thread nD τ) ↦{fullShare} f)) ∗ (∃ f, (prM.view.loc (c : Thread nD τ) ↦{fullShare} f)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wqs m c
    | ⟨2, _⟩ => kvs m c
    | ⟨3, _⟩ => wos m c
    | ⟨4, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer `b` of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xs m c) ∗ stg c cc0_stg1_0 (wqs m c)
    ∗ stg c cc0_stg2_0 (kvs m c) ∗ stg c cc0_stg3_0 (wos m c) ∗ stg c cc0_stg4_0 (outF m c))

set_option maxRecDepth 4000 in
set_option maxHeartbeats 2000000 in
/-- The body of the pipeline's one point on device `c`. -/
theorem sound_body (c : Dev nD) :
    bodyPre m ρ c ⊢ wp frame (wpE (defs₀ (F := F)) 𝒱₀ (c : Thread nD τ) none) Set.univ (cc0_body (F := F) xM (Memref.isWhole_whole _) wqM (Memref.isWhole_whole _) kvM (Memref.isWhole_whole _) woM (Memref.isWhole_whole _) oM (Memref.isWhole_whole _) kcM (Memref.isWhole_whole _) q0M (Memref.isWhole_whole _) psM (Memref.isWhole_whole _) prM (Memref.isWhole_whole _) cc0_scratch4 cc0_scratch5 cc0_scratch6 cc0_scratch7 cc0_scratch8 cc0_scratch9 cc0_scratch10 cc0_scratch11 cc0_scratch12) (fun _ => bodyPost m ρ c) := by
  unfold bodyPre Φ₀ start
  iintro ⟨⟨⟨⟨%K, HR⟩, Ho, Ht, ⟨C0, C1⟩, #HL⟩, S0, S1, S2, S3⟩, HO, ⟨%d0, %g0, %e0, Hx⟩, ⟨%d1, %g1, %e1, Hwq⟩, ⟨%d2, %g2, %e2, Hkv⟩, ⟨%d3, %g3, %e3, Hwo⟩, ⟨%d4, %g4, %e4, Hout⟩⟩
  have x0 : g0 = xs m c := by rw [e0]; unfold Dat.before; rw [if_pos (fetch0_0 t0_0)]; rfl
  have x1 : g1 = wqs m c := by rw [e1]; unfold Dat.before; rw [if_pos (fetch0_1 t0_0)]; rfl
  have x2 : g2 = kvs m c := by rw [e2]; unfold Dat.before; rw [if_pos (fetch0_2 t0_0)]; rfl
  have x3 : g3 = wos m c := by rw [e3]; unfold Dat.before; rw [if_pos (fetch0_3 t0_0)]; rfl
  subst x0 x1 x2 x3
  unfold Dat.owesAt Pipeline.owesWithin
  icases HO with ⟨%W, %hW, HO⟩
  rw [show (dats m ρ 0 c).owed t0_0.castSucc = O₀ c from rfl]
  ihave Ht := (toks_out c) $$ Ht
  icases Ht with ⟨T0, T1⟩
  unfold records
  icases HR with ⟨#HI, #Hr⟩
  iapply (body_rule m K c g4) $$ [HO T0 C0 Ho Hkv S0 S1 S2 S3 T1 C1 Hx Hwq Hwo Hout]
  · isplitr
    · unfold env
      isplitr; · iexact HI
      isplitr; · iexact Hr
      iexact HL
    isplitl [HO]
    · unfold owesW; iexists W; iexact HO
    isplitl [T0 C0 Ho Hkv S0 S1 S2 S3]
    · skip
      isplitl [T0]; · iexact T0
      isplitl [C0]; · iexact C0
      isplitl [Ho]; · iexact Ho
      isplitl [Hkv]; · iexact Hkv
      isplitl [S0]; · iexact S0
      isplitl [S1]; · iexact S1
      isplitl [S2]; · iexact S2
      iexact S3
    isplitl [T1]; · iexact T1
    isplitl [C1]; · iexact C1
    isplitl [Hx]; · iexact Hx
    isplitl [Hwq]; · iexact Hwq
    isplitl [Hwo]; · iexact Hwo
    iexact Hout
  rw [outK_eq]
  iintro ⟨HO, HZ, Hkv, S0, S1, S2, S3, Hx, Hwq, Hwo, Hout⟩
  unfold bodyPost Φ₁
  isplitl [HZ S0 S1 S2 S3]
  · skip
    isplitl [HZ]; · iexact HZ
    isplitl [S0]; · iexact S0
    isplitl [S1]; · iexact S1
    isplitl [S2]; · iexact S2
    iexact S3
  isplitl [HO]
  · unfold owesW
    icases HO with ⟨%W', HO⟩
    unfold Dat.owesAt Pipeline.owesWithin
    iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hkv]
  · iexists _; isplitr; · (ipureintro; rfl)
    iexact Hkv
  isplitl [Hwo]
  · iexists _; isplitr; · (ipureintro; rfl)
    iexact Hwo
  iexists _; isplitr; · (ipureintro; rfl)
  iexact Hout

set_option maxRecDepth 4000 in
/-- The pipeline's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Attn

end
-- ==== Proof.Launch.lean ====
/-
# The launch and the run
-/
module

public import proofs.«01_k».proof.Proof.Sound
public import Idealize.ShloMosaic.Lib.Pipeline.CollectiveSegs

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The launch -/

/-- The kernel's own semaphores: every cell's but the barrier's. -/
def ownCells : List Cell := [.gate, .hs 0, .hs 1, .hr 0, .hr 1, .gs 0, .gs 1, .gs 2, .gs 3, .gs 4, .gs 5, .gs 6, .qs 0, .qs 1, .qs 2, .qs 3, .qs 4, .qs 5, .qs 6, .ps, .gr, .qr, .pr 0, .pr 1, .pr 2, .pr 3, .pr 4, .pr 5, .pr 6]
abbrev osem : Fin 29 → SemLoc sig := fun k => csem (ownCells.getD k.val .bar)

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

/-- What the launch deals device `c`. -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ toks c)

/-- What the allocation of the cells makes of it. -/
def G' (c : Dev nD) : sProp 𝕄 := iprop((∃ K, records m K) ∗ opnAll c ∗ toks c)

omit [Named F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] [Named F] in
theorem ownSems0_eq (c : Dev nD) : (Pipeline.ownSems0 (Ix := Unit) (Name := ℕ) (U := UU) (Lvl := ℕ) (Val := Elt F) (τ := τ) osem c : sProp 𝕄)
    = iprop(semVal (kcell (c, .gate)) 0 ∗ semVal (kcell (c, .hs 0)) 0 ∗ semVal (kcell (c, .hs 1)) 0 ∗ semVal (kcell (c, .hr 0)) 0 ∗ semVal (kcell (c, .hr 1)) 0 ∗ semVal (kcell (c, .gs 0)) 0 ∗ semVal (kcell (c, .gs 1)) 0 ∗ semVal (kcell (c, .gs 2)) 0 ∗ semVal (kcell (c, .gs 3)) 0 ∗ semVal (kcell (c, .gs 4)) 0 ∗ semVal (kcell (c, .gs 5)) 0 ∗ semVal (kcell (c, .gs 6)) 0 ∗ semVal (kcell (c, .qs 0)) 0 ∗ semVal (kcell (c, .qs 1)) 0 ∗ semVal (kcell (c, .qs 2)) 0 ∗ semVal (kcell (c, .qs 3)) 0 ∗ semVal (kcell (c, .qs 4)) 0 ∗ semVal (kcell (c, .qs 5)) 0 ∗ semVal (kcell (c, .qs 6)) 0 ∗ semVal (kcell (c, .ps)) 0 ∗ semVal (kcell (c, .gr)) 0 ∗ semVal (kcell (c, .qr)) 0 ∗ semVal (kcell (c, .pr 0)) 0 ∗ semVal (kcell (c, .pr 1)) 0 ∗ semVal (kcell (c, .pr 2)) 0 ∗ semVal (kcell (c, .pr 3)) 0 ∗ semVal (kcell (c, .pr 4)) 0 ∗ semVal (kcell (c, .pr 5)) 0 ∗ semVal (kcell (c, .pr 6)) 0) := by
  rw [Pipeline.ownSems0_eq_of_list c osem [0, 1, 2, 3, 4, 5, 6, 7, 8, 9, 10, 11, 12, 13, 14, 15, 16, 17, 18, 19, 20, 21, 22, 23, 24, 25, 26, 27, 28] (by decide) (by decide)]; rfl
omit [FloatOps F] [Named F] in
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

omit [FloatOps F] [Named F] in
/-- The thirty semaphores at zero, one by one. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cells]
  iintro ⟨HO, HB⟩
  isplitl [HB]; · iexact HB
  iexact HO

omit [Named F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [Named F] in
theorem with_records (K : Dev nD × Cell → ℕ) (Φ : Dev nD → sProp 𝕄) :
    iprop(records m K ∗ bigSep Finset.univ Φ) ⊢ bigSep Finset.univ fun c => iprop((∃ K, records m K) ∗ Φ c) := by
  refine (sep_mono_left (BI.bigSep_of_persistent (Finset.univ : Finset (Dev nD)) (records m K))).trans ?_
  rw [← bigSep_sep']
  refine bigSep_mono fun c _ => ?_
  show iprop(records m K ∗ Φ c) ⊢ iprop((∃ K, records m K) ∗ Φ c)
  iintro ⟨HR, H⟩
  isplitl [HR]; · iexists K; iexact HR
  iexact H

omit [Named F] in
/-- The cells' records gathered over all devices, and handed to each. -/
theorem regroup :
    (bigSep Finset.univ fun c : Dev nD => iprop((bigSep Finset.univ fun k => iprop(∃ κ : ℕ, cellInv ER (sched m) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  iapply ((with_records m K (fun c => iprop(opnAll c ∗ toks c))))
  isplitr
  · unfold records; isplitl; · iexact HI
    iexact HR
  · rw [bigSep_sep']
    isplitl [Hat]
    · iapply (show (bigSep Finset.univ fun c : Dev nD => bigSep Finset.univ fun k : Cell => (atPos ER (kcell (c, k)) 0 ∅ 0 : sProp 𝕄)) ⊢ bigSep Finset.univ fun c : Dev nD => opnAll c from
        bigSep_mono fun c _ => show (bigSep Finset.univ fun k : Cell => (atPos ER (kcell (c, k)) 0 ∅ 0 : sProp 𝕄)) ⊢ opnAll c from Entails.of_eq (by rw [bigSep_cells]; rfl))
      iexact Hat
    iexact Htok

omit [Named F] in
/-- The allocation of every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] [Named F] in
theorem crd_of (c : Dev nD) (k : Cell) (h : cnt c k = (dut c k).card) : (cred (tallyAt (kcell (c, k)) () (cnt c k * amt k)) : sProp 𝕄) ⊢ crd c k := by
  unfold crd; rw [h]

omit [FloatOps F] [Named F] in
theorem creds_cells (c : Dev nD) :
    (Pipeline.launchCred O₀ c : sProp 𝕄) ⊢ bigSep Finset.univ fun k : Cell => cred (tallyAt (kcell (c, k)) () (cnt c k * amt k)) := by
  unfold Pipeline.launchCred
  refine (bigSep_subset (Finset.subset_univ (Finset.univ.map ⟨csem, csem_injective⟩))).trans ?_
  rw [bigSep_map]
  exact bigSep_mono fun k _ => Entails.of_eq (congrArg cred (launch_k (c, k)))

omit [FloatOps F] [Named F] in
/-- The credits of the cells, sorted as the body takes them. -/
theorem creds (c : Dev nD) :
    (Pipeline.launchCred O₀ c : sProp 𝕄) ⊢ iprop(CR0 c ∗ (crd c .bar ∗ crd c (.hr 0) ∗ crd c (.hr 1))) := by
  refine (creds_cells c).trans ?_
  rw [bigSep_cells]
  by_cases hc : c = 0
  · subst hc
    rw [CR0, if_pos rfl]
    iintro ⟨H0, H1, H2, H3, H4, H5, H6, H7, H8, H9, H10, H11, H12, H13, H14, H15, H16, H17, H18, H19, H20, H21, H22, H23, H24, H25, H26, H27, H28, H29⟩
    isplitr [H0 H4 H5]
    · isplitl [H1]; · iapply (crd_of 0 .gate (by decide)); iexact H1
      isplitl [H23]; · iapply (crd_of 0 (.pr 0) (by decide)); iexact H23
      isplitl [H24]; · iapply (crd_of 0 (.pr 1) (by decide)); iexact H24
      isplitl [H25]; · iapply (crd_of 0 (.pr 2) (by decide)); iexact H25
      isplitl [H26]; · iapply (crd_of 0 (.pr 3) (by decide)); iexact H26
      isplitl [H27]; · iapply (crd_of 0 (.pr 4) (by decide)); iexact H27
      isplitl [H28]; · iapply (crd_of 0 (.pr 5) (by decide)); iexact H28
      iapply (crd_of 0 (.pr 6) (by decide)); iexact H29
    isplitl [H0]; · iapply (crd_of 0 .bar (by decide)); iexact H0
    isplitl [H4]; · iapply (crd_of 0 (.hr 0) (by decide)); iexact H4
    iapply (crd_of 0 (.hr 1) (by decide)); iexact H5
  · rw [CR0, if_neg hc]
    iintro ⟨H0, H1, H2, H3, H4, H5, H6, H7, H8, H9, H10, H11, H12, H13, H14, H15, H16, H17, H18, H19, H20, H21, H22, H23, H24, H25, H26, H27, H28, H29⟩
    isplitr [H0 H4 H5]
    · isplitl [H21]; · iapply (crd_of c .gr (by revert c; decide)); iexact H21
      iapply (crd_of c .qr (by revert c; decide)); iexact H22
    isplitl [H0]; · iapply (crd_of c .bar (by revert c; decide)); iexact H0
    isplitl [H4]; · iapply (crd_of c (.hr 0) (by revert c; decide)); iexact H4
    iapply (crd_of c (.hr 1) (by revert c; decide)); iexact H5

/-! ### The launch theorem's side conditions -/

omit [Named F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨HK, Ho, Ht⟩⟩
  ihave Hc := (creds (F := F) c) $$ Hcr
  imodintro
  isplitl
  · skip
    isplitl [HK]; · iexact HK
    isplitl [Ho]; · iexact Ho
    isplitl [Ht]; · iexact Ht
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zerAll zer
  iintro ⟨⟨HB, Hz⟩, Hr⟩
  isplitl [HB]; · iexact HB
  isplitl [Hz]; · iexact Hz
  iexact Hr

theorem stage_none : ∀ (w : Fin cfg0.W) (s : Fin (cfg0.win w).nbuf), ofSem (SemLoc.dma ((cfg0.win w).sem s)) = none := by decide +kernel
theorem due_pos : ∀ c : Dev nD, ∀ ck ∈ dueK c, 0 < lvl ck.2 := by decide +kernel

/-- The waits on the staging semaphores, which lie below everything that is owed. -/
theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), SemLoc.dma ((cfg0.win w).sem s)) () = 0 := by dsimp only [lv]; rw [stage_none]
    rcases t with ⟨_ | _, ht⟩
    · exact mayWait_list c _ 0 hs (dueK c) (due_pos c)
    · exact mayWait_list c _ 0 hs [] (fun _ h => absurd h List.not_mem_nil)

/-! ## The run -/

def finalA (c : Dev nD) (w : Fin cfg0.W) : Buf (Elt F) ((cfg0.win w).arr.view.loc (c : Thread nD τ)) := (dats m ρ 0 c).arrAt w cfg0.N

/-- Every window's array holds what the pipeline leaves in it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero, every weakly fair execution of the eight devices terminates, each window's
    array holds what the pipeline leaves in it and every counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn

end
-- ==== Proof.Final.lean ====
/-
# What the arrays hold after the run
-/
module

public import proofs.«01_k».proof.Proof.Launch

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- An argument's window leaves its array as it was. -/
theorem final_in (c : Dev nD) (w : Fin cfg0.W) (h : w ≠ (4 : Fin 5)) : finalA m ρ c w = m ((cfg0.win w).arr.view.loc (c : Thread nD τ)) := by
  refine (dats (F := F) m ρ 0 c).arrAt_in w ?_ _
  revert w; decide

/-- The result's window leaves the device's block. -/
theorem final_out (c : Dev nD) : (win0_4.blk t0_0).view.read (Elt F) (finalA m ρ c (4 : Fin 5)) = outF m c := by
  unfold finalA
  rw [show cfg0.N = (t0_0 : Fin cfg0.N).val + 1 from rfl, (dats m ρ 0 c).arrAt_succ (4 : Fin 5) t0_0]
  rw [show (cfg0.win (4 : Fin 5)).flush t0_0 = true from by decide, if_pos rfl]
  exact View.read_write_univ _ _

/-- Device `c`'s result buffer ends as the block that it stored. -/
theorem result_eq (c : Dev nD) : finalA m ρ c (4 : Fin 5) = outF m c := by
  have hz : (fun a => (win0_4.index t0_0) a * main_v1.ty.shape.size a) = fun _ => 0 :=
    funext fun a => by fin_cases a <;> decide
  have hr := fun f => Memref.read_access_unit_zero (Elt F) main_v1 hz (fun a => by fin_cases a <;> decide) f
  have ho := final_out m ρ c
  exact (hr _).symm.trans ho

/-- The run, read at the arguments and the result: the arguments unchanged, the result the block, the counters at zero. -/
theorem run_blocks : θ_run defs (onTc (τ := τ) (main (F := F))) ⟨m, fun _ => 0, ρ⟩ (fun r => (∀ c : Dev nD,
      r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 4).trans (result_eq m ρ c), (h.1 c 0).trans (final_in m ρ c 0 (by decide)), (h.1 c 1).trans (final_in m ρ c 1 (by decide)),
    (h.1 c 2).trans (final_in m ρ c 2 (by decide)), (h.1 c 3).trans (final_in m ρ c 3 (by decide))⟩, h.2⟩) (run_main m ρ)

end Cert.KernelIdeal.Attn

end
-- ==== Proof.Frames.lean ====
/-
# The kernel as written: its run is the idealized program's, the named constant read as its pattern
-/
module

public import proofs.«01_k».proof.Proof.Final
public import proofs.«01_k».proof.Kernel
public import proofs.«01_k».proof.Proof.Gen.Kernel
public import Idealize.ShloMosaic.PureOps.BitExact

@[expose] public section

noncomputable section

namespace Cert.Frames

open Idealize.ShloMosaic Idealize.SL.Sem

/-- At bit patterns the named constant is the pattern that it stands for. -/
local instance named_bits : Named Bits where
  named _ _ {φ} b := FloatOps.ofBits φ b

set_option maxHeartbeats 4000000 in
set_option maxRecDepth 100000 in
theorem body_eq : @Cert.Kernel.cc0_body Bits _ _ = @Cert.KernelIdeal.cc0_body Bits _ _ _ := rfl

set_option maxHeartbeats 4000000 in
set_option maxRecDepth 100000 in
theorem defs0_eq : Cert.Kernel.defs₀ (F := Bits) = Cert.KernelIdeal.defs₀ (F := Bits) :=
  congrArg (Defs.onTc (nD := Cert.KernelIdeal.nD) (τ := Cert.KernelIdeal.τ) (sig := Cert.KernelIdeal.sig) (Val := Elt Bits) (Λ := Cert.KernelIdeal.Λ₀)) (funext fun l => funext fun a => match l, a with
    | ⟨0, _⟩, (t, s) => rfl
    | ⟨n + 1, h⟩, _ => absurd h (Nat.not_lt.2 (Nat.le_add_left _ _)))

set_option maxHeartbeats 4000000 in
set_option maxRecDepth 100000 in
theorem defs_eq : Cert.Kernel.defs (F := Bits) = Cert.KernelIdeal.defs (F := Bits) := by
  unfold Cert.Kernel.defs Cert.KernelIdeal.defs
  rw [defs0_eq]
  rfl

set_option maxHeartbeats 4000000 in
set_option maxRecDepth 100000 in
theorem main_eq : Cert.Kernel.main (F := Bits) = Cert.KernelIdeal.main (F := Bits) := rfl

set_option maxHeartbeats 4000000 in
set_option maxRecDepth 100000 in
/-- The kernel as written runs, leaves its arguments as they were and its counters at zero. -/
theorem kernel_run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq]
  exact (θ_run (Cert.KernelIdeal.defs (F := Bits)) (onTc (τ := Cert.KernelIdeal.τ) (Cert.KernelIdeal.main (F := Bits))) (⟨m, fun _ => 0, g⟩ : MemSt Cert.KernelIdeal.nD Cert.KernelIdeal.τ Cert.KernelIdeal.sig (Elt Bits))).mono
    (fun _ h => ⟨fun c => (h.1 c).2, h.2⟩) (Cert.KernelIdeal.Attn.run_blocks (F := Bits) m g)

end Cert.Frames

end
-- ==== Proof.Soft.lean ====
/-
# Softmax-weighted sums over the extended reals

The weighted sum `soft` of values under a mask, its independence of how the keys are laid out (`soft_transfer`), and the
combination of partial results computed over parts of the keys (`combine`).
-/
module

public import Idealize.ShloMosaic.PureOps.Ideal
public import Mathlib.Data.EReal.Operations

@[expose] public section

noncomputable section

namespace Cert.Soft

open Idealize.ShloMosaic

/-- The weighted sum: scores `s` where `p` holds and -∞ elsewhere, the weights their exponentials below the maximum divided
    by the sum of these, and the values `v`. -/
def soft {ι : Type} [Fintype ι] (p : ι → Prop) [DecidablePred p] (s v : ι → EReal) : EReal :=
  ∑ j, Ideal.div (Ideal.exp ((if p j then s j else ⊥) - Finset.univ.sup fun k => if p k then s k else ⊥))
    (∑ k, Ideal.exp ((if p k then s k else ⊥) - Finset.univ.sup fun k => if p k then s k else ⊥)) * v j

theorem exp_nonneg (x : EReal) : 0 ≤ Ideal.exp x := by
  induction x with
  | bot => exact le_refl _
  | top => exact le_top
  | coe r => exact EReal.coe_nonneg.2 (Real.exp_pos r).le

theorem exp_bot_sub (x : EReal) : Ideal.exp (⊥ - x) = 0 := by
  rw [sub_eq_add_neg, EReal.bot_add]; rfl

theorem exp_coe_sub (a b : ℝ) : Ideal.exp ((a : EReal) - (b : EReal)) = ((Real.exp (a - b) : ℝ) : EReal) := by
  rw [← EReal.coe_sub]; rfl

/-- A product with a nonnegative real distributes over a finite sum. -/
theorem coe_mul_sum {ι : Type} (t : Finset ι) (a : ℝ) (ha : 0 ≤ a) (f : ι → EReal) :
    (a : EReal) * ∑ j ∈ t, f j = ∑ j ∈ t, (a : EReal) * f j := by
  classical
  induction t using Finset.induction_on with
  | empty => simp
  | insert j t hj ih =>
    rw [Finset.sum_insert hj, Finset.sum_insert hj, ← ih,
      EReal.left_distrib_of_nonneg_of_ne_top (EReal.coe_nonneg.2 ha) (EReal.coe_ne_top a)]

theorem sum_mul_coe {ι : Type} (t : Finset ι) (a : ℝ) (ha : 0 ≤ a) (f : ι → EReal) :
    (∑ j ∈ t, f j) * (a : EReal) = ∑ j ∈ t, f j * (a : EReal) := by
  rw [mul_comm, coe_mul_sum t a ha]; exact Finset.sum_congr rfl fun j _ => mul_comm _ _

theorem coe_sum {ι : Type} (t : Finset ι) (f : ι → ℝ) : ((∑ j ∈ t, f j : ℝ) : EReal) = ∑ j ∈ t, (f j : EReal) := by
  classical
  induction t using Finset.induction_on with
  | empty => simp
  | insert j t hj ih => rw [Finset.sum_insert hj, Finset.sum_insert hj, EReal.coe_add, ih]

theorem div_coe_pos (x : EReal) (l : ℝ) (hl : 0 < l) : Ideal.div x (l : EReal) = x * ((l⁻¹ : ℝ) : EReal) := by
  unfold Ideal.div
  rw [if_neg (by exact_mod_cast hl.ne'), EReal.coe_inv]

/-- The maximum of finitely many reals, at least one, is one of them. -/
theorem sup_coe {ι : Type} [Fintype ι] [Nonempty ι] (f : ι → ℝ) :
    ∃ j, (Finset.univ.sup fun k => (f k : EReal)) = (f j : EReal) := by
  obtain ⟨j, -, hj⟩ := Finset.exists_mem_eq_sup Finset.univ Finset.univ_nonempty (fun k => (f k : EReal))
  exact ⟨j, hj⟩

/-- The sum of the weights is not zero where some key is allowed and its score is a real. -/
theorem den_ne_zero {ι : Type} [Fintype ι] (p : ι → Prop) [DecidablePred p] (s : ι → EReal) (hs : ∀ j, ∃ r : ℝ, s j = (r : EReal))
    (j₀ : ι) (h₀ : p j₀) :
    (∑ k, Ideal.exp ((if p k then s k else ⊥) - Finset.univ.sup fun k => if p k then s k else ⊥)) ≠ 0 := by
  classical
  haveI : Nonempty ι := ⟨j₀⟩
  obtain ⟨j, -, hj⟩ := Finset.exists_mem_eq_sup Finset.univ Finset.univ_nonempty (fun k => if p k then s k else (⊥ : EReal))
  have hle : (if p j₀ then s j₀ else (⊥ : EReal)) ≤ Finset.univ.sup fun k => if p k then s k else (⊥ : EReal) :=
    Finset.le_sup (f := fun k => if p k then s k else (⊥ : EReal)) (Finset.mem_univ j₀)
  have hpj : p j := by
    by_contra hn
    rw [hj, if_neg hn, if_pos h₀] at hle
    obtain ⟨r, hr⟩ := hs j₀
    rw [hr] at hle
    exact absurd (le_bot_iff.1 hle) (EReal.coe_ne_bot r)
  obtain ⟨r, hr⟩ := hs j
  have hone : Ideal.exp ((if p j then s j else ⊥) - Finset.univ.sup fun k => if p k then s k else ⊥) = 1 := by
    rw [hj, if_pos hpj, hr, exp_coe_sub, sub_self, Real.exp_zero]; rfl
  have h1 : (1 : EReal) ≤ ∑ k, Ideal.exp ((if p k then s k else ⊥) - Finset.univ.sup fun k => if p k then s k else ⊥) := by
    rw [← hone]
    exact Finset.single_le_sum (f := fun k => Ideal.exp ((if p k then s k else ⊥) - Finset.univ.sup fun k => if p k then s k else ⊥))
      (fun k _ => exp_nonneg _) (Finset.mem_univ j)
  intro h0; rw [h0] at h1; exact absurd h1 (by norm_num)

/-- A sum over the allowed keys may be taken over another layout of them. -/
theorem sum_transfer {ι κ : Type} [Fintype ι] [Fintype κ] (p : ι → Prop) [DecidablePred p] (P : κ → Prop) [DecidablePred P]
    (f : κ → ι) (hf : ∀ c, P c → p (f c)) (hi : ∀ c c', P c → P c' → f c = f c' → c = c') (hs : ∀ j, p j → ∃ c, P c ∧ f c = j)
    (g : ι → EReal) : (∑ c, if P c then g (f c) else 0) = ∑ j, if p j then g j else 0 := by
  classical
  rw [← Finset.sum_filter, ← Finset.sum_filter]
  refine Finset.sum_bij (fun c _ => f c) ?_ ?_ ?_ ?_
  · intro c hc; rw [Finset.mem_filter] at hc ⊢; exact ⟨Finset.mem_univ _, hf c hc.2⟩
  · intro c hc c' hc' h; exact hi c c' (Finset.mem_filter.1 hc).2 (Finset.mem_filter.1 hc').2 h
  · intro j hj; obtain ⟨c, hc, hcj⟩ := hs j (Finset.mem_filter.1 hj).2
    exact ⟨c, Finset.mem_filter.2 ⟨Finset.mem_univ _, hc⟩, hcj⟩
  · intro c _; rfl

theorem sup_transfer {ι κ : Type} [Fintype ι] [Fintype κ] (p : ι → Prop) [DecidablePred p] (P : κ → Prop) [DecidablePred P]
    (f : κ → ι) (hf : ∀ c, P c → p (f c)) (hs : ∀ j, p j → ∃ c, P c ∧ f c = j) (s : ι → EReal) :
    (Finset.univ.sup fun c => if P c then s (f c) else (⊥ : EReal)) = Finset.univ.sup fun j => if p j then s j else (⊥ : EReal) := by
  apply le_antisymm
  · refine Finset.sup_le fun c _ => ?_
    by_cases h : P c
    · rw [if_pos h]
      exact (by rw [if_pos (hf c h)] : s (f c) = if p (f c) then s (f c) else ⊥) ▸
        Finset.le_sup (f := fun j => if p j then s j else (⊥ : EReal)) (Finset.mem_univ (f c))
    · rw [if_neg h]; exact bot_le
  · refine Finset.sup_le fun j _ => ?_
    by_cases h : p j
    · obtain ⟨c, hc, rfl⟩ := hs j h
      rw [if_pos h]
      exact (by rw [if_pos hc] : s (f c) = if P c then s (f c) else ⊥) ▸
        Finset.le_sup (f := fun c => if P c then s (f c) else (⊥ : EReal)) (Finset.mem_univ c)
    · rw [if_neg h]; exact bot_le

/-- The weighted sum does not change when the allowed keys are laid out in another way, with keys that are not allowed
    among them. -/
theorem soft_transfer {ι κ : Type} [Fintype ι] [Fintype κ] (p : ι → Prop) [DecidablePred p] (P : κ → Prop) [DecidablePred P]
    (f : κ → ι) (hf : ∀ c, P c → p (f c)) (hi : ∀ c c', P c → P c' → f c = f c' → c = c') (hs : ∀ j, p j → ∃ c, P c ∧ f c = j)
    (s v : ι → EReal) (hr : ∀ j, ∃ r : ℝ, s j = (r : EReal)) (j₀ : ι) (h₀ : p j₀) :
    soft P (fun c => s (f c)) (fun c => v (f c)) = soft p s v := by
  have hd := den_ne_zero p s hr j₀ h₀
  have hm := sup_transfer p P f hf hs s
  have hl : (∑ c, Ideal.exp ((if P c then s (f c) else ⊥) - Finset.univ.sup fun j => if p j then s j else (⊥ : EReal)))
      = ∑ j, Ideal.exp ((if p j then s j else ⊥) - Finset.univ.sup fun j => if p j then s j else (⊥ : EReal)) := by
    refine Eq.trans ?_ ((sum_transfer p P f hf hi hs fun j => Ideal.exp (s j - Finset.univ.sup fun j => if p j then s j else (⊥ : EReal))).trans ?_)
    · refine Finset.sum_congr rfl fun c _ => ?_
      by_cases h : P c
      · rw [if_pos h, if_pos h]
      · rw [if_neg h, if_neg h, exp_bot_sub]
    · refine Finset.sum_congr rfl fun c _ => ?_
      by_cases h : p c
      · rw [if_pos h, if_pos h]
      · rw [if_neg h, if_neg h, exp_bot_sub]
  unfold soft
  rw [hm, hl]
  generalize (Finset.univ.sup fun j => if p j then s j else (⊥ : EReal)) = M at *
  generalize (∑ j, Ideal.exp ((if p j then s j else ⊥) - M)) = L at *
  have hz : ∀ x : EReal, Ideal.div (Ideal.exp (⊥ - M)) L * x = 0 := fun x => by
    rw [exp_bot_sub]; unfold Ideal.div; rw [if_neg hd, zero_mul, zero_mul]
  refine Eq.trans ?_ ((sum_transfer p P f hf hi hs fun j => Ideal.div (Ideal.exp (s j - M)) L * v j).trans ?_)
  · refine Finset.sum_congr rfl fun c _ => ?_
    by_cases h : P c
    · rw [if_pos h, if_pos h]
    · rw [if_neg h, if_neg h, hz]
  · refine Finset.sum_congr rfl fun c _ => ?_
    by_cases h : p c
    · rw [if_pos h, if_pos h]
    · rw [if_neg h, if_neg h, hz]

/-- The maximum over all keys, the sum of the weights and the weighted sum of one part of the keys. -/
def pmax {κ : Type} [Fintype κ] (s : κ → EReal) : EReal := Finset.univ.sup s
def psum {κ : Type} [Fintype κ] (s : κ → EReal) : EReal := ∑ j, Ideal.exp (s j - pmax s)
def pctx {κ : Type} [Fintype κ] (s v : κ → EReal) : EReal := ∑ j, Ideal.exp (s j - pmax s) * v j

/-- Partial results over the parts of the keys, rescaled to the common maximum and divided at the end, make the weighted sum
    over all keys, where every score is a real and every key is allowed. -/
theorem combine {δ κ ι : Type} [Fintype δ] [Fintype κ] [Fintype ι] [Nonempty δ] [Nonempty κ] (e : δ × κ ≃ ι)
    (p : ι → Prop) [DecidablePred p] (hp : ∀ j, p j) (s v : ι → EReal) (hr : ∀ j, ∃ r : ℝ, s j = (r : EReal)) (M : EReal)
    (hM : M = Finset.univ.sup fun d => pmax fun k => s (e (d, k))) :
    Ideal.div (∑ d, Ideal.exp (pmax (fun k => s (e (d, k))) - M) * pctx (fun k => s (e (d, k))) (fun k => v (e (d, k))))
      (∑ d, Ideal.exp (pmax (fun k => s (e (d, k))) - M) * psum (fun k => s (e (d, k)))) = soft p s v := by
  classical
  choose r hr using hr
  obtain rfl : s = fun j => (r j : EReal) := funext hr
  have hpm : ∀ d, ∃ a : ℝ, pmax (fun k => ((r (e (d, k)) : ℝ) : EReal)) = (a : EReal) := fun d => by
    obtain ⟨j, hj⟩ := sup_coe fun k => r (e (d, k)); exact ⟨_, hj⟩
  choose a ha using hpm
  have hMs : M = Finset.univ.sup fun j => if p j then (r j : EReal) else ⊥ := by
    rw [hM]
    apply le_antisymm
    · refine Finset.sup_le fun d _ => Finset.sup_le fun k _ => ?_
      have := Finset.le_sup (f := fun j => if p j then (r j : EReal) else (⊥ : EReal)) (Finset.mem_univ (e (d, k)))
      rwa [if_pos (hp _)] at this
    · refine Finset.sup_le fun j _ => ?_
      rw [if_pos (hp j)]
      obtain ⟨⟨d, k⟩, rfl⟩ := e.surjective j
      exact (Finset.le_sup (f := fun k => ((r (e (d, k)) : ℝ) : EReal)) (Finset.mem_univ k)).trans
        (Finset.le_sup (f := fun d => pmax fun k => ((r (e (d, k)) : ℝ) : EReal)) (Finset.mem_univ d))
  obtain ⟨b, hb⟩ : ∃ b : ℝ, M = (b : EReal) := by
    obtain ⟨d, hd⟩ := sup_coe a
    refine ⟨a d, ?_⟩
    rw [hM, ← hd]
    congr 1; funext d; exact ha d
  have hsc : ∀ d k, Ideal.exp (pmax (fun k => ((r (e (d, k)) : ℝ) : EReal)) - M)
      * Ideal.exp (((r (e (d, k)) : ℝ) : EReal) - pmax (fun k => ((r (e (d, k)) : ℝ) : EReal)))
      = Ideal.exp (((r (e (d, k)) : ℝ) : EReal) - M) := fun d k => by
    rw [ha, hb, exp_coe_sub, exp_coe_sub, exp_coe_sub, ← EReal.coe_mul, ← Real.exp_add]
    rw [show a d - b + (r (e (d, k)) - a d) = r (e (d, k)) - b by ring]
  have hl : (∑ d, Ideal.exp (pmax (fun k => ((r (e (d, k)) : ℝ) : EReal)) - M) * psum (fun k => ((r (e (d, k)) : ℝ) : EReal)))
      = ((∑ j, Real.exp (r j - b) : ℝ) : EReal) := by
    rw [coe_sum, ← e.sum_comp, Fintype.sum_prod_type]
    refine Finset.sum_congr rfl fun d _ => ?_
    have hd : Ideal.exp (pmax (fun k => ((r (e (d, k)) : ℝ) : EReal)) - M) = ((Real.exp (a d - b) : ℝ) : EReal) := by
      rw [ha, hb, exp_coe_sub]
    unfold psum
    rw [hd, coe_mul_sum _ _ (Real.exp_pos _).le]
    refine Finset.sum_congr rfl fun k _ => ?_
    rw [← hd, hsc, hb, exp_coe_sub]
  have hpos : 0 < ∑ j, Real.exp (r j - b) := by
    haveI : Nonempty ι := ⟨e (Classical.arbitrary _, Classical.arbitrary _)⟩
    exact Finset.sum_pos (fun j _ => Real.exp_pos _) Finset.univ_nonempty
  have hl' : (∑ k, Ideal.exp ((if p k then (r k : EReal) else ⊥) - Finset.univ.sup fun k => if p k then (r k : EReal) else ⊥))
      = ((∑ j, Real.exp (r j - b) : ℝ) : EReal) := by
    rw [coe_sum]
    refine Finset.sum_congr rfl fun k _ => ?_
    rw [if_pos (hp k), ← hMs, hb, exp_coe_sub]
  unfold soft
  rw [hl, hl', div_coe_pos _ _ hpos, sum_mul_coe _ _ (inv_pos.2 hpos).le]
  refine Eq.trans ?_ (e.sum_comp _)
  rw [Fintype.sum_prod_type]
  refine Finset.sum_congr rfl fun d _ => ?_
  have hd : Ideal.exp (pmax (fun k => ((r (e (d, k)) : ℝ) : EReal)) - M) = ((Real.exp (a d - b) : ℝ) : EReal) := by
    rw [ha, hb, exp_coe_sub]
  unfold pctx
  rw [hd, coe_mul_sum _ _ (Real.exp_pos _).le, sum_mul_coe _ _ (inv_pos.2 hpos).le]
  refine Finset.sum_congr rfl fun k _ => ?_
  rw [← mul_assoc, ← hd, hsc, if_pos (hp _), ← hMs, div_coe_pos _ _ hpos, mul_right_comm]

end Cert.Soft

end
-- ==== Proof.Spec.lean ====
/-
# What both programs compute

Scores, the mask and the result as sums over the arguments, with the facts on words and constants that both sides' readings
need.
-/
module

public import proofs.«01_k».proof.Proof.Soft
public import Idealize.ShloMosaic.Lib.Pointwise
public import Idealize.ShloMosaic.Lib.IdealHost

@[expose] public section

noncomputable section

namespace Cert.Spec

open Idealize.ShloMosaic Cert.Soft

/-- Row `i` sees key `j`: they are within 128 of each other, or the key or the row is among the first 32. -/
def allowed (i j : ℕ) : Prop := (i ≤ j + 128 ∧ j ≤ i + 128) ∨ j < 32 ∨ i < 32

instance (i j : ℕ) : Decidable (allowed i j) := by unfold allowed; infer_instance

theorem ofBits_bot : Ideal.ofBits .f32 0xFF800000#32 = ⊥ := by
  simp [Ideal.ofBits, Ideal.ieee]

/-- 0.125, the scale of the scores. -/
theorem ofBits_eighth : Ideal.ofBits .f32 0x3E000000#32 = ((1 / 8 : ℝ) : EReal) := by
  simp [Ideal.ofBits, Ideal.ieee, -EReal.coe_mul]; norm_num

/-- A maximum started at -∞ is the supremum. -/
theorem fold_max {n : ℕ} (f : Fin n → EReal) :
    Finset.univ.fold max (Ideal.ofBits .f32 0xFF800000#32) f = Finset.univ.sup f := by
  rw [ofBits_bot]; rfl

/-- The distance of two words below 2048 compared with 128. -/
theorem near_word (i j : ℕ) (hi : i < 4096) (hj : j < 4096) :
    IntOp.cmpi .sle (IntOp.absi (IntOp.subi (BitVec.ofNat 32 i) (BitVec.ofNat 32 j))) 128#32
      = if i ≤ j + 128 ∧ j ≤ i + 128 then 1#1 else 0#1 := by
  have habs : (IntOp.absi (IntOp.subi (BitVec.ofNat 32 i) (BitVec.ofNat 32 j))).toNat = if j ≤ i then i - j else j - i := by
    unfold IntOp.absi IntOp.subi
    rw [BitVec.msb_eq_decide]
    have ht : (BitVec.ofNat 32 i - BitVec.ofNat 32 j).toNat = (2 ^ 32 - j + i) % 2 ^ 32 := by
      simp only [BitVec.toNat_sub, BitVec.toNat_ofNat]; omega
    by_cases h : j ≤ i
    · rw [if_neg (by rw [decide_eq_true_eq, ht]; omega), ht, if_pos h]; omega
    · rw [if_pos (by rw [decide_eq_true_eq, ht]; omega), BitVec.toNat_neg, ht, if_neg h]; omega
  have hlt : (IntOp.absi (IntOp.subi (BitVec.ofNat 32 i) (BitVec.ofNat 32 j))).toNat < 4096 := by rw [habs]; split <;> omega
  generalize IntOp.absi (IntOp.subi (BitVec.ofNat 32 i) (BitVec.ofNat 32 j)) = z at *
  have hz : z.toInt = z.toNat := by rw [BitVec.toInt_eq_toNat_cond, if_pos (by omega)]
  show BitVec.ofBool (z.sle 128#32) = _
  rw [BitVec.sle_eq_decide, hz, show (128#32 : BitVec 32).toInt = 128 from rfl]
  by_cases h : i ≤ j + 128 ∧ j ≤ i + 128
  · rw [if_pos h, decide_eq_true (by rw [habs]; split <;> omega)]; rfl
  · rw [if_neg h, decide_eq_false (by rw [habs]; split <;> omega)]; rfl

theorem toInt_small (i : ℕ) (hi : i < 4096) : (BitVec.ofNat 32 i).toInt = i := by
  rw [BitVec.toInt_eq_toNat_cond, BitVec.toNat_ofNat, Nat.mod_eq_of_lt (by omega), if_pos (by omega)]

theorem slt_word (i n : ℕ) (hi : i < 4096) (hn : n < 4096) :
    IntOp.cmpi .slt (BitVec.ofNat 32 i) (BitVec.ofNat 32 n) = if i < n then 1#1 else 0#1 := by
  show BitVec.ofBool ((BitVec.ofNat 32 i).slt (BitVec.ofNat 32 n)) = _
  rw [BitVec.slt_eq_decide, toInt_small i hi, toInt_small n hn]
  by_cases h : i < n
  · rw [if_pos h, decide_eq_true (by omega)]; rfl
  · rw [if_neg h, decide_eq_false (by omega)]; rfl

theorem ori_bool (p q : Prop) [Decidable p] [Decidable q] :
    IntOp.ori (if p then 1#1 else 0#1) (if q then 1#1 else 0#1) = if p ∨ q then 1#1 else 0#1 := by
  by_cases p <;> by_cases q <;> simp [*, IntOp.ori]

/-- The reference's mask word. -/
theorem mask_word (i j : Fin 2048) :
    IntOp.ori (IntOp.cmpi .sle (IntOp.absi (IntOp.subi (BitVec.ofNat 32 i) (BitVec.ofNat 32 j))) 128#32)
      (IntOp.ori (IntOp.cmpi .slt (BitVec.ofNat 32 j) 32#32) (IntOp.cmpi .slt (BitVec.ofNat 32 i) 32#32))
      = if allowed i j then 1#1 else 0#1 := by
  rw [near_word i j (by omega) (by omega), slt_word j 32 (by omega) (by omega), slt_word i 32 (by omega) (by omega), ori_bool, ori_bool]
  rfl

end Cert.Spec

end
-- ==== Proof.Head.lean ====
/-
# Blocks of the attention of a device's own rows, read at an index

One head's output over the 544 gathered columns, and the product of four heads with `Wo`.
-/
module

public import proofs.«01_k».proof.Proof.Gen.KernelIdeal.Skeleton
public import proofs.«01_k».proof.Proof.Spec

@[expose] public section

noncomputable section

namespace Cert.KernelIdeal.Attn

open Cert.KernelIdeal Cert.KernelIdeal.Gen Idealize.ShloMosaic Idealize.ShloMosaic.TcCoe Cert.Spec Cert.Soft

/-- The columns' weights of one head: the masked scores' exponentials below the row's maximum, divided by the row's sum. -/
def headW (mask : IVec S256x544 1) (q : FVec Ideal S256x64 .bf16) (k : Vec Ideal S1x544x64 .bf16) : FVec Ideal S256x544 .f32 :=
  have s : FVec Ideal S256x544 .f32 := select mask
    (matmul dot_S256x64_S544x64_S256x544_1_1_0_0_n_n none q (shapeCast S544x64 k shapeCasts_S1x544x64_S544x64 : FVec Ideal S544x64 .bf16) (constant S256x544 .f32 0x00000000#32))
    (broadcast S256x544 (Named.named κ "mask" 0xCE6E6B28#32))
  have e : FVec Ideal S256x544 .f32 := exp (subf s (broadcastTo S256x544 (shapeCast S256x1
    (multiReduction .maximumf [1] S256 s 0xFF800000#32 reduces_S256x544_S256 (.inl rfl) rfl) shapeCasts_S256_S256x1) broadcasts_S256x1_S256x544))
  divf e (broadcastTo S256x544 (shapeCast S256x1
    (multiReduction .add [1] S256 e 0x00000000#32 reduces_S256x544_S256 (.inl rfl) rfl) shapeCasts_S256_S256x1) broadcasts_S256x1_S256x544)

/-- One head's output. -/
def head (mask : IVec S256x544 1) (q : FVec Ideal S256x64 .bf16) (k v : Vec Ideal S1x544x64 .bf16) : FVec Ideal S256x64 .f32 :=
  matmul dot_S256x544_S544x64_S256x64_1_0_0_1_n_n none (truncf .bf16 (headW mask q k) bitsLt_bf16_f32)
    (shapeCast S544x64 v shapeCasts_S1x544x64_S544x64 : FVec Ideal S544x64 .bf16) (constant S256x64 .f32 0x00000000#32)

/-- Four heads side by side, times `Wo`. -/
def heads (h0 h1 h2 h3 : FVec Ideal S256x64 .f32) (wo : Vec Ideal S256x512 .bf16) : FVec Ideal S1x256x512 .f32 :=
  shapeCast S1x256x512 (matmul dot_S256x256_S256x512_S256x512_1_0_0_1_n_n none
    (truncf .bf16 (concatenate S256x256 1 [⟨S256x64, h0⟩, ⟨S256x64, h1⟩, ⟨S256x64, h2⟩, ⟨S256x64, h3⟩] concatenates_S256x64_S256x64_S256x64_S256x64_S256x256_d1) bitsLt_bf16_f32)
    (shapeCast S256x512 wo shapeCasts_S256x512_S256x512 : FVec Ideal S256x512 .bf16) (constant S256x512 .f32 0x00000000#32)) shapeCasts_S256x512_S1x256x512

/-- A batch's scaled queries. -/
def query (x : Vec Ideal S1x256x512 .bf16) (wq : Vec Ideal S512x256 .bf16) : FVec Ideal S256x256 .bf16 := k0_pay28 x wq

theorem query_apply (x : Vec Ideal S1x256x512 .bf16) (wq : Vec Ideal S512x256 .bf16) (r t : Fin 256) :
    query x wq (ix2 r t) = (∑ e : Fin 512, x (ix3 0 r e) * wq (ix2 e t)) * Ideal.ofBits .f32 0x3E000000#32 := by
  pointwise [query, k0_pay28]

/-- Four pieces of 64 lanes side by side. -/
theorem ladder {α : Type} (f : Fin 4 → Fin 64 → α) (t : Fin 256) :
    (if h : t.val < 64 then f 0 ⟨t.val, h⟩
      else if h : t.val - 64 < 64 then f 1 ⟨t.val - 64, h⟩
      else if h : t.val - 64 - 64 < 64 then f 2 ⟨t.val - 64 - 64, h⟩ else f 3 ⟨t.val - 64 - 64 - 64, by omega⟩)
      = f ⟨t.val / 64, by omega⟩ ⟨t.val % 64, by omega⟩ := by
  have key : ∀ (a : Fin 4) (b : Fin 64), a.val = t.val / 64 → b.val = t.val % 64 → f a b = f ⟨t.val / 64, by omega⟩ ⟨t.val % 64, by omega⟩ :=
    fun a b ha hb => congrArg₂ f (Fin.ext ha) (Fin.ext hb)
  split
  · exact key _ _ (show 0 = t.val / 64 by omega) (show t.val = t.val % 64 by omega)
  · split
    · exact key _ _ (show 1 = t.val / 64 by omega) (show t.val - 64 = t.val % 64 by omega)
    · split
      · exact key _ _ (show 2 = t.val / 64 by omega) (show t.val - 64 - 64 = t.val % 64 by omega)
      · exact key _ _ (show 3 = t.val / 64 by omega) (show t.val - 64 - 64 - 64 = t.val % 64 by omega)

theorem named_mask : (Named.named κ "mask" 0xCE6E6B28#32 : Ideal .f32) = (⊥ : EReal) := rfl

theorem headW_apply (mask : IVec S256x544 1) (q : FVec Ideal S256x64 .bf16) (k : Vec Ideal S1x544x64 .bf16) (r : Fin 256) (j : Fin 544) :
    headW mask q k (ix2 r j) = Ideal.div
      (Ideal.exp ((if mask (ix2 r j) = 1#1 then ∑ e : Fin 64, q (ix2 r e) * k (ix3 0 j e) else ⊥)
        - Finset.univ.sup fun j : Fin 544 => if mask (ix2 r j) = 1#1 then ∑ e : Fin 64, q (ix2 r e) * k (ix3 0 j e) else ⊥))
      (∑ j : Fin 544, Ideal.exp ((if mask (ix2 r j) = 1#1 then ∑ e : Fin 64, q (ix2 r e) * k (ix3 0 j e) else ⊥)
        - Finset.univ.sup fun j : Fin 544 => if mask (ix2 r j) = 1#1 then ∑ e : Fin 64, q (ix2 r e) * k (ix3 0 j e) else ⊥)) := by
  pointwise [headW]
  rw [named_mask, fold_max]
  rfl

theorem head_apply (mask : IVec S256x544 1) (q : FVec Ideal S256x64 .bf16) (k v : Vec Ideal S1x544x64 .bf16) (r : Fin 256) (d : Fin 64) :
    head mask q k v (ix2 r d) = ∑ j : Fin 544, headW mask q k (ix2 r j) * v (ix3 0 j d) := by
  pointwise [head]

/-- One head's output is the weighted sum of the values under the mask. -/
theorem head_soft (mask : IVec S256x544 1) (q : FVec Ideal S256x64 .bf16) (k v : Vec Ideal S1x544x64 .bf16) (r : Fin 256) (d : Fin 64) :
    head mask q k v (ix2 r d)
      = soft (fun j : Fin 544 => mask (ix2 r j) = 1#1) (fun j => ∑ e : Fin 64, q (ix2 r e) * k (ix3 0 j e)) (fun j => v (ix3 0 j d)) := by
  rw [head_apply]
  unfold soft
  exact Finset.sum_congr rfl fun j _ => by rw [headW_apply]

/-- Four heads `H` side by side times `Wo`. -/
theorem heads_apply (H : Fin 4 → FVec Ideal S256x64 .f32) (wo : Vec Ideal S256x512 .bf16) (r : Fin 256) (n : Fin 512) :
    heads (H 0) (H 1) (H 2) (H 3) wo (ix3 0 r n)
      = ∑ t : Fin 256, H ⟨t.val / 64, by omega⟩ (ix2 r ⟨t.val % 64, by omega⟩) * wo (ix2 t n) := by
  pointwise [heads]
  refine Finset.sum_congr rfl fun t _ => congrArg (· * wo (ix2 t n)) ?_
  exact ladder (fun h d => H h (ix2 r d)) t

end Cert.KernelIdeal.Attn

end
-- ==== Proof.Mask.lean ====
/-
# Which gathered columns a row attends to

The key that each of the 544 gathered columns holds (`colKey`), and the kernel's mask word (`mask_apply`).
-/
module

public import proofs.«01_k».proof.Proof.Parts
public import proofs.«01_k».proof.Proof.Spec

@[expose] public section

noncomputable section

namespace Cert.KernelIdeal.Attn

open Cert.KernelIdeal Cert.KernelIdeal.Gen Idealize.ShloMosaic Idealize.ShloMosaic.TcCoe Cert.Spec

/-- The number of the key in column `j` of device `c`. -/
def colKey (c j : ℕ) : ℕ :=
  if j < 256 then 256 * c + j else if j < 384 then 256 * ((c + 7) % 8) + (j - 128) else if j < 512 then 256 * ((c + 1) % 8) + (j - 384) else j - 512

/-- The columns that row `r` of device `c` attends to: near keys and the first 32 keys among its own, near keys among its
    neighbours', and the gathered first 32 keys except on device 0. -/
def colUse (c r j : ℕ) : Prop :=
  ((((256 * c + r ≤ colKey c j + 128 ∧ colKey c j ≤ 256 * c + r + 128) ∨ (colKey c j < 32 ∧ j < 256)) ∧ ¬ 512 ≤ j) ∨ (512 ≤ j ∧ c ≠ 0))

instance (c r j : ℕ) : Decidable (colUse c r j) := by unfold colUse; infer_instance

theorem sge_word (i n : ℕ) (hi : i < 4096) (hn : n < 4096) :
    IntOp.cmpi .sge (BitVec.ofNat 32 i) (BitVec.ofNat 32 n) = if n ≤ i then 1#1 else 0#1 := by
  show BitVec.ofBool ((BitVec.ofNat 32 n).sle (BitVec.ofNat 32 i)) = _
  rw [BitVec.sle_eq_decide, toInt_small i hi, toInt_small n hn]
  by_cases h : n ≤ i
  · rw [if_pos h, decide_eq_true (by omega)]; rfl
  · rw [if_neg h, decide_eq_false (by omega)]; rfl

theorem andi_bool (p q : Prop) [Decidable p] [Decidable q] :
    IntOp.andi (if p then 1#1 else 0#1) (if q then 1#1 else 0#1) = if p ∧ q then 1#1 else 0#1 := by
  by_cases p <;> by_cases q <;> simp [*, IntOp.andi]

theorem not_bool (p : Prop) [Decidable p] : IntOp.xori (if p then 1#1 else 0#1) 1#1 = if ¬ p then 1#1 else 0#1 := by
  by_cases p <;> simp [*, IntOp.xori]

theorem w2_eq (c : Fin 8) : w2 c = BitVec.ofNat 32 c.val := by fin_cases c <;> rfl
theorem w5_eq (c : Fin 8) : w5 c = BitVec.ofNat 32 ((c.val + 7) % 8) := by fin_cases c <;> rfl
theorem w7_eq (c : Fin 8) : w7 c = BitVec.ofNat 32 ((c.val + 1) % 8) := by fin_cases c <;> rfl
theorem w2_ne (c : Fin 8) : IntOp.cmpi .ne (BitVec.ofNat 32 c.val) 0#32 = if c.val ≠ 0 then 1#1 else 0#1 := by fin_cases c <;> rfl

theorem select_bool {α : Type} (p : Prop) [Decidable p] (a b : α) : Scalar.select (if p then 1#1 else 0#1) a b = if p then a else b := by
  by_cases p <;> simp [*, Scalar.select]

theorem mul_word (i n : ℕ) : Scalar.muli (BitVec.ofNat 32 i) (BitVec.ofNat 32 n) = BitVec.ofNat 32 (i * n) := (BitVec.ofNat_mul i n).symm
theorem addS_word (i n : ℕ) : Scalar.addi (BitVec.ofNat 32 i) (BitVec.ofNat 32 n) = BitVec.ofNat 32 (i + n) := (BitVec.ofNat_add i n).symm
theorem add_word (i n : ℕ) : IntOp.addi (BitVec.ofNat 32 i) (BitVec.ofNat 32 n) = BitVec.ofNat 32 (i + n) := (BitVec.ofNat_add i n).symm
theorem sub_word (i n : ℕ) (hi : i < 4096) (hn : n ≤ i) : IntOp.subi (BitVec.ofNat 32 i) (BitVec.ofNat 32 n) = BitVec.ofNat 32 (i - n) := by
  apply BitVec.eq_of_toNat_eq
  show (BitVec.ofNat 32 i - BitVec.ofNat 32 n).toNat = _
  simp only [BitVec.toNat_sub, BitVec.toNat_ofNat]
  omega

/-- The kernel's word for the key of a column. -/
theorem key_word (c : Fin 8) (j : Fin 544) :
    Scalar.select (IntOp.cmpi CmpIPredicate.slt (BitVec.ofNat 32 j.val) 256#32)
      (IntOp.addi (Scalar.muli (BitVec.ofNat 32 c.val) 256#32) (BitVec.ofNat 32 j.val))
      (Scalar.select (IntOp.cmpi CmpIPredicate.slt (BitVec.ofNat 32 j.val) 384#32)
        (IntOp.addi (Scalar.addi (Scalar.muli (BitVec.ofNat 32 ((c.val + 7) % 8)) 256#32) 128#32) (IntOp.subi (BitVec.ofNat 32 j.val) 256#32))
        (Scalar.select (IntOp.cmpi CmpIPredicate.slt (BitVec.ofNat 32 j.val) 512#32)
          (IntOp.addi (Scalar.muli (BitVec.ofNat 32 ((c.val + 1) % 8)) 256#32) (IntOp.subi (IntOp.subi (BitVec.ofNat 32 j.val) 256#32) 128#32))
          (IntOp.subi (BitVec.ofNat 32 j.val) 512#32))) = BitVec.ofNat 32 (colKey c.val j.val) := by
  have hj := j.isLt
  rw [slt_word _ 256 (by omega) (by omega), slt_word _ 384 (by omega) (by omega), slt_word _ 512 (by omega) (by omega), select_bool, select_bool, select_bool]
  unfold colKey
  split
  · rw [mul_word, add_word]; congr 1; omega
  · split
    · rw [mul_word, addS_word, sub_word _ _ (by omega) (by omega), add_word]; congr 1; omega
    · split
      · rw [mul_word, sub_word _ _ (by omega) (by omega), sub_word _ _ (by omega) (by omega), add_word]; congr 1; omega
      · rw [sub_word _ _ (by omega) (by omega)]

theorem colKey_lt (c : Fin 8) (j : Fin 544) : colKey c j < 2048 := by
  have := c.isLt; have := j.isLt
  unfold colKey; split
  · omega
  · split
    · omega
    · split <;> omega

theorem mask_apply (c : Fin 8) (r : Fin 256) (j : Fin 544) : a281 c (ix2 r j) = if colUse c r j then 1#1 else 0#1 := by
  have hr := r.isLt
  have hj := j.isLt
  have hc := c.isLt
  pointwise [k0_pay82, k0_pay81, k0_pay80]
  rw [w2_eq, w5_eq, w7_eq, key_word, mul_word, add_word, near_word _ _ (by omega) ((colKey_lt c j).trans (by decide)),
    slt_word _ 32 ((colKey_lt c j).trans (by decide)) (by omega), slt_word _ 256 (by omega) (by omega), sge_word _ 512 (by omega) (by omega),
    show ∀ a b : BitVec 32, Scalar.cmpi CmpIPredicate.ne a b = IntOp.cmpi CmpIPredicate.ne a b from fun _ _ => rfl, w2_ne]
  simp only [andi_bool, ori_bool, not_bool]
  unfold colUse
  rw [Nat.mul_comm c.val 256]

theorem colKey_cases (c j : ℕ) : (j < 256 ∧ colKey c j = 256 * c + j) ∨ (256 ≤ j ∧ j < 384 ∧ colKey c j = 256 * ((c + 7) % 8) + (j - 128))
    ∨ (384 ≤ j ∧ j < 512 ∧ colKey c j = 256 * ((c + 1) % 8) + (j - 384)) ∨ (512 ≤ j ∧ colKey c j = j - 512) := by
  unfold colKey
  by_cases h1 : j < 256
  · rw [if_pos h1]; omega
  · by_cases h2 : j < 384
    · rw [if_neg h1, if_pos h2]; omega
    · by_cases h3 : j < 512
      · rw [if_neg h1, if_neg h2, if_pos h3]; omega
      · rw [if_neg h1, if_neg h2, if_neg h3]; omega

/-- A column in use holds a key that the row may attend to. -/
theorem colUse_allowed (c : Fin 8) (r : Fin 256) (j : Fin 544) (h : colUse c r j) : allowed (256 * c.val + r.val) (colKey c j) := by
  have := j.isLt
  have hk := colKey_cases c j
  unfold colUse at h
  unfold allowed
  omega

/-- Different columns in use hold different keys. -/
theorem colUse_inj (c : Fin 8) (r : Fin 256) (j k : Fin 544) (hj : colUse c r j) (hk : colUse c r k) (h : colKey c j = colKey c k) : j = k := by
  have := j.isLt; have := k.isLt; have := r.isLt; have := c.isLt
  apply Fin.ext
  have e1 := colKey_cases c j
  have e2 := colKey_cases c k
  unfold colUse at hj hk
  omega

/-- Every key that a row may attend to is in a column in use, but for the first 32 rows of device 0. -/
theorem colUse_surj (c : Fin 8) (r : Fin 256) (hr : ¬ (c.val = 0 ∧ r.val < 32)) (j : Fin 2048) (h : allowed (256 * c.val + r.val) j) :
    ∃ k : Fin 544, colUse c r k ∧ colKey c k = j.val := by
  have := j.isLt; have := r.isLt; have := c.isLt
  unfold allowed at h
  unfold colUse
  have key : ∀ n : ℕ, n < 544 → (colKey c.val n = j.val ∧ ((((256 * c.val + r.val ≤ colKey c.val n + 128 ∧ colKey c.val n ≤ 256 * c.val + r.val + 128) ∨ (colKey c.val n < 32 ∧ n < 256)) ∧ ¬ 512 ≤ n) ∨ (512 ≤ n ∧ c.val ≠ 0))) →
      ∃ k : Fin 544, ((((256 * c.val + r.val ≤ colKey c.val k.val + 128 ∧ colKey c.val k.val ≤ 256 * c.val + r.val + 128) ∨ (colKey c.val k.val < 32 ∧ k.val < 256)) ∧ ¬ 512 ≤ k.val) ∨ (512 ≤ k.val ∧ c.val ≠ 0)) ∧ colKey c.val k.val = j.val :=
    fun n hn h => ⟨⟨n, hn⟩, h.2, h.1⟩
  by_cases h0 : 256 * c.val ≤ j.val ∧ j.val < 256 * c.val + 256
  · have e := colKey_cases c.val (j.val - 256 * c.val)
    exact key (j.val - 256 * c.val) (by omega) (by omega)
  · by_cases h1 : j.val < 32
    · have e := colKey_cases c.val (512 + j.val)
      exact key (512 + j.val) (by omega) (by omega)
    · by_cases h2 : j.val < 256 * c.val
      · have e := colKey_cases c.val (256 + (j.val + 128 - 256 * c.val))
        exact key (256 + (j.val + 128 - 256 * c.val)) (by omega) (by omega)
      · have e := colKey_cases c.val (384 + (j.val - 256 * c.val - 256))
        exact key (384 + (j.val - 256 * c.val - 256)) (by omega) (by omega)

end Cert.KernelIdeal.Attn

end
-- ==== Proof.Partial.lean ====
/-
# The partial attention of the first 32 rows, read at an index

The row maxima, row sums and weighted values over one device's 256 keys (`pM_apply`, `pL_apply`, `pO_apply`), and the
packed block that a device sends (`pAll_ctx`, `pAll_max`, `pAll_sum`).
-/
module

public import proofs.«01_k».proof.Proof.Protocol
public import proofs.«01_k».proof.Proof.Spec

@[expose] public section

noncomputable section

namespace Cert.KernelIdeal.Attn

open Cert.KernelIdeal Cert.KernelIdeal.Gen Idealize.ShloMosaic Idealize.ShloMosaic.TcCoe Cert.Spec Cert.Soft

/-- The scores of one head. -/
def partS (q : FVec Ideal S32x64 .bf16) (k : Vec Ideal S1x256x64 .bf16) : FVec Ideal S32x256 .f32 :=
  matmul dot_S32x64_S256x64_S32x256_1_1_0_0_n_n none q (shapeCast S256x64 k shapeCasts_S1x256x64_S256x64 : FVec Ideal S256x64 .bf16) (constant S32x256 .f32 0x00000000#32)

/-- The row maxima of scores `s`, the exponentials below them, the row sums of these, and the values weighted by them. -/
def partM (s : FVec Ideal S32x256 .f32) : FVec Ideal S32x1 .f32 :=
  shapeCast S32x1 (multiReduction .maximumf [1] S32 s 0xFF800000#32 reduces_S32x256_S32 (.inl rfl) rfl) shapeCasts_S32_S32x1
def partE (s : FVec Ideal S32x256 .f32) : FVec Ideal S32x256 .f32 := exp (subf s (broadcastTo S32x256 (partM s) broadcasts_S32x1_S32x256))
def partL (s : FVec Ideal S32x256 .f32) : FVec Ideal S32x1 .f32 :=
  shapeCast S32x1 (multiReduction .add [1] S32 (partE s) 0x00000000#32 reduces_S32x256_S32 (.inl rfl) rfl) shapeCasts_S32_S32x1
def partO (s : FVec Ideal S32x256 .f32) (v : Vec Ideal S1x256x64 .bf16) : FVec Ideal S32x64 .f32 :=
  matmul dot_S32x256_S256x64_S32x64_1_0_0_1_n_n none (truncf .bf16 (partE s) bitsLt_bf16_f32)
    (shapeCast S256x64 v shapeCasts_S1x256x64_S256x64 : FVec Ideal S256x64 .bf16) (constant S32x64 .f32 0x00000000#32)

theorem partS_apply (q : FVec Ideal S32x64 .bf16) (k : Vec Ideal S1x256x64 .bf16) (r : Fin 32) (j : Fin 256) :
    partS q k (ix2 r j) = ∑ d : Fin 64, q (ix2 r d) * k (ix3 0 j d) := by
  pointwise [partS]

theorem partM_apply (s : FVec Ideal S32x256 .f32) (r : Fin 32) (z : Fin 1) : partM s (ix2 r z) = pmax fun j : Fin 256 => s (ix2 r j) := by
  pointwise [partM]
  exact fold_max _

theorem partE_apply (s : FVec Ideal S32x256 .f32) (r : Fin 32) (j : Fin 256) :
    partE s (ix2 r j) = Ideal.exp (s (ix2 r j) - pmax fun j : Fin 256 => s (ix2 r j)) := by
  pointwise [partE]
  rw [partM_apply]

theorem partL_apply (s : FVec Ideal S32x256 .f32) (r : Fin 32) (z : Fin 1) : partL s (ix2 r z) = psum fun j : Fin 256 => s (ix2 r j) := by
  pointwise [partL]
  exact Finset.sum_congr rfl fun j _ => partE_apply s r j

theorem partO_apply (s : FVec Ideal S32x256 .f32) (v : Vec Ideal S1x256x64 .bf16) (r : Fin 32) (d : Fin 64) :
    partO s v (ix2 r d) = pctx (fun j : Fin 256 => s (ix2 r j)) (fun j => v (ix3 0 j d)) := by
  pointwise [partO]
  exact Finset.sum_congr rfl fun j _ => by rw [partE_apply]

variable (q : FVec Ideal S2x32x256 .f32) (kv : FVec Ideal S16x256x64 .bf16)

/-- The scores of the (batch, head) pair at place `h` over the keys `kv`. -/
def hS (h : Fin 8) : FVec Ideal S32x256 .f32 := match h with
  | 0 => partS (extractStridedSlice S32x64 ![0, 0] (k0_pay29 (p59 q)) slices_S32x256_o0_0_S32x64) (ldK kv 0 inb_S16x256x64_S1x256x64_0_0_0)
  | 1 => partS (extractStridedSlice S32x64 ![0, 64] (k0_pay29 (p59 q)) slices_S32x256_o0_64_S32x64) (ldK kv 1 inb_S16x256x64_S1x256x64_1_0_0)
  | 2 => partS (extractStridedSlice S32x64 ![0, 128] (k0_pay29 (p59 q)) slices_S32x256_o0_128_S32x64) (ldK kv 2 inb_S16x256x64_S1x256x64_2_0_0)
  | 3 => partS (extractStridedSlice S32x64 ![0, 192] (k0_pay29 (p59 q)) slices_S32x256_o0_192_S32x64) (ldK kv 3 inb_S16x256x64_S1x256x64_3_0_0)
  | 4 => partS (extractStridedSlice S32x64 ![0, 0] (k0_pay29 (p122 q)) slices_S32x256_o0_0_S32x64) (ldK kv 4 inb_S16x256x64_S1x256x64_4_0_0)
  | 5 => partS (extractStridedSlice S32x64 ![0, 64] (k0_pay29 (p122 q)) slices_S32x256_o0_64_S32x64) (ldK kv 5 inb_S16x256x64_S1x256x64_5_0_0)
  | 6 => partS (extractStridedSlice S32x64 ![0, 128] (k0_pay29 (p122 q)) slices_S32x256_o0_128_S32x64) (ldK kv 6 inb_S16x256x64_S1x256x64_6_0_0)
  | 7 => partS (extractStridedSlice S32x64 ![0, 192] (k0_pay29 (p122 q)) slices_S32x256_o0_192_S32x64) (ldK kv 7 inb_S16x256x64_S1x256x64_7_0_0)

/-- The values of the pair. -/
def hV (h : Fin 8) : Vec Ideal S1x256x64 .bf16 := match h with
  | 0 => ldK kv 8 inb_S16x256x64_S1x256x64_8_0_0
  | 1 => ldK kv 9 inb_S16x256x64_S1x256x64_9_0_0
  | 2 => ldK kv 10 inb_S16x256x64_S1x256x64_10_0_0
  | 3 => ldK kv 11 inb_S16x256x64_S1x256x64_11_0_0
  | 4 => ldK kv 12 inb_S16x256x64_S1x256x64_12_0_0
  | 5 => ldK kv 13 inb_S16x256x64_S1x256x64_13_0_0
  | 6 => ldK kv 14 inb_S16x256x64_S1x256x64_14_0_0
  | 7 => ldK kv 15 inb_S16x256x64_S1x256x64_15_0_0

theorem ldK_apply (h : ℕ) (hh) (hlt : h < 16) (j : Fin 256) (d : Fin 64) : ldK (F := Ideal) kv h hh (ix3 0 j d) = kv (ix3 (⟨h, hlt⟩ : Fin 16) j d) := by
  refine congrArg kv ?_
  funext a
  apply Fin.ext
  match a with
  | ⟨0, _⟩ => show h + 1 * 0 = h; omega
  | ⟨1, _⟩ => show 0 + 1 * j.val = j.val; omega
  | ⟨2, _⟩ => show 0 + 1 * d.val = d.val; omega

theorem ldQ_apply (b : ℕ) (hb) (hlt : b < 2) (r : Fin 32) (t : Fin 256) : ldQ (F := Ideal) q b hb (ix3 0 r t) = q (ix3 (⟨b, hlt⟩ : Fin 2) r t) := by
  refine congrArg q ?_
  funext a
  apply Fin.ext
  match a with
  | ⟨0, _⟩ => show b + 1 * 0 = b; omega
  | ⟨1, _⟩ => show 0 + 1 * r.val = r.val; omega
  | ⟨2, _⟩ => show 0 + 1 * t.val = t.val; omega

theorem hV_apply (h : Fin 8) (j : Fin 256) (d : Fin 64) : hV kv h (ix3 0 j d) = kv (ix3 (⟨8 + h.val, by omega⟩ : Fin 16) j d) := by
  fin_cases h <;> exact ldK_apply kv _ _ _ j d

theorem hS_apply (h : Fin 8) (r : Fin 32) (j : Fin 256) :
    hS q kv h (ix2 r j) = ∑ d : Fin 64, q (ix3 (⟨h.val / 4, by omega⟩ : Fin 2) r (⟨h.val % 4 * 64 + d.val, by omega⟩ : Fin 256)) * (kv (ix3 (⟨h.val, by omega⟩ : Fin 16) j d)) := by
  have key : ∀ (o b k : ℕ) (ho : o + 64 ≤ 256) (hs : S32x256.Slices ![0, o] S32x64) (hb hk) (hbl : b < 2) (hkl : k < 16),
      partS (extractStridedSlice S32x64 ![0, o] (k0_pay29 (ldQ q b hb)) hs) (ldK kv k hk) (ix2 r j)
        = ∑ d : Fin 64, (q (ix3 (⟨b, hbl⟩ : Fin 2) r (⟨o + d.val, by omega⟩ : Fin 256))) * (kv (ix3 (⟨k, hkl⟩ : Fin 16) j d)) := by
    intro o b k ho hs hb hk hbl hkl
    rw [partS_apply]
    refine Finset.sum_congr rfl fun d _ => ?_
    rw [ldK_apply kv k hk hkl, ← ldQ_apply q b hb hbl]
    refine congrArg (· * _) ?_
    pointwise [k0_pay29]
  fin_cases h <;> exact key _ _ _ (by decide) _ _ _ (by decide) (by decide)

set_option maxHeartbeats 4000000 in
theorem pO_eq : pO (F := Ideal) q kv = k0_pay76 (partO (hS q kv 3) (hV kv 3)) (partO (hS q kv 4) (hV kv 4)) (partO (hS q kv 5) (hV kv 5)) (partO (hS q kv 6) (hV kv 6)) (partO (hS q kv 7) (hV kv 7))
    (k0_pay73 (partO (hS q kv 0) (hV kv 0))) (k0_pay73 (partO (hS q kv 1) (hV kv 1))) (k0_pay73 (partO (hS q kv 2) (hV kv 2))) := rfl

set_option maxHeartbeats 4000000 in
theorem pM_eq : pM (F := Ideal) q kv = k0_pay77 (partM (hS q kv 0)) (partM (hS q kv 1)) (partM (hS q kv 2)) (partM (hS q kv 3)) (partM (hS q kv 4)) (partM (hS q kv 5)) (partM (hS q kv 6)) (partM (hS q kv 7)) := rfl

set_option maxHeartbeats 4000000 in
theorem pL_eq : pL (F := Ideal) q kv = k0_pay78 (partL (hS q kv 0)) (partL (hS q kv 1)) (partL (hS q kv 2)) (partL (hS q kv 3)) (partL (hS q kv 4)) (partL (hS q kv 5)) (partL (hS q kv 6)) (partL (hS q kv 7)) := rfl

/-- Eight pieces of one row each. -/
theorem ladder8 {α : Type} (f : Fin 8 → α) (h : Fin 8) :
    (if _ : h.val < 1 then f 0 else if _ : h.val - 1 < 1 then f 1 else if _ : h.val - 1 - 1 < 1 then f 2 else if _ : h.val - 1 - 1 - 1 < 1 then f 3
      else if _ : h.val - 1 - 1 - 1 - 1 < 1 then f 4 else if _ : h.val - 1 - 1 - 1 - 1 - 1 < 1 then f 5 else if _ : h.val - 1 - 1 - 1 - 1 - 1 - 1 < 1 then f 6 else f 7) = f h := by
  fin_cases h <;> rfl

theorem pM_apply (h : Fin 8) (r : Fin 32) (z : Fin 1) : pM (F := Ideal) q kv (ix3 h r z) = pmax fun j : Fin 256 => hS q kv h (ix2 r j) := by
  rw [pM_eq, ← partM_apply _ r z, Subsingleton.elim z 0]
  pointwise [k0_pay77]
  exact ladder8 (fun h => partM (hS q kv h) (ix2 r 0)) h

theorem pL_apply (h : Fin 8) (r : Fin 32) (z : Fin 1) : pL (F := Ideal) q kv (ix3 h r z) = psum fun j : Fin 256 => hS q kv h (ix2 r j) := by
  rw [pL_eq, ← partL_apply _ r z, Subsingleton.elim z 0]
  pointwise [k0_pay78]
  exact ladder8 (fun h => partL (hS q kv h) (ix2 r 0)) h

theorem pO_apply (h : Fin 8) (r : Fin 32) (d : Fin 64) :
    pO (F := Ideal) q kv (ix3 h r d) = pctx (fun j : Fin 256 => hS q kv h (ix2 r j)) (fun j => hV kv h (ix3 0 j d)) := by
  rw [pO_eq, ← partO_apply _ _ r d]
  pointwise [k0_pay76, k0_pay73]
  exact ladder8 (fun h => partO (hS q kv h) (hV kv h) (ix2 r d)) h

theorem pAll_eq : pAll (F := Ideal) q kv = shapeCast S8x32x128 (concatenate S8x32x128 2 [⟨S8x32x64, pO (F := Ideal) q kv⟩, ⟨S8x32x1, pM (F := Ideal) q kv⟩, ⟨S8x32x1, pL (F := Ideal) q kv⟩, ⟨S8x32x62, broadcast S8x32x62 (Scalar.ofBits .f32 0x00000000#32)⟩] concatenates_S8x32x64_S8x32x1_S8x32x1_S8x32x62_S8x32x128_d2) shapeCasts_S8x32x128_S8x32x128 := rfl

theorem pAll_ctx (h : Fin 8) (r : Fin 32) (d : Fin 64) : pAll (F := Ideal) q kv (ix3 h r (⟨d.val, by omega⟩ : Fin 128)) = pO (F := Ideal) q kv (ix3 h r d) := by
  rw [pAll_eq]
  pointwise

theorem pAll_max (h : Fin 8) (r : Fin 32) : pAll (F := Ideal) q kv (ix3 h r (64 : Fin 128)) = pM (F := Ideal) q kv (ix3 h r (0 : Fin 1)) := by
  rw [pAll_eq]
  pointwise

theorem pAll_sum (h : Fin 8) (r : Fin 32) : pAll (F := Ideal) q kv (ix3 h r (65 : Fin 128)) = pL (F := Ideal) q kv (ix3 h r (0 : Fin 1)) := by
  rw [pAll_eq]
  pointwise

end Cert.KernelIdeal.Attn

end
-- ==== Proof.Comb.lean ====
/-
# The combination of the partial results, read at an index

Device 0 weighs the eight partial results of its first 32 rows by the exponentials of their maxima below the largest one
(`ratio_apply`), and multiplies the heads with `Wo` (`comb0_apply`, `comb1_apply`).
-/
module

public import proofs.«01_k».proof.Proof.Parts
public import proofs.«01_k».proof.Proof.Partial
public import proofs.«01_k».proof.Proof.Head

@[expose] public section

noncomputable section

namespace Cert.KernelIdeal.Attn

open Cert.KernelIdeal Cert.KernelIdeal.Gen Idealize.ShloMosaic Idealize.ShloMosaic.TcCoe Cert.Spec Cert.Soft

/-- The largest of eight. -/
theorem sup8 (f : Fin 8 → EReal) : Finset.univ.sup f = max (max (max (max (max (max (max (f 0) (f 1)) (f 2)) (f 3)) (f 4)) (f 5)) (f 6)) (f 7) := by
  apply le_antisymm
  · refine Finset.sup_le fun i _ => ?_
    fin_cases i <;> simp
  · simp only [max_le_iff]
    refine ⟨⟨⟨⟨⟨⟨⟨?_, ?_⟩, ?_⟩, ?_⟩, ?_⟩, ?_⟩, ?_⟩, ?_⟩ <;> exact Finset.le_sup (f := f) (Finset.mem_univ _)

variable (O : FVec Ideal S8x32x64 .f32) (M : FVec Ideal S8x32x1 .f32) (L : FVec Ideal S8x32x1 .f32) (pr : FVec Ideal S7x8x32x128 .f32) (wo : FVec Ideal S256x512 .bf16)

/-- The combination: the weighted sum of the values divided by the weighted sum of the row sums. -/
def ratio : FVec Ideal S8x32x64 .f32 :=
  k0_pay22 (b536 (F := Ideal) M pr) (b600 (F := Ideal) O M pr) (b603 (F := Ideal) M L pr) (b605 (F := Ideal) pr) (ldP (F := Ideal) pr 6 inb_S7x8x32x128_S1x8x32x128_6_0_0_0)

theorem ldP_apply (i : ℕ) (hi) (hlt : i < 7) (h : Fin 8) (r : Fin 32) (l : Fin 128) :
    ldP (F := Ideal) pr i hi (ix4 0 h r l) = pr (ix4 (⟨i, hlt⟩ : Fin 7) h r l) := by
  refine congrArg pr ?_
  funext a
  apply Fin.ext
  match a with
  | ⟨0, _⟩ => show i + 1 * 0 = i; omega
  | ⟨1, _⟩ => show 0 + 1 * h.val = h.val; omega
  | ⟨2, _⟩ => show 0 + 1 * r.val = r.val; omega
  | ⟨3, _⟩ => show 0 + 1 * l.val = l.val; omega

theorem ldP_at (i : ℕ) (hi : ∀ a, (![i, 0, 0, 0] : Fin 4 → ℕ) a + S1x8x32x128.size a ≤ S7x8x32x128.size a) (h : Fin 8) (r : Fin 32) (l : Fin 128) :
    ldP (F := Ideal) pr i hi (ix4 0 h r l) = pr (ix4 (⟨i, by have := hi 0; change i + 1 ≤ 7 at this; omega⟩ : Fin 7) h r l) := ldP_apply pr i hi _ h r l

theorem ldWo_apply (t : Fin 256) (n : Fin 512) : ldWo (F := Ideal) wo (ix2 t n) = wo (ix2 t n) := by
  refine congrArg wo ?_
  funext a
  apply Fin.ext
  match a with
  | ⟨0, _⟩ => show 0 + 1 * t.val = t.val; omega
  | ⟨1, _⟩ => show 0 + 1 * n.val = n.val; omega

/-- The maxima, the weighted values and the row sums of the eight devices at one row of one head. -/
def mAt (h : Fin 8) (r : Fin 32) : Fin 8 → EReal := Fin.cons (M (ix3 h r 0)) fun i : Fin 7 => pr (ix4 i h r 64)
def lAt (h : Fin 8) (r : Fin 32) : Fin 8 → EReal := Fin.cons (L (ix3 h r 0)) fun i : Fin 7 => pr (ix4 i h r 65)
def oAt (h : Fin 8) (r : Fin 32) (d : Fin 64) : Fin 8 → EReal := Fin.cons (O (ix3 h r d)) fun i : Fin 7 => pr (ix4 i h r (⟨d.val, by omega⟩ : Fin 128))

theorem b536_apply (h : Fin 8) (r : Fin 32) : b536 (F := Ideal) M pr (ix3 h r (0 : Fin 1)) = Finset.univ.sup (mAt M pr h r) := by
  rw [sup8]
  pointwise [k0_pay5, k0_pay4]
  simp only [ldP_at]
  rfl

theorem ratio_apply (h : Fin 8) (r : Fin 32) (d : Fin 64) : ratio O M L pr (ix3 h r d)
    = Ideal.div (∑ i, Ideal.exp (mAt M pr h r i - Finset.univ.sup (mAt M pr h r)) * oAt O pr h r d i)
        (∑ i, Ideal.exp (mAt M pr h r i - Finset.univ.sup (mAt M pr h r)) * lAt L pr h r i) := by
  rw [← b536_apply, Fin.sum_univ_eight, Fin.sum_univ_eight]
  pointwise [ratio, k0_pay22, k0_pay21, k0_pay20, k0_pay19, k0_pay18, k0_pay17, k0_pay16, k0_pay15, k0_pay14, k0_pay13, k0_pay12, k0_pay11, k0_pay10, k0_pay9, k0_pay8, k0_pay7, k0_pay6]
  simp only [ldP_at]
  rfl

theorem comb0_apply (r : Fin 32) (n : Fin 512) : comb0 (F := Ideal) O M L pr wo (ix3 (0 : Fin 1) r n)
    = ∑ t : Fin 256, ratio O M L pr (ix3 (⟨t.val / 64, by omega⟩ : Fin 8) r (⟨t.val % 64, by omega⟩ : Fin 64)) * wo (ix2 t n) := by
  have e : comb0 (F := Ideal) O M L pr wo = k0_pay23 (b536 (F := Ideal) M pr) (b600 (F := Ideal) O M pr) (b603 (F := Ideal) M L pr) (b605 (F := Ideal) pr) (ldP (F := Ideal) pr 6 inb_S7x8x32x128_S1x8x32x128_6_0_0_0) (ldWo (F := Ideal) wo) := rfl
  rw [e]
  pointwise [k0_pay23]
  refine Finset.sum_congr rfl fun t _ => ?_
  rw [ldWo_apply]
  exact congrArg (· * wo (ix2 t n)) (ladder (fun h d => ratio O M L pr (ix3 (⟨h.val, by omega⟩ : Fin 8) r d)) t)

theorem comb1_apply (r : Fin 32) (n : Fin 512) : comb1 (F := Ideal) O M L pr wo (ix3 (0 : Fin 1) r n)
    = ∑ t : Fin 256, ratio O M L pr (ix3 (⟨4 + t.val / 64, by omega⟩ : Fin 8) r (⟨t.val % 64, by omega⟩ : Fin 64)) * wo (ix2 t n) := by
  have e : comb1 (F := Ideal) O M L pr wo = k0_pay96 (k0_pay24 (b536 (F := Ideal) M pr) (b600 (F := Ideal) O M pr) (b603 (F := Ideal) M L pr) (b605 (F := Ideal) pr) (ldP (F := Ideal) pr 6 inb_S7x8x32x128_S1x8x32x128_6_0_0_0)) (ldWo (F := Ideal) wo) := rfl
  rw [e]
  pointwise [k0_pay96, k0_pay24]
  refine Finset.sum_congr rfl fun t _ => ?_
  rw [ldWo_apply]
  exact congrArg (· * wo (ix2 t n)) (ladder (fun h d => ratio O M L pr (ix3 (⟨4 + h.val, by omega⟩ : Fin 8) r d)) t)

end Cert.KernelIdeal.Attn

end
-- ==== Proof.Own.lean ====
/-
# What a device computes for its own rows, read at an index

One head's attention over the 544 gathered columns is the weighted sum `soft` of its masked scores (`ownHead`), and what
the device stores for a batch is the product of its four heads with `Wo` (`attn0_apply`, `attn1_apply`).
-/
module

public import proofs.«01_k».proof.Proof.Out
public import proofs.«01_k».proof.Proof.Head
public import proofs.«01_k».proof.Proof.Mask
public import proofs.«01_k».proof.Proof.Comb

@[expose] public section

noncomputable section

namespace Cert.KernelIdeal.Attn

open Cert.KernelIdeal Cert.KernelIdeal.Gen Idealize.ShloMosaic Idealize.ShloMosaic.TcCoe Cert.Spec Cert.Soft

section
variable (c : Dev nD) (x : (cc0_stg0_0 : Ref sig .tc).ty.Contents (Elt Ideal)) (wq : (cc0_stg1_0 : Ref sig .tc).ty.Contents (Elt Ideal))
  (kc : (cc0_scratch0 : Ref sig .tc).ty.Contents (Elt Ideal)) (wo : (cc0_stg3_0 : Ref sig .tc).ty.Contents (Elt Ideal))

/-- The queries of a batch. -/
abbrev qB (b : ℕ) (hb : ∀ a, (![b, 0, 0] : Fin 3 → ℕ) a + S1x256x512.size a ≤ S2x256x512.size a) : FVec Ideal S256x256 .bf16 :=
  query (ldX x b hb) (ldWq wq)

set_option maxHeartbeats 4000000 in
theorem attn0_eq : attn0 c x wq kc wo
    = heads (head (a281 c) (extractStridedSlice S256x64 ![0, 0] (qB x wq 0 inb_S2x256x512_S1x256x512_0_0_0) slices_S256x256_o0_0_S256x64) (ldC kc 0 inb_S16x544x64_S1x544x64_0_0_0) (ldC kc 8 inb_S16x544x64_S1x544x64_8_0_0))
      (head (a281 c) (extractStridedSlice S256x64 ![0, 64] (qB x wq 0 inb_S2x256x512_S1x256x512_0_0_0) slices_S256x256_o0_64_S256x64) (ldC kc 1 inb_S16x544x64_S1x544x64_1_0_0) (ldC kc 9 inb_S16x544x64_S1x544x64_9_0_0))
      (head (a281 c) (extractStridedSlice S256x64 ![0, 128] (qB x wq 0 inb_S2x256x512_S1x256x512_0_0_0) slices_S256x256_o0_128_S256x64) (ldC kc 2 inb_S16x544x64_S1x544x64_2_0_0) (ldC kc 10 inb_S16x544x64_S1x544x64_10_0_0))
      (head (a281 c) (extractStridedSlice S256x64 ![0, 192] (qB x wq 0 inb_S2x256x512_S1x256x512_0_0_0) slices_S256x256_o0_192_S256x64) (ldC kc 3 inb_S16x544x64_S1x544x64_3_0_0) (ldC kc 11 inb_S16x544x64_S1x544x64_11_0_0))
      (ldWo wo) := rfl

set_option maxHeartbeats 4000000 in
theorem attn1_eq : attn1 c x wq kc wo
    = heads (head (a281 c) (extractStridedSlice S256x64 ![0, 0] (qB x wq 1 inb_S2x256x512_S1x256x512_1_0_0) slices_S256x256_o0_0_S256x64) (ldC kc 4 inb_S16x544x64_S1x544x64_4_0_0) (ldC kc 12 inb_S16x544x64_S1x544x64_12_0_0))
      (head (a281 c) (extractStridedSlice S256x64 ![0, 64] (qB x wq 1 inb_S2x256x512_S1x256x512_1_0_0) slices_S256x256_o0_64_S256x64) (ldC kc 5 inb_S16x544x64_S1x544x64_5_0_0) (ldC kc 13 inb_S16x544x64_S1x544x64_13_0_0))
      (head (a281 c) (extractStridedSlice S256x64 ![0, 128] (qB x wq 1 inb_S2x256x512_S1x256x512_1_0_0) slices_S256x256_o0_128_S256x64) (ldC kc 6 inb_S16x544x64_S1x544x64_6_0_0) (ldC kc 14 inb_S16x544x64_S1x544x64_14_0_0))
      (head (a281 c) (extractStridedSlice S256x64 ![0, 192] (qB x wq 1 inb_S2x256x512_S1x256x512_1_0_0) slices_S256x256_o0_192_S256x64) (ldC kc 7 inb_S16x544x64_S1x544x64_7_0_0) (ldC kc 15 inb_S16x544x64_S1x544x64_15_0_0))
      (ldWo wo) := rfl

theorem ldC_apply (h : ℕ) (hh) (hlt : h < 16) (j : Fin 544) (d : Fin 64) : ldC (F := Ideal) kc h hh (ix3 0 j d) = kc (ix3 (⟨h, hlt⟩ : Fin 16) j d) := by
  refine congrArg kc ?_
  funext a
  apply Fin.ext
  match a with
  | ⟨0, _⟩ => show h + 1 * 0 = h; omega
  | ⟨1, _⟩ => show 0 + 1 * j.val = j.val; omega
  | ⟨2, _⟩ => show 0 + 1 * d.val = d.val; omega

end

variable (c : Fin 8) (x : FVec Ideal S2x256x512 .bf16) (wq : FVec Ideal S512x256 .bf16) (kc : FVec Ideal S16x544x64 .bf16) (wo : FVec Ideal S256x512 .bf16)

theorem ldX_apply (b : ℕ) (hb) (hlt : b < 2) (r : Fin 256) (e : Fin 512) : ldX (F := Ideal) x b hb (ix3 0 r e) = x (ix3 (⟨b, hlt⟩ : Fin 2) r e) := by
  refine congrArg x ?_
  funext a
  apply Fin.ext
  match a with
  | ⟨0, _⟩ => show b + 1 * 0 = b; omega
  | ⟨1, _⟩ => show 0 + 1 * r.val = r.val; omega
  | ⟨2, _⟩ => show 0 + 1 * e.val = e.val; omega

theorem ldWq_apply (e : Fin 512) (t : Fin 256) : ldWq (F := Ideal) wq (ix2 e t) = wq (ix2 e t) := by
  refine congrArg wq ?_
  funext a
  apply Fin.ext
  match a with
  | ⟨0, _⟩ => show 0 + 1 * e.val = e.val; omega
  | ⟨1, _⟩ => show 0 + 1 * t.val = t.val; omega

/-- The four heads of batch 0, of batch 1. -/
def oH0 (h : Fin 4) : FVec Ideal S256x64 .f32 := match h with
  | 0 => head (a281 c) (extractStridedSlice S256x64 ![0, 0] (qB x wq 0 inb_S2x256x512_S1x256x512_0_0_0) slices_S256x256_o0_0_S256x64) (ldC (F := Ideal) kc 0 inb_S16x544x64_S1x544x64_0_0_0) (ldC (F := Ideal) kc 8 inb_S16x544x64_S1x544x64_8_0_0)
  | 1 => head (a281 c) (extractStridedSlice S256x64 ![0, 64] (qB x wq 0 inb_S2x256x512_S1x256x512_0_0_0) slices_S256x256_o0_64_S256x64) (ldC (F := Ideal) kc 1 inb_S16x544x64_S1x544x64_1_0_0) (ldC (F := Ideal) kc 9 inb_S16x544x64_S1x544x64_9_0_0)
  | 2 => head (a281 c) (extractStridedSlice S256x64 ![0, 128] (qB x wq 0 inb_S2x256x512_S1x256x512_0_0_0) slices_S256x256_o0_128_S256x64) (ldC (F := Ideal) kc 2 inb_S16x544x64_S1x544x64_2_0_0) (ldC (F := Ideal) kc 10 inb_S16x544x64_S1x544x64_10_0_0)
  | 3 => head (a281 c) (extractStridedSlice S256x64 ![0, 192] (qB x wq 0 inb_S2x256x512_S1x256x512_0_0_0) slices_S256x256_o0_192_S256x64) (ldC (F := Ideal) kc 3 inb_S16x544x64_S1x544x64_3_0_0) (ldC (F := Ideal) kc 11 inb_S16x544x64_S1x544x64_11_0_0)
def oH1 (h : Fin 4) : FVec Ideal S256x64 .f32 := match h with
  | 0 => head (a281 c) (extractStridedSlice S256x64 ![0, 0] (qB x wq 1 inb_S2x256x512_S1x256x512_1_0_0) slices_S256x256_o0_0_S256x64) (ldC (F := Ideal) kc 4 inb_S16x544x64_S1x544x64_4_0_0) (ldC (F := Ideal) kc 12 inb_S16x544x64_S1x544x64_12_0_0)
  | 1 => head (a281 c) (extractStridedSlice S256x64 ![0, 64] (qB x wq 1 inb_S2x256x512_S1x256x512_1_0_0) slices_S256x256_o0_64_S256x64) (ldC (F := Ideal) kc 5 inb_S16x544x64_S1x544x64_5_0_0) (ldC (F := Ideal) kc 13 inb_S16x544x64_S1x544x64_13_0_0)
  | 2 => head (a281 c) (extractStridedSlice S256x64 ![0, 128] (qB x wq 1 inb_S2x256x512_S1x256x512_1_0_0) slices_S256x256_o0_128_S256x64) (ldC (F := Ideal) kc 6 inb_S16x544x64_S1x544x64_6_0_0) (ldC (F := Ideal) kc 14 inb_S16x544x64_S1x544x64_14_0_0)
  | 3 => head (a281 c) (extractStridedSlice S256x64 ![0, 192] (qB x wq 1 inb_S2x256x512_S1x256x512_1_0_0) slices_S256x256_o0_192_S256x64) (ldC (F := Ideal) kc 7 inb_S16x544x64_S1x544x64_7_0_0) (ldC (F := Ideal) kc 15 inb_S16x544x64_S1x544x64_15_0_0)

/-- One head at a row and a lane: the weighted sum of the values of the columns in use. -/
def ownSoft (b : Fin 2) (h : Fin 4) (r : Fin 256) (d : Fin 64) : EReal :=
  soft (fun j : Fin 544 => colUse c r j)
    (fun j => ∑ u : Fin 64, ((∑ e : Fin 512, x (ix3 b r e) * wq (ix2 e ⟨h.val * 64 + u.val, by omega⟩)) * Ideal.ofBits .f32 0x3E000000#32) * kc (ix3 ⟨b.val * 4 + h.val, by omega⟩ j u))
    (fun j => kc (ix3 ⟨8 + (b.val * 4 + h.val), by omega⟩ j d))

theorem ownHead (b : Fin 2) (h : Fin 4) (b' : ℕ) (hb) (o k v : ℕ) (hbb : b' = b.val) (ho : o = h.val * 64) (hk : k = b.val * 4 + h.val) (hv : v = 8 + (b.val * 4 + h.val)) (hs : S256x256.Slices ![0, o] S256x64) (hk' hv')
    (r : Fin 256) (d : Fin 64) :
    head (a281 c) (extractStridedSlice S256x64 ![0, o] (qB x wq b' hb) hs) (ldC (F := Ideal) kc k hk') (ldC (F := Ideal) kc v hv') (ix2 r d) = ownSoft c x wq kc b h r d := by
  subst hbb ho hk hv
  have hm : ∀ j : Fin 544, (a281 c (ix2 r j) = 1#1) = (colUse c r j) := fun j => by
    rw [mask_apply]
    by_cases hu : colUse c r j
    · rw [if_pos hu]; exact propext ⟨fun _ => hu, fun _ => rfl⟩
    · rw [if_neg hu]; exact propext ⟨fun h => absurd h (by decide), fun h => absurd h hu⟩
  have hq : ∀ u : Fin 64, extractStridedSlice S256x64 ![0, h.val * 64] (qB x wq b.val hb) hs (ix2 r u)
      = (∑ e : Fin 512, x (ix3 b r e) * wq (ix2 e ⟨h.val * 64 + u.val, by omega⟩)) * Ideal.ofBits .f32 0x3E000000#32 := fun u => by
    have e1 : extractStridedSlice S256x64 ![0, h.val * 64] (qB x wq b.val hb) hs (ix2 r u) = qB x wq b.val hb (ix2 r (⟨h.val * 64 + u.val, by omega⟩ : Fin 256)) := by
      generalize qB x wq b.val hb = Q
      refine congrArg Q ?_
      funext a
      apply Fin.ext
      match a with
      | ⟨0, _⟩ => show 0 + r.val = r.val; omega
      | ⟨1, _⟩ => rfl
    refine e1.trans ((query_apply _ _ r _).trans ?_)
    refine congrArg (· * _) (Finset.sum_congr rfl fun e _ => ?_)
    rw [ldX_apply x b.val hb b.isLt, ldWq_apply]
  rw [head_soft, ownSoft]
  simp only [hm, hq, ldC_apply kc (b.val * 4 + h.val) hk' (by omega), ldC_apply kc (8 + (b.val * 4 + h.val)) hv' (by omega)]

theorem oH0_apply (h : Fin 4) (r : Fin 256) (d : Fin 64) : oH0 c x wq kc h (ix2 r d) = ownSoft c x wq kc 0 h r d := match h with
  | 0 => ownHead c x wq kc 0 0 0 _ 0 0 8 rfl rfl rfl rfl _ _ _ r d
  | 1 => ownHead c x wq kc 0 1 0 _ 64 1 9 rfl rfl rfl rfl _ _ _ r d
  | 2 => ownHead c x wq kc 0 2 0 _ 128 2 10 rfl rfl rfl rfl _ _ _ r d
  | 3 => ownHead c x wq kc 0 3 0 _ 192 3 11 rfl rfl rfl rfl _ _ _ r d

theorem attn0_apply (r : Fin 256) (n : Fin 512) : attn0 (F := Ideal) c x wq kc wo (ix3 (0 : Fin 1) r n)
    = ∑ t : Fin 256, ownSoft c x wq kc 0 ⟨t.val / 64, by omega⟩ r ⟨t.val % 64, by omega⟩ * wo (ix2 t n) := by
  rw [attn0_eq]
  refine Eq.trans (b := heads (oH0 c x wq kc 0) (oH0 c x wq kc 1) (oH0 c x wq kc 2) (oH0 c x wq kc 3) (ldWo (F := Ideal) wo) (ix3 0 r n)) rfl ?_
  rw [heads_apply (oH0 c x wq kc)]
  refine Finset.sum_congr rfl fun t _ => ?_
  rw [ldWo_apply]
  refine congrArg (· * wo (ix2 t n)) ?_
  exact oH0_apply c x wq kc _ r _

theorem oH1_apply (h : Fin 4) (r : Fin 256) (d : Fin 64) : oH1 c x wq kc h (ix2 r d) = ownSoft c x wq kc 1 h r d := match h with
  | 0 => ownHead c x wq kc 1 0 1 _ 0 4 12 rfl rfl rfl rfl _ _ _ r d
  | 1 => ownHead c x wq kc 1 1 1 _ 64 5 13 rfl rfl rfl rfl _ _ _ r d
  | 2 => ownHead c x wq kc 1 2 1 _ 128 6 14 rfl rfl rfl rfl _ _ _ r d
  | 3 => ownHead c x wq kc 1 3 1 _ 192 7 15 rfl rfl rfl rfl _ _ _ r d

theorem attn1_apply (r : Fin 256) (n : Fin 512) : attn1 (F := Ideal) c x wq kc wo (ix3 (0 : Fin 1) r n)
    = ∑ t : Fin 256, ownSoft c x wq kc 1 ⟨t.val / 64, by omega⟩ r ⟨t.val % 64, by omega⟩ * wo (ix2 t n) := by
  rw [attn1_eq]
  refine Eq.trans (b := heads (oH1 c x wq kc 0) (oH1 c x wq kc 1) (oH1 c x wq kc 2) (oH1 c x wq kc 3) (ldWo (F := Ideal) wo) (ix3 0 r n)) rfl ?_
  rw [heads_apply (oH1 c x wq kc)]
  refine Finset.sum_congr rfl fun t _ => ?_
  rw [ldWo_apply]
  refine congrArg (· * wo (ix2 t n)) ?_
  exact oH1_apply c x wq kc _ r _

end Cert.KernelIdeal.Attn

end
-- ==== Proof.RefTerm.lean ====
/-
# The reference's term in stages

The mask, the scores, the exponentials, the weights and the weighted values of the reference, each as a function of the
arguments, and the result as their composition (`res_eq`).
-/
module

public import proofs.«01_k».proof.Proof.Gen.ReferenceIdeal.Run
public import proofs.«01_k».proof.Proof.Spec

@[expose] public section

noncomputable section

namespace Cert.ReferenceIdeal.Val

open Cert.ReferenceIdeal Cert.ReferenceIdeal.Gen Idealize.ShloMosaic Idealize.ShloMosaic.TcCoe Cert.Spec

/-- Which keys a row sees: within 128 of it, or among the first 32; a row among the first 32 sees every key. -/
def rMask : IVec S2048x2048 1 :=
  ori (cmpi .sle (absi (subi (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1
        (cmpi .slt (broadcastInDim S1x2048 ![1] bcast_S2048_S1x2048_1 (iotaInDim S2048 32 0)) (broadcastInDim S1x2048 ![] bcast_S_S1x2048 (constantI S_ 32 32#32))))
      (broadcastInDim S2048x2048 ![0, 1] bcast_S2048x1_S2048x2048_0_1
        (cmpi .slt (broadcastInDim S2048x1 ![0] bcast_S2048_S2048x1_0 (iotaInDim S2048 32 0)) (broadcastInDim S2048x1 ![] bcast_S_S2048x1 (constantI S_ 32 32#32)))))

/-- Whether a column of the mask has a key at all. -/
def rKeep : IVec S1x1x2048x1 1 :=
  broadcastInDim S1x1x2048x1 ![2] bcast_S2048_S1x1x2048x1_2 (Host.reduce IntOp.ori rMask (constantI S_ 1 0#1) reducesTo_S2048x2048_S2048_d1 h_S_)

variable (x : FVec Ideal S2x2048x512 .bf16) (wq : FVec Ideal S512x256 .bf16) (kv : FVec Ideal S16x2048x64 .bf16) (wo : FVec Ideal S256x512 .bf16)

/-- The queries. -/
def rQ : FVec Ideal S2x2048x4x64 .f32 :=
  shapeCast _ (Host.dotGeneral dot_S2x2048x512_S512x256_S2x2048x256_2_0_01_1_n_n none (extf .f32 x bitsLt_bf16_f32) (extf .f32 wq bitsLt_bf16_f32)) shapeCasts_S2x2048x256_S2x2048x4x64

/-- The keys. -/
def rK : FVec Ideal S2x2048x4x64 .f32 :=
  transpose S2x2048x4x64 [0, 2, 1, 3] (shapeCast _ (extractStridedSlice S8x2048x64 ![0, 0, 0] (extf .f32 kv bitsLt_bf16_f32) slices_S16x2048x64_S8x2048x64_0_0_0) shapeCasts_S8x2048x64_S2x4x2048x64) transposes_S2x4x2048x64_S2x2048x4x64_0_2_1_3

/-- The values. -/
def rV : FVec Ideal S2x2048x4x64 .f32 :=
  transpose S2x2048x4x64 [0, 2, 1, 3] (shapeCast _ (extractStridedSlice S8x2048x64 ![8, 0, 0] (extf .f32 kv bitsLt_bf16_f32) slices_S16x2048x64_S8x2048x64_8_0_0) shapeCasts_S8x2048x64_S2x4x2048x64) transposes_S2x4x2048x64_S2x2048x4x64_0_2_1_3

/-- The scores, -∞ where the mask excludes the key. -/
def rSel : FVec Ideal S2x4x2048x2048 .f32 :=
  select (broadcastInDim S2x4x2048x2048 ![0, 1, 2, 3] bcast_S1x1x2048x2048_S2x4x2048x2048_0_1_2_3 (broadcastInDim S1x1x2048x2048 ![2, 3] bcast_S2048x2048_S1x1x2048x2048_2_3 rMask))
    (mulf (Host.dotGeneral dot_S2x2048x4x64_S2x2048x4x64_S2x4x2048x2048_3_3_1_1_02_02 none (rQ x wq) (rK kv))
      (broadcastInDim S2x4x2048x2048 ![] bcast_S_S2x4x2048x2048 (constant S_ .f32 0x3E000000#32)))
    (broadcastInDim S2x4x2048x2048 ![] bcast_S_S2x4x2048x2048 (id (constant S_ .f32 0xFF800000#32)))

/-- The exponentials of scores `s` below their row's maximum. -/
def rExp (s : FVec Ideal S2x4x2048x2048 .f32) : FVec Ideal S2x4x2048x2048 .f32 :=
  Host.exp (subf s (broadcastInDim S2x4x2048x2048 ![0, 1, 2, 3] bcast_S2x4x2048x1_S2x4x2048x2048_0_1_2_3
    (broadcastInDim S2x4x2048x1 ![0, 1, 2] bcast_S2x4x2048_S2x4x2048x1_0_1_2
      (Host.reduce FloatOps.maximumf s (constant S_ .f32 0xFF800000#32) reducesTo_S2x4x2048x2048_S2x4x2048_d3 h_S_))))

/-- The weights: exponentials `e` divided by their row's sum, where the mask keeps the row. -/
def rW (e : FVec Ideal S2x4x2048x2048 .f32) (kp : IVec S1x1x2048x1 1) : FVec Ideal S2x4x2048x2048 .f32 :=
  select (broadcastInDim S2x4x2048x2048 ![0, 1, 2, 3] bcast_S1x1x2048x1_S2x4x2048x2048_0_1_2_3 kp)
    (Host.divf e (broadcastInDim S2x4x2048x2048 ![0, 1, 2, 3] bcast_S2x4x2048x1_S2x4x2048x2048_0_1_2_3
      (select (broadcastInDim S2x4x2048x1 ![0, 1, 2, 3] bcast_S1x1x2048x1_S2x4x2048x1_0_1_2_3 kp)
        (broadcastInDim S2x4x2048x1 ![0, 1, 2] bcast_S2x4x2048_S2x4x2048x1_0_1_2 (Host.reduceAdd e (constant S_ .f32 0x00000000#32) reducesTo_S2x4x2048x2048_S2x4x2048_d3 h_S_))
        (broadcastInDim S2x4x2048x1 ![] bcast_S_S2x4x2048x1 (id (constant S_ .f32 0x3F800000#32))))))
    (broadcastInDim S2x4x2048x2048 ![] bcast_S_S2x4x2048x2048 (id (constant S_ .f32 0x00000000#32)))

/-- The values `v` weighted by `w`, the heads side by side. -/
def rCtx (v : FVec Ideal S2x2048x4x64 .f32) (w : FVec Ideal S2x4x2048x2048 .f32) : FVec Ideal S2x2048x256 .f32 :=
  shapeCast _ (transpose S2x2048x4x64 [0, 3, 1, 2] (Host.dotGeneral dot_S2x2048x4x64_S2x4x2048x2048_S2x4x64x2048_1_3_3_2_02_01 none v w) transposes_S2x4x64x2048_S2x2048x4x64_0_3_1_2) shapeCasts_S2x2048x4x64_S2x2048x256

/-- The product with `Wo`. -/
def rOut (c : FVec Ideal S2x2048x256 .f32) : FVec Ideal S2x2048x512 .f32 :=
  Host.dotGeneral dot_S2x2048x256_S256x512_S2x2048x512_2_0_01_1_n_n none c (extf .f32 wo bitsLt_bf16_f32)

/-- The reference's result is the stages composed. -/
theorem res_eq (m : (ℓ : Loc nD τ sig) → Buf (Elt Ideal) ℓ) (c : Dev nD) :
    Value.res_main_v52 (F := Ideal) m c = rOut (m (c.tc.loc main_arg3))
      (rCtx (rV (m (c.tc.loc main_arg2))) (rW (rExp (rSel (m (c.tc.loc main_arg0)) (m (c.tc.loc main_arg1)) (m (c.tc.loc main_arg2)))) rKeep)) := rfl

theorem rQ_apply (b : Fin 2) (i : Fin 2048) (h : Fin 4) (d : Fin 64) :
    rQ x wq (ix4 b i h d) = ∑ e : Fin 512, x (ix3 b i e) * wq (ix2 e ⟨h.val * 64 + d.val, by omega⟩) := by
  pointwise [rQ]

theorem rK_apply (b : Fin 2) (i : Fin 2048) (h : Fin 4) (d : Fin 64) :
    rK kv (ix4 b i h d) = kv (ix3 ⟨b.val * 4 + h.val, by omega⟩ i d) := by
  pointwise [rK]

theorem rV_apply (b : Fin 2) (i : Fin 2048) (h : Fin 4) (d : Fin 64) :
    rV kv (ix4 b i h d) = kv (ix3 ⟨8 + (b.val * 4 + h.val), by omega⟩ i d) := by
  pointwise [rV]

theorem rMask_apply (i j : Fin 2048) : rMask (ix2 i j) = if allowed i j then 1#1 else 0#1 := by
  pointwise [rMask]
  exact mask_word i j

/-- Every column of the mask has a key: the row sees itself. -/
theorem rKeep_apply (k : S1x1x2048x1.Idx) : rKeep k = 1#1 := by
  have hone : ∀ y : BitVec 1, IntOp.ori 1#1 y = 1#1 := by decide
  have key : ∀ (f : Fin 2048 → BitVec 1) (x : Fin 2048), f x = 1#1 → Finset.fold IntOp.ori 0#1 f Finset.univ = 1#1 := fun f x hx => by
    rw [← Finset.insert_erase (Finset.mem_univ x), Finset.fold_insert (Finset.notMem_erase _ _), hx, hone]
  pointwise [rKeep]
  refine key _ (k 2) ((rMask_apply (k 2) (k 2)).trans (if_pos ?_))
  exact Or.inl ⟨Nat.le_add_right _ _, Nat.le_add_right _ _⟩

theorem rSel_apply (b : Fin 2) (h : Fin 4) (i j : Fin 2048) :
    rSel x wq kv (ix4 b h i j) = if allowed i j then (∑ d : Fin 64, rQ x wq (ix4 b i h d) * rK kv (ix4 b j h d)) * Ideal.ofBits .f32 0x3E000000#32 else ⊥ := by
  pointwise [rSel]
  rw [rMask_apply]
  by_cases h : allowed i j
  · rw [if_pos h, if_pos h]; rfl
  · rw [if_neg h, if_neg h]; exact ofBits_bot

theorem rExp_apply (s : FVec Ideal S2x4x2048x2048 .f32) (b : Fin 2) (h : Fin 4) (i j : Fin 2048) :
    rExp s (ix4 b h i j) = Ideal.exp (s (ix4 b h i j) - Finset.univ.sup fun k => s (ix4 b h i k)) := by
  pointwise [rExp]
  rw [fold_max]

theorem rW_apply (e : FVec Ideal S2x4x2048x2048 .f32) (kp : IVec S1x1x2048x1 1) (hk : ∀ i, kp i = 1#1) (b : Fin 2) (h : Fin 4) (i j : Fin 2048) :
    rW e kp (ix4 b h i j) = Ideal.div (e (ix4 b h i j)) (∑ k : Fin 2048, e (ix4 b h i k)) := by
  pointwise [rW, hk]

theorem rCtx_apply (v : FVec Ideal S2x2048x4x64 .f32) (w : FVec Ideal S2x4x2048x2048 .f32) (b : Fin 2) (i : Fin 2048) (t : Fin 256) :
    rCtx v w (ix3 b i t) = ∑ k : Fin 2048, w (ix4 b ⟨t.val / 64, by omega⟩ i k) * v (ix4 b k ⟨t.val / 64, by omega⟩ ⟨t.val % 64, by omega⟩) := by
  pointwise [rCtx]
  exact Finset.sum_congr rfl fun k _ => mul_comm _ _

theorem rOut_apply (c : FVec Ideal S2x2048x256 .f32) (b : Fin 2) (i : Fin 2048) (n : Fin 512) :
    rOut wo c (ix3 b i n) = ∑ t : Fin 256, c (ix3 b i t) * wo (ix2 t n) := by
  pointwise [rOut]

/-- The score of row `i` and key `j` in batch `b` and head `h`. -/
def score (b : Fin 2) (h : Fin 4) (i j : Fin 2048) : EReal :=
  (∑ d : Fin 64, (∑ e : Fin 512, x (ix3 b i e) * wq (ix2 e ⟨h.val * 64 + d.val, by omega⟩)) * kv (ix3 ⟨b.val * 4 + h.val, by omega⟩ j d))
    * Ideal.ofBits .f32 0x3E000000#32

/-- What the reference computes of its arguments. -/
def refOut (x : FVec Ideal S2x2048x512 .bf16) (wq : FVec Ideal S512x256 .bf16) (kv : FVec Ideal S16x2048x64 .bf16) (wo : FVec Ideal S256x512 .bf16) :
    FVec Ideal S2x2048x512 .f32 := rOut wo (rCtx (rV kv) (rW (rExp (rSel x wq kv)) rKeep))

/-- It is each head's weighted sum of the values, times `Wo`. -/
theorem refOut_apply (x : FVec Ideal S2x2048x512 .bf16) (wq : FVec Ideal S512x256 .bf16) (kv : FVec Ideal S16x2048x64 .bf16) (wo : FVec Ideal S256x512 .bf16)
    (b : Fin 2) (i : Fin 2048) (n : Fin 512) :
    refOut x wq kv wo (ix3 b i n)
      = ∑ t : Fin 256, Soft.soft (fun j : Fin 2048 => allowed i j) (score x wq kv b ⟨t.val / 64, by omega⟩ i)
          (fun j => kv (ix3 ⟨8 + (b.val * 4 + t.val / 64), by omega⟩ j ⟨t.val % 64, by omega⟩)) * wo (ix2 t n) := by
  rw [refOut, rOut_apply]
  refine Finset.sum_congr rfl fun t _ => congrArg (· * wo (ix2 t n)) ?_
  rw [rCtx_apply]
  unfold Soft.soft
  refine Finset.sum_congr rfl fun k _ => ?_
  rw [rV_apply, rW_apply _ _ rKeep_apply]
  refine congrArg (· * _) ?_
  have hs : ∀ (h : Fin 4) (j : Fin 2048), rSel x wq kv (ix4 b h i j)
      = if allowed i j then score x wq kv b h i j else ⊥ := fun h j => by
    rw [rSel_apply]; simp only [rQ_apply, rK_apply]; rfl
  simp only [rExp_apply, hs]

end Cert.ReferenceIdeal.Val

end
-- ==== Proof.Result.lean ====
/-
# The kernel's result against the reference's

The devices hold blocks of one whole problem (`Parted`), whose entries that the scores read are real numbers (`Real3`). Then
each device's block of the output is its block of what the reference computes (`Parted.out`).
-/
module

public import proofs.«01_k».proof.Proof.Own
public import proofs.«01_k».proof.Proof.RefTerm

@[expose] public section

noncomputable section

namespace Cert.KernelIdeal.Attn

open Cert.KernelIdeal Cert.KernelIdeal.Gen Idealize.ShloMosaic Idealize.ShloMosaic.TcCoe Cert.Spec Cert.Soft
open Cert.ReferenceIdeal.Val (score refOut refOut_apply)
open Cert.ReferenceIdeal (S2x2048x512 S16x2048x64)

/-! ## Scores are real -/

/-- An extended real that is a real number. -/
def IsReal (a : EReal) : Prop := ∃ r : ℝ, a = r

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

section Whole
variable (x : FVec Ideal S2x2048x512 .bf16) (wq : FVec Ideal S512x256 .bf16) (kv : FVec Ideal S16x2048x64 .bf16) (wo : FVec Ideal S256x512 .bf16)

/-- The whole problem's `x`, `Wq` and keys are real numbers. -/
structure Real3 : Prop where
  x : ∀ b i e, IsReal (x (ix3 b i e))
  wq : ∀ e t, IsReal (wq (ix2 e t))
  k : ∀ (h : Fin 8) j d, IsReal (kv (ix3 (⟨h.val, by omega⟩ : Fin 16) j d))

variable {x wq kv}

theorem real_eighth : IsReal (Ideal.ofBits .f32 0x3E000000#32) := ⟨1 / 8, ofBits_eighth⟩

theorem Real3.score (H : Real3 x wq kv) (b : Fin 2) (h : Fin 4) (i j : Fin 2048) : IsReal (score x wq kv b h i j) :=
  (IsReal.sum fun d => (IsReal.sum fun e => (H.x b i e).mul (H.wq e _)).mul (H.k ⟨b.val * 4 + h.val, by omega⟩ j d)).mul real_eighth

/-- The kernel scales the queries, the reference the scores. -/
theorem score_eq (x : FVec Ideal S2x2048x512 .bf16) (wq : FVec Ideal S512x256 .bf16) (kv : FVec Ideal S16x2048x64 .bf16) (b : Fin 2) (h : Fin 4) (i j : Fin 2048) :
    (∑ u : Fin 64, ((∑ e : Fin 512, x (ix3 b i e) * wq (ix2 e ⟨h.val * 64 + u.val, by omega⟩)) * Ideal.ofBits .f32 0x3E000000#32) * kv (ix3 ⟨b.val * 4 + h.val, by omega⟩ j u))
      = score x wq kv b h i j := by
  unfold score
  rw [ofBits_eighth, sum_mul_coe _ _ (by norm_num)]
  exact Finset.sum_congr rfl fun u _ => mul_right_comm _ _ _

end Whole

section Blocks
variable (m : (ℓ : Loc nD τ sig) → Buf (Elt Ideal) ℓ)
variable (x : FVec Ideal S2x2048x512 .bf16) (wq : FVec Ideal S512x256 .bf16) (kv : FVec Ideal S16x2048x64 .bf16) (wo : FVec Ideal S256x512 .bf16)

/-- The devices' buffers hold the blocks of one whole problem. -/
structure Parted : Prop where
  x : ∀ (c : Fin 8) (b : Fin 2) (r : Fin 256) (e : Fin 512), (xs m c : FVec Ideal S2x256x512 .bf16) (ix3 b r e) = x (ix3 b (⟨256 * c.val + r.val, by omega⟩ : Fin 2048) e)
  wq : ∀ c : Fin 8, (wqs m c : FVec Ideal S512x256 .bf16) = wq
  kv : ∀ (c : Fin 8) (h : Fin 16) (j : Fin 256) (d : Fin 64), (kvs m c : FVec Ideal S16x256x64 .bf16) (ix3 h j d) = kv (ix3 h (⟨256 * c.val + j.val, by omega⟩ : Fin 2048) d)
  wo : ∀ c : Fin 8, (wos m c : FVec Ideal S256x512 .bf16) = wo

variable {m x wq kv wo}

/-! ## A device's own rows -/

theorem Parted.col (P : Parted m x wq kv wo) (c : Fin 8) (h : Fin 16) (j : Fin 544) (d : Fin 64) :
    (kcF m c : FVec Ideal S16x544x64 .bf16) (ix3 h j d) = kv (ix3 h (⟨colKey c j, colKey_lt c j⟩ : Fin 2048) d) := by
  have hc := c.isLt
  have hj := j.isLt
  have at_ : ∀ (s : Fin 8) (n : ℕ) (hn : n < 256), 256 * s.val + n = colKey c j →
      (kvs m s : FVec Ideal S16x256x64 .bf16) (ixK (n := 256) h n d hn) = kv (ix3 h (⟨colKey c j, colKey_lt c j⟩ : Fin 2048) d) := fun s n hn he => by
    have e1 : ixK (n := 256) h n d hn = ix3 h (⟨n, hn⟩ : Fin 256) d := by
      funext a
      match a with
      | ⟨0, _⟩ => rfl
      | ⟨1, _⟩ => rfl
      | ⟨2, _⟩ => rfl
    rw [e1, P.kv]
    exact congrArg (fun q => kv (ix3 h q d)) (Fin.ext he)
  have hk := colKey_cases c j
  show (if h1 : j.val < 256 then kvs m c (ixK (n := 256) h j.val d h1)
    else if h2 : j.val < 384 then kvs m (lp c) (ixK (n := 256) h (j.val - 128) d (by omega))
    else if h3 : j.val < 512 then kvs m (rp c) (ixK (n := 256) h (j.val - 384) d (by omega))
    else kvs m 0 (ixK (n := 256) h (j.val - 512) d (by omega))) = _
  by_cases h1 : j.val < 256
  · rw [dif_pos h1]; exact at_ c _ _ (by omega)
  · by_cases h2 : j.val < 384
    · rw [dif_neg h1, dif_pos h2]
      exact at_ (lp c) _ _ (by show 256 * ((c.val + 7) % 8) + (j.val - 128) = _; omega)
    · by_cases h3 : j.val < 512
      · rw [dif_neg h1, dif_neg h2, dif_pos h3]
        exact at_ (rp c) _ _ (by show 256 * ((c.val + 1) % 8) + (j.val - 384) = _; omega)
      · rw [dif_neg h1, dif_neg h2, dif_neg h3]
        exact at_ 0 _ _ (by show 256 * 0 + (j.val - 512) = _; omega)

theorem Parted.own (P : Parted m x wq kv wo) (H : Real3 x wq kv) (c : Fin 8) (b : Fin 2) (h : Fin 4) (r : Fin 256) (d : Fin 64) (hr : ¬ (c.val = 0 ∧ r.val < 32)) :
    ownSoft c (xs m c) (wqs m c) (kcF m c) b h r d
      = soft (fun j : Fin 2048 => allowed (256 * c.val + r.val) j) (score x wq kv b h ⟨256 * c.val + r.val, by omega⟩)
          (fun j => kv (ix3 (⟨8 + (b.val * 4 + h.val), by omega⟩ : Fin 16) j d)) := by
  refine Eq.trans ?_ (soft_transfer (fun j : Fin 2048 => allowed (256 * c.val + r.val) j) (fun j : Fin 544 => colUse c r j)
    (fun j => ⟨colKey c j, colKey_lt c j⟩) (fun j hj => colUse_allowed c r j hj) (fun j k hj hk e => colUse_inj c r j k hj hk (congrArg Fin.val e))
    (fun j hj => (colUse_surj c r hr j hj).imp fun k hk => ⟨hk.1, Fin.ext hk.2⟩) _ _ (H.score b h _) ⟨256 * c.val + r.val, by omega⟩
    (Or.inl ⟨Nat.le_add_right _ _, Nat.le_add_right _ _⟩))
  unfold ownSoft
  simp only [P.x, P.col, ← score_eq]
  rw [P.wq]

theorem Parted.attn (P : Parted m x wq kv wo) (H : Real3 x wq kv) (c : Fin 8) (b : Fin 2) (r : Fin 256) (n : Fin 512) (hr : ¬ (c.val = 0 ∧ r.val < 32)) :
    attnF m c b (ix3 (0 : Fin 1) r n) = refOut x wq kv wo (ix3 b (⟨256 * c.val + r.val, by omega⟩ : Fin 2048) n) := by
  rw [refOut_apply]
  have e : attnF m c b (ix3 (0 : Fin 1) r n)
      = ∑ t : Fin 256, ownSoft c (xs m c) (wqs m c) (kcF m c) b ⟨t.val / 64, by omega⟩ r ⟨t.val % 64, by omega⟩ * (wos m c : FVec Ideal S256x512 .bf16) (ix2 t n) := by
    unfold attnF
    fin_cases b
    · exact attn0_apply c (xs m c) (wqs m c) (kcF m c) (wos m c) r n
    · exact attn1_apply c (xs m c) (wqs m c) (kcF m c) (wos m c) r n
  rw [e, P.wo]
  exact Finset.sum_congr rfl fun t _ => congrArg (· * wo (ix2 t n)) (P.own H c b _ r _ hr)

/-! ## The first 32 rows -/

theorem Parted.query0 (P : Parted m x wq kv wo) (b : Fin 2) (r : Fin 32) (t : Fin 256) :
    (q0F m 0 : FVec Ideal S2x32x256 .f32) (ix3 b r t)
      = (∑ e : Fin 512, x (ix3 b (⟨r.val, by omega⟩ : Fin 2048) e) * wq (ix2 e t)) * Ideal.ofBits .f32 0x3E000000#32 := by
  have hx : ∀ (b' : ℕ) (hb') (hlt : b' < 2) (e : Fin 512), ldX32 (F := Ideal) (xs m 0) b' hb' (ix3 0 r e)
      = x (ix3 (⟨b', hlt⟩ : Fin 2) (⟨r.val, by omega⟩ : Fin 2048) e) := fun b' hb' hlt e => by
    refine Eq.trans ?_ ((P.x 0 ⟨b', hlt⟩ ⟨r.val, by omega⟩ e).trans (congrArg (fun q => x (ix3 (⟨b', hlt⟩ : Fin 2) q e)) (Fin.ext (by show 256 * 0 + r.val = r.val; omega))))
    refine congrArg (xs m 0) ?_
    funext a
    apply Fin.ext
    match a with
    | ⟨0, _⟩ => show b' + 1 * 0 = b'; omega
    | ⟨1, _⟩ => show 0 + 1 * r.val = r.val; omega
    | ⟨2, _⟩ => show 0 + 1 * e.val = e.val; omega
  have h1 : ∀ X W, k0_pay1 (F := Ideal) X W (ix3 (0 : Fin 1) r t) = (∑ e : Fin 512, X (ix3 0 r e) * W (ix2 e t)) * Ideal.ofBits .f32 0x3E000000#32 := fun X W => by
    pointwise [k0_pay1]
  have h2 : ∀ X W, k0_pay2 (F := Ideal) X W (ix3 (0 : Fin 1) r t) = (∑ e : Fin 512, X (ix3 0 r e) * W (ix2 e t)) * Ideal.ofBits .f32 0x3E000000#32 := fun X W => by
    pointwise [k0_pay2]
  have hi : (fun a => match a with | ⟨0, _⟩ => (0 : Fin 1) | ⟨1, _⟩ => r | ⟨2, _⟩ => t : S1x32x256.Idx) = ix3 (0 : Fin 1) r t := by
    funext a
    match a with
    | ⟨0, _⟩ => rfl
    | ⟨1, _⟩ => rfl
    | ⟨2, _⟩ => rfl
  have hb : b = 0 ∨ b = 1 := by omega
  rcases hb with rfl | rfl
  · refine Eq.trans (b := k0_pay1 (F := Ideal) (ldX32 (F := Ideal) (xs m 0) 0 inb_S2x256x512_S1x32x512_0_0_0) (ldWq (F := Ideal) (wqs m 0)) (ix3 (0 : Fin 1) r t)) ?_ ?_
    · rw [← hi]; rfl
    · rw [h1, P.wq]
      exact congrArg (· * _) (Finset.sum_congr rfl fun e _ => by rw [hx 0 _ (by decide), ldWq_apply]; rfl)
  · refine Eq.trans (b := k0_pay2 (F := Ideal) (ldX32 (F := Ideal) (xs m 0) 1 inb_S2x256x512_S1x32x512_1_0_0) (ldWq (F := Ideal) (wqs m 0)) (ix3 (0 : Fin 1) r t)) ?_ ?_
    · rw [← hi]; rfl
    · rw [h2, P.wq]
      exact congrArg (· * _) (Finset.sum_congr rfl fun e _ => by rw [hx 1 _ (by decide), ldWq_apply]; rfl)

/-- The key that is number `k` of device `d`. -/
def keyOf : Fin 8 × Fin 256 ≃ Fin 2048 := finProdFinEquiv (m := 8) (n := 256)

theorem keyOf_eq (d : Fin 8) (k : Fin 256) : keyOf (d, k) = ⟨256 * d.val + k.val, by omega⟩ := Fin.ext (Nat.add_comm _ _)

theorem Parted.scores (P : Parted m x wq kv wo) (c : Fin 8) (b : Fin 2) (h : Fin 4) (r : Fin 32) :
    (fun k : Fin 256 => hS (q0F m 0) (kvs m c) (⟨b.val * 4 + h.val, by omega⟩ : Fin 8) (ix2 r k)) = fun k => score x wq kv b h ⟨r.val, by omega⟩ (keyOf (c, k)) := by
  funext k
  rw [hS_apply, ← score_eq, keyOf_eq]
  refine Finset.sum_congr rfl fun u _ => ?_
  rw [P.query0, P.kv]
  have e1 : (⟨(b.val * 4 + h.val) / 4, by omega⟩ : Fin 2) = b := Fin.ext (by show (b.val * 4 + h.val) / 4 = b.val; omega)
  have e2 : (⟨(b.val * 4 + h.val) % 4 * 64 + u.val, by omega⟩ : Fin 256) = ⟨h.val * 64 + u.val, by omega⟩ :=
    Fin.ext (by show (b.val * 4 + h.val) % 4 * 64 + u.val = h.val * 64 + u.val; omega)
  refine congrArg (· * _) (congrArg (· * _) (Finset.sum_congr rfl fun e _ => ?_))
  exact congrArg₂ (fun p q => x (ix3 p _ e) * wq (ix2 e q)) e1 e2

theorem Parted.vals (P : Parted m x wq kv wo) (c : Fin 8) (b : Fin 2) (h : Fin 4) (d : Fin 64) :
    (fun k : Fin 256 => hV (kvs m c) (⟨b.val * 4 + h.val, by omega⟩ : Fin 8) (ix3 0 k d)) = fun k => kv (ix3 (⟨8 + (b.val * 4 + h.val), by omega⟩ : Fin 16) (keyOf (c, k)) d) := by
  funext k
  rw [hV_apply, P.kv, keyOf_eq]

/-- A slot of device 0's partial buffer holds what its sender packed. -/
theorem prF_apply (i : Fin 7) (h : Fin 8) (r : Fin 32) (l : Fin 128) :
    (prF m : FVec Ideal S7x8x32x128 .f32) (ix4 i h r l) = pAll (F := Ideal) (q0F m 0) (kvs m (devOf i)) (ix3 h r l) := by
  refine congrArg (pAll (F := Ideal) (q0F m 0) (kvs m (devOf i))) ?_
  funext a
  match a with
  | ⟨0, _⟩ => rfl
  | ⟨1, _⟩ => rfl
  | ⟨2, _⟩ => rfl

theorem Parted.mAt (P : Parted m x wq kv wo) (b : Fin 2) (h : Fin 4) (r : Fin 32) :
    mAt (pM (F := Ideal) (q0F m 0) (kvs m 0)) (prF m) (⟨b.val * 4 + h.val, by omega⟩ : Fin 8) r
      = fun d => pmax fun k => score x wq kv b h ⟨r.val, by omega⟩ (keyOf (d, k)) := by
  funext d
  refine Fin.cases ?_ (fun i => ?_) d
  · refine (pM_apply (q0F m 0) (kvs m 0) _ r 0).trans (congrArg pmax (P.scores 0 b h r))
  · refine (prF_apply i _ r 64).trans ((pAll_max _ _ _ r).trans ((pM_apply _ _ _ r 0).trans (congrArg pmax (P.scores i.succ b h r))))

theorem Parted.lAt (P : Parted m x wq kv wo) (b : Fin 2) (h : Fin 4) (r : Fin 32) :
    lAt (pL (F := Ideal) (q0F m 0) (kvs m 0)) (prF m) (⟨b.val * 4 + h.val, by omega⟩ : Fin 8) r
      = fun d => psum fun k => score x wq kv b h ⟨r.val, by omega⟩ (keyOf (d, k)) := by
  funext d
  refine Fin.cases ?_ (fun i => ?_) d
  · refine (pL_apply (q0F m 0) (kvs m 0) _ r 0).trans (congrArg psum (P.scores 0 b h r))
  · refine (prF_apply i _ r 65).trans ((pAll_sum _ _ _ r).trans ((pL_apply _ _ _ r 0).trans (congrArg psum (P.scores i.succ b h r))))

theorem Parted.oAt (P : Parted m x wq kv wo) (b : Fin 2) (h : Fin 4) (r : Fin 32) (u : Fin 64) :
    oAt (pO (F := Ideal) (q0F m 0) (kvs m 0)) (prF m) (⟨b.val * 4 + h.val, by omega⟩ : Fin 8) r u
      = fun d => pctx (fun k => score x wq kv b h ⟨r.val, by omega⟩ (keyOf (d, k))) fun k => kv (ix3 (⟨8 + (b.val * 4 + h.val), by omega⟩ : Fin 16) (keyOf (d, k)) u) := by
  funext d
  refine Fin.cases ?_ (fun i => ?_) d
  · refine (pO_apply (q0F m 0) (kvs m 0) _ r u).trans (congrArg₂ pctx (P.scores 0 b h r) (P.vals 0 b h u))
  · refine (prF_apply i _ r _).trans ((pAll_ctx _ _ _ r u).trans ((pO_apply _ _ _ r u).trans (congrArg₂ pctx (P.scores i.succ b h r) (P.vals i.succ b h u))))

theorem Parted.ratio (P : Parted m x wq kv wo) (H : Real3 x wq kv) (b : Fin 2) (h : Fin 4) (r : Fin 32) (u : Fin 64) :
    ratio (pO (F := Ideal) (q0F m 0) (kvs m 0)) (pM (F := Ideal) (q0F m 0) (kvs m 0)) (pL (F := Ideal) (q0F m 0) (kvs m 0)) (prF m) (ix3 (⟨b.val * 4 + h.val, by omega⟩ : Fin 8) r u)
      = soft (fun j : Fin 2048 => allowed r.val j) (score x wq kv b h ⟨r.val, by omega⟩)
          (fun j => kv (ix3 (⟨8 + (b.val * 4 + h.val), by omega⟩ : Fin 16) j u)) := by
  rw [ratio_apply, P.mAt, P.lAt, P.oAt]
  exact combine keyOf (fun j : Fin 2048 => allowed r.val j) (fun j => Or.inr (Or.inr r.isLt)) (score x wq kv b h ⟨r.val, by omega⟩)
    (fun j => kv (ix3 (⟨8 + (b.val * 4 + h.val), by omega⟩ : Fin 16) j u)) (H.score b h _) _ rfl

theorem Parted.comb (P : Parted m x wq kv wo) (H : Real3 x wq kv) (b : Fin 2) (r : Fin 32) (n : Fin 512) :
    combF m b (ix3 (0 : Fin 1) r n) = refOut x wq kv wo (ix3 b (⟨r.val, by omega⟩ : Fin 2048) n) := by
  rw [refOut_apply]
  have hb : b = 0 ∨ b = 1 := by omega
  rcases hb with rfl | rfl
  · refine (comb0_apply _ _ _ _ (wos m 0) r n).trans ?_
    rw [P.wo]
    refine Finset.sum_congr rfl fun t _ => congrArg (· * wo (ix2 t n)) ?_
    refine Eq.trans (congrArg (fun q => Attn.ratio _ _ _ _ (ix3 q r _)) (Fin.ext ?_)) (P.ratio H 0 ⟨t.val / 64, by omega⟩ r ⟨t.val % 64, by omega⟩)
    show t.val / 64 = 0 * 4 + t.val / 64
    omega
  · refine (comb1_apply _ _ _ _ (wos m 0) r n).trans ?_
    rw [P.wo]
    refine Finset.sum_congr rfl fun t _ => congrArg (· * wo (ix2 t n)) ?_
    exact P.ratio H 1 ⟨t.val / 64, by omega⟩ r ⟨t.val % 64, by omega⟩

/-- What the call leaves on device `c` is its block of the reference's result. -/
theorem Parted.out (P : Parted m x wq kv wo) (H : Real3 x wq kv) (c : Fin 8) (b : Fin 2) (r : Fin 256) (n : Fin 512) :
    (outF m c : FVec Ideal S2x256x512 .f32) (ix3 b r n) = refOut x wq kv wo (ix3 b (⟨256 * c.val + r.val, by omega⟩ : Fin 2048) n) := by
  have hi : ∀ (N : ℕ) (hN : r.val < N), ixO N r.val hN n = ix3 (0 : Fin 1) (⟨r.val, hN⟩ : Fin N) n := fun N hN => by
    funext a
    match a with
    | ⟨0, _⟩ => rfl
    | ⟨1, _⟩ => rfl
    | ⟨2, _⟩ => rfl
  show (if h : c = 0 ∧ r.val < 32 then combF m b (ixO 32 r.val h.2 n) else attnF m c b (ixO 256 r.val r.isLt n)) = _
  by_cases h : c = 0 ∧ r.val < 32
  · rw [dif_pos h, hi, P.comb H]
    exact congrArg (fun q => refOut x wq kv wo (ix3 b q n)) (Fin.ext (by show r.val = 256 * c.val + r.val; have : c.val = 0 := congrArg Fin.val h.1; omega))
  · rw [dif_neg h, hi]
    exact P.attn H c b r n fun h' => h ⟨Fin.ext h'.1, h'.2⟩

end Blocks

end Cert.KernelIdeal.Attn

end
-- ==== Proof.Algebraic.lean ====
/-
# The kernel against the reference

What the precondition says of each device's blocks (`pre_real`), the devices' blocks of the whole arrays, and the claim
(`algebraic`).
-/
module

public import proofs.«01_k».proof.Defs
public import Idealize.ShloMosaic.Lib.ReduceAll
public import proofs.«01_k».proof.Proof.Final
public import proofs.«01_k».proof.Proof.Result
public import proofs.«01_k».proof.Proof.Gen.Pre_finite_KernelIdeal
public import proofs.«01_k».proof.Proof.Gen.ReferenceIdeal.Run

@[expose] public section

noncomputable section

namespace Cert.KernelIdeal.Attn

open Cert.KernelIdeal Cert.KernelIdeal.Gen Idealize.ShloMosaic Idealize.ShloMosaic.TcCoe Cert.Spec
open Cert.ReferenceIdeal.Val (refOut)
open Cert.ReferenceIdeal (S2x2048x512 S16x2048x64)

/-- A number whose absolute value compares below infinity is real. -/
theorem real_of_word (a : EReal) (h : Ideal.cmp .olt (max a (-a)) (Ideal.ofBits .f32 0x7F800000#32) = 1#1) : IsReal a := by
  rw [show Ideal.ofBits .f32 0x7F800000#32 = ⊤ by simp [Ideal.ofBits, Ideal.ieee]] at h
  induction a with
  | bot => simp [Ideal.cmp] at h
  | top => simp [Ideal.cmp] at h
  | coe r => exact ⟨r, rfl⟩

/-- The precondition of one device: its `x`, its `Wq` and its keys are real numbers. -/
theorem pre_real (x : FVec Ideal S2x256x512 .bf16) (wq : FVec Ideal S512x256 .bf16) (kv : FVec Ideal S16x256x64 .bf16) (wo : FVec Ideal S256x512 .bf16)
    (h : Cert.Pre_finite_KernelIdeal.fn (F := Ideal) x wq kv wo = fun _ => 1#1) :
    (∀ b r e, IsReal (x (ix3 b r e))) ∧ (∀ e t, IsReal (wq (ix2 e t))) ∧ ∀ (g : Fin 8) j d, IsReal (kv (ix3 (⟨g.val, by omega⟩ : Fin 16) j d)) := by
  have h0 := congrFun h ix0
  dsimp only [Cert.Pre_finite_KernelIdeal.fn] at h0
  have hand : ∀ a b : BitVec 1, IntOp.andi a b = 1#1 → a = 1#1 ∧ b = 1#1 := by decide
  obtain ⟨h1, h2⟩ := hand _ _ h0
  obtain ⟨h3, h4⟩ := hand _ _ h1
  haveI : Subsingleton Cert.Pre_finite_KernelIdeal.S_.Idx := ⟨fun a b => funext fun i => i.elim0⟩
  refine ⟨fun b r e => ?_, fun e t => ?_, fun g j d => ?_⟩
  · have := Host.reduce_andi_all _ _ _ _ _ h3 (ix3 b r e)
    exact real_of_word _ this
  · have := Host.reduce_andi_all _ _ _ _ _ h4 (ix2 e t)
    exact real_of_word _ this
  · have := Host.reduce_andi_all _ _ _ _ _ h2 (ix3 g j d)
    have e : extractStridedSlice Cert.Pre_finite_KernelIdeal.S8x256x64 ![0, 0, 0] kv Cert.Pre_finite_KernelIdeal.Facts.slices_S16x256x64_S8x256x64_0_0_0 (ix3 g j d)
        = kv (ix3 (⟨g.val, by omega⟩ : Fin 16) j d) := by
      refine congrArg kv ?_
      funext a
      apply Fin.ext
      match a with
      | ⟨0, _⟩ => show 0 + g.val = g.val; omega
      | ⟨1, _⟩ => show 0 + j.val = j.val; omega
      | ⟨2, _⟩ => show 0 + d.val = d.val; omega
    rw [← e]
    exact real_of_word _ this

/-! ## The windows are whole arrays -/

section Blocks
variable (m : (ℓ : Loc nD τ sig) → Buf (Elt Ideal) ℓ) (c : Dev nD)

theorem xs_eq : xs m c = m ((c : Thread nD τ).loc main_arg0) := by
  funext i
  refine congrArg (m ((c : Thread nD τ).loc main_arg0)) ?_
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem wqs_eq : wqs m c = m ((c : Thread nD τ).loc main_arg1) := by
  funext i
  refine congrArg (m ((c : Thread nD τ).loc main_arg1)) ?_
  funext a
  apply Fin.ext
  match a with
  | ⟨0, _⟩ => show 0 + 1 * (i 0).val = (i 0).val; omega
  | ⟨1, _⟩ => show 0 + 1 * (i 1).val = (i 1).val; omega

theorem kvs_eq : kvs m c = m ((c : Thread nD τ).loc main_arg2) := by
  funext i
  refine congrArg (m ((c : Thread nD τ).loc main_arg2)) ?_
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem wos_eq : wos m c = m ((c : Thread nD τ).loc main_arg3) := by
  funext i
  refine congrArg (m ((c : Thread nD τ).loc main_arg3)) ?_
  funext a
  apply Fin.ext
  match a with
  | ⟨0, _⟩ => show 0 + 1 * (i 0).val = (i 0).val; omega
  | ⟨1, _⟩ => show 0 + 1 * (i 1).val = (i 1).val; omega

end Blocks

/-! ## Blocks of the whole arrays -/

/-- Entry `(b, r, e)` of block `c` of an array `[2, 2048, 512]` cut along its rows. -/
theorem block_x {α : Type} (v : S2x2048x512.Idx → α) (c b : _) (r : Fin 256) (e : Fin 512) :
    Layout.block ⟨3, ![2, 256, 512]⟩ ⟨3, ![2, 2048, 512]⟩ 1 8 c v (by decide) (ix3 (b : Fin 2) r e) = v (ix3 b (⟨256 * c.val + r.val, by omega⟩ : Fin 2048) e) := by
  refine congrArg v ?_
  funext a
  apply Fin.ext
  match a with
  | ⟨0, _⟩ => rfl
  | ⟨1, _⟩ => show c.val * 256 + r.val = 256 * c.val + r.val; omega
  | ⟨2, _⟩ => rfl

/-- Entry `(h, j, d)` of block `c` of an array `[16, 2048, 64]` cut along its rows. -/
theorem block_kv {α : Type} (v : S16x2048x64.Idx → α) (c h : _) (j : Fin 256) (d : Fin 64) :
    Layout.block ⟨3, ![16, 256, 64]⟩ ⟨3, ![16, 2048, 64]⟩ 1 8 c v (by decide) (ix3 (h : Fin 16) j d) = v (ix3 h (⟨256 * c.val + j.val, by omega⟩ : Fin 2048) d) := by
  refine congrArg v ?_
  funext a
  apply Fin.ext
  match a with
  | ⟨0, _⟩ => rfl
  | ⟨1, _⟩ => show c.val * 256 + j.val = 256 * c.val + j.val; omega
  | ⟨2, _⟩ => rfl

/-- A row of the whole is a row of one block. -/
theorem row_of (i : Fin 2048) : ∃ (c : Fin 8) (r : Fin 256), i = ⟨256 * c.val + r.val, by omega⟩ :=
  ⟨⟨i.val / 256, by omega⟩, ⟨i.val % 256, by omega⟩, Fin.ext (by show i.val = 256 * (i.val / 256) + i.val % 256; omega)⟩

section Claim
variable (m : (ℓ : Loc nD τ sig) → Buf (Elt Ideal) ℓ)
  (x : FVec Ideal S2x2048x512 .bf16) (wq : FVec Ideal S512x256 .bf16) (kv : FVec Ideal S16x2048x64 .bf16) (wo : FVec Ideal S256x512 .bf16)

/-- The devices' arguments are their parts of whole arrays. -/
def Blocks : Prop := ∀ c : Dev nD,
  m ((c : Thread nD τ).loc main_arg0) = Layout.block ⟨3, ![2, 256, 512]⟩ ⟨3, ![2, 2048, 512]⟩ 1 8 c x
  ∧ m ((c : Thread nD τ).loc main_arg1) = wq
  ∧ m ((c : Thread nD τ).loc main_arg2) = Layout.block ⟨3, ![16, 256, 64]⟩ ⟨3, ![16, 2048, 64]⟩ 1 8 c kv
  ∧ m ((c : Thread nD τ).loc main_arg3) = wo

variable {m x wq kv wo}

theorem Blocks.parted (B : Blocks m x wq kv wo) : Parted m x wq kv wo where
  x c b r e := (congrFun ((xs_eq m c).trans (B c).1) (ix3 b r e)).trans (block_x x c b r e)
  wq c := (wqs_eq m c).trans (B c).2.1
  kv c h j d := (congrFun ((kvs_eq m c).trans (B c).2.2.1) (ix3 h j d)).trans (block_kv kv c h j d)
  wo c := (wos_eq m c).trans (B c).2.2.2

/-- The precondition, read of every device's blocks, makes the whole `x`, `Wq` and keys real. -/
theorem Blocks.real (B : Blocks m x wq kv wo)
    (H : ∀ c : Dev nD, Cert.Pre_finite_KernelIdeal.fn (F := Ideal) (m ((c : Thread nD τ).loc main_arg0)) (m ((c : Thread nD τ).loc main_arg1))
      (m ((c : Thread nD τ).loc main_arg2)) (m ((c : Thread nD τ).loc main_arg3)) = fun _ => 1#1) : Real3 x wq kv where
  x b i e := by
    obtain ⟨c, r, rfl⟩ := row_of i
    rw [← block_x x c b r e, ← (B c).1]
    exact (pre_real _ _ _ _ (H c)).1 b r e
  wq e t := by
    rw [← (B 0).2.1]
    exact (pre_real _ _ _ _ (H 0)).2.1 e t
  k h j d := by
    obtain ⟨c, r, rfl⟩ := row_of j
    rw [← block_kv kv c _ r d, ← (B c).2.2.1]
    exact (pre_real _ _ _ _ (H c)).2.2 h r d

/-- Each device's result is its block of the reference's. -/
theorem Blocks.out (B : Blocks m x wq kv wo) (R : Real3 x wq kv) (c : Dev nD) :
    outF m c = Layout.block ⟨3, ![2, 256, 512]⟩ ⟨3, ![2, 2048, 512]⟩ 1 8 c (refOut x wq kv wo) := by
  funext i
  obtain ⟨b, r, n, rfl⟩ : ∃ (b : Fin 2) (r : Fin 256) (n : Fin 512), i = ix3 b r n := ⟨i 0, i 1, i 2, eq_ix3 i⟩
  exact (B.parted.out R c b r n).trans (block_x _ c b r n).symm

end Claim

end Cert.KernelIdeal.Attn

namespace Cert.Frames

open Idealize.ShloMosaic Idealize.SL.Sem

/-- The idealized kernel computes the idealized reference's result, each device its block of rows. -/
theorem algebraic : Cert.algebraic_KernelIdeal_ReferenceIdeal_pre_finite_KernelIdeal := by
  intro m g m' g' hpre hB
  have B : Cert.KernelIdeal.Attn.Blocks m (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)) := hB
  refine ⟨Cert.ReferenceIdeal.Value.res_main_v52 (F := Ideal) m' 0, ?_, ?_⟩
  · refine (θ_run _ _ _).mono (fun r h c => ?_) (Cert.KernelIdeal.Attn.run_blocks (F := Ideal) m g)
    refine ⟨(h.1 c).1.trans ((B.out (B.real hpre) c).trans ?_), (h.1 c).2⟩
    exact congrArg (Layout.block _ _ 1 8 c) (Cert.ReferenceIdeal.Val.res_eq m' 0).symm
  · exact (θ_run _ _ _).mono (fun r h => h 0) (Cert.ReferenceIdeal.Value.run (F := Ideal) m' g')

end Cert.Frames

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every execution of the kernel, on any bits, ends with its arguments unchanged and every counter zero. -/
theorem frame_kernel : Cert.quiescent_Kernel := fun m g _ => Cert.Frames.kernel_run m g

/-- Every execution of the idealized kernel ends with its arguments unchanged and every counter zero. -/
theorem frame_kernelIdeal : Cert.quiescent_KernelIdeal := fun m g _ =>
  (θ_run _ _ _).mono (fun _ h => ⟨fun c => (h.1 c).2, h.2⟩) (Cert.KernelIdeal.Attn.run_blocks (F := Ideal) m g)

/-- The same, of arguments that meet the precondition. -/
theorem frame_kernelIdeal_pre : Cert.quiescent_KernelIdeal_pre_finite_KernelIdeal := fun m g _ =>
  frame_kernelIdeal m g trivial

/-- Every execution of the idealized reference ends with its arguments unchanged. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The same, of arguments that meet the precondition. -/
theorem frame_referenceIdeal_pre : Cert.quiescent_ReferenceIdeal_pre_finite_ReferenceIdeal := fun m g _ =>
  frame_referenceIdeal m g trivial

/-- The mask's literal is the one constant that the idealization names. -/
theorem preserves : Cert.preserves_Kernel_KernelIdeal :=
  IdealRules.named_const.statement Cert.KernelIdeal.κ "mask" .f32 0xCE6E6B28#32 ⊥ rfl

/-- All the claims. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_pre, frame_referenceIdeal, frame_referenceIdeal_pre, preserves, Cert.Frames.algebraic⟩

end Cert.Proof

end
